-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x20000x4 : Shape := ⟨3, ![4, 20000, 4]⟩
abbrev S4x20000x8 : Shape := ⟨3, ![4, 20000, 8]⟩
abbrev S_ : Shape := ⟨0, ![]⟩
abbrev S4x20000 : Shape := ⟨2, ![4, 20000]⟩
abbrev S4x1024 : Shape := ⟨2, ![4, 1024]⟩
abbrev S4x1024x1 : Shape := ⟨3, ![4, 1024, 1]⟩
abbrev S1 : Shape := ⟨1, ![1]⟩
abbrev S1x1x1 : Shape := ⟨3, ![1, 1, 1]⟩
abbrev S4x1024x4 : Shape := ⟨3, ![4, 1024, 4]⟩
abbrev S4x1024x2 : Shape := ⟨3, ![4, 1024, 2]⟩
abbrev S4x1024x8 : Shape := ⟨3, ![4, 1024, 8]⟩
abbrev S4x8x1024 : Shape := ⟨3, ![4, 8, 1024]⟩
abbrev S4x1x1024 : Shape := ⟨3, ![4, 1, 1024]⟩
abbrev S4x256x8 : Shape := ⟨3, ![4, 256, 8]⟩
abbrev S4x1x1 : Shape := ⟨3, ![4, 1, 1]⟩
abbrev S1x8x1024 : Shape := ⟨3, ![1, 8, 1024]⟩
abbrev S1x1024x8 : Shape := ⟨3, ![1, 1024, 8]⟩
abbrev S1x1x1024 : Shape := ⟨3, ![1, 1, 1024]⟩
abbrev S1x256x8 : Shape := ⟨3, ![1, 256, 8]⟩
abbrev S1x1024 : Shape := ⟨2, ![1, 1024]⟩
abbrev S8x1 : Shape := ⟨2, ![8, 1]⟩
abbrev S1x8x8 : Shape := ⟨3, ![1, 8, 8]⟩
abbrev S8x8 : Shape := ⟨2, ![8, 8]⟩
abbrev S8x1024 : Shape := ⟨2, ![8, 1024]⟩
abbrev S8 : Shape := ⟨1, ![8]⟩
abbrev S1x8 : Shape := ⟨2, ![1, 8]⟩
abbrev S1x8x1 : Shape := ⟨3, ![1, 8, 1]⟩
abbrev S1x1 : Shape := ⟨2, ![1, 1]⟩
abbrev S1x1x8 : Shape := ⟨3, ![1, 1, 8]⟩
abbrev S4x256x6 : Shape := ⟨3, ![4, 256, 6]⟩
abbrev S4 : Shape := ⟨1, ![4]⟩

abbrev nBuf : Space → Nat
  | .hbm => 68
  | .vmem => 6
  | .smem => 4
  | _ => 0

abbrev bufTy : (tb : Table) → Fin (tcTables nBuf tb) → BufTy
  | .hbm, ⟨0, _⟩ => ⟨S4x20000x4, .f32⟩
  | .hbm, ⟨1, _⟩ => ⟨S4x20000x8, .f32⟩
  | .hbm, ⟨2, _⟩ => ⟨S_, .f32⟩
  | .hbm, ⟨3, _⟩ => ⟨S4x20000, .f32⟩
  | .hbm, ⟨4, _⟩ => ⟨S4x20000x8, .i32⟩
  | .hbm, ⟨5, _⟩ => ⟨S_, .f32⟩
  | .hbm, ⟨6, _⟩ => ⟨S_, .i32⟩
  | .hbm, ⟨7, _⟩ => ⟨S4x20000, .f32⟩
  | .hbm, ⟨8, _⟩ => ⟨S4x20000, .i32⟩
  | .hbm, ⟨9, _⟩ => ⟨S4x20000, .f32⟩
  | .hbm, ⟨10, _⟩ => ⟨S4x1024, .f32⟩
  | .hbm, ⟨11, _⟩ => ⟨S4x1024, .i32⟩
  | .hbm, ⟨12, _⟩ => ⟨S4x1024x1, .i32⟩
  | .hbm, ⟨13, _⟩ => ⟨S_, .i32⟩
  | .hbm, ⟨14, _⟩ => ⟨S4x1024x1, .i32⟩
  | .hbm, ⟨15, _⟩ => ⟨S4x1024x1, .i1⟩
  | .hbm, ⟨16, _⟩ => ⟨S_, .i32⟩
  | .hbm, ⟨17, _⟩ => ⟨S4x1024x1, .i32⟩
  | .hbm, ⟨18, _⟩ => ⟨S4x1024x1, .i32⟩
  | .hbm, ⟨19, _⟩ => ⟨S4x1024x1, .i32⟩
  | .hbm, ⟨20, _⟩ => ⟨S1, .i32⟩
  | .hbm, ⟨21, _⟩ => ⟨S_, .i32⟩
  | .hbm, ⟨22, _⟩ => ⟨S4x1024x1, .i32⟩
  | .hbm, ⟨23, _⟩ => ⟨S4x1024x1, .i1⟩
  | .hbm, ⟨24, _⟩ => ⟨S1x1x1, .i32⟩
  | .hbm, ⟨25, _⟩ => ⟨S4x1024x1, .i32⟩
  | .hbm, ⟨26, _⟩ => ⟨S4x1024x1, .i1⟩
  | .hbm, ⟨27, _⟩ => ⟨S4x1024x1, .i1⟩
  | .hbm, ⟨28, _⟩ => ⟨S_, .i1⟩
  | .hbm, ⟨29, _⟩ => ⟨S4x1024, .i1⟩
  | .hbm, ⟨30, _⟩ => ⟨S4x1024x4, .f32⟩
  | .hbm, ⟨31, _⟩ => ⟨S4x1024x4, .i1⟩
  | .hbm, ⟨32, _⟩ => ⟨S_, .f32⟩
  | .hbm, ⟨33, _⟩ => ⟨S4x1024x4, .f32⟩
  | .hbm, ⟨34, _⟩ => ⟨S4x1024x4, .f32⟩
  | .hbm, ⟨35, _⟩ => ⟨S_, .i32⟩
  | .hbm, ⟨36, _⟩ => ⟨S4x1024, .i32⟩
  | .hbm, ⟨37, _⟩ => ⟨S4x1024, .i1⟩
  | .hbm, ⟨38, _⟩ => ⟨S_, .i32⟩
  | .hbm, ⟨39, _⟩ => ⟨S4x1024, .i32⟩
  | .hbm, ⟨40, _⟩ => ⟨S4x1024, .i32⟩
  | .hbm, ⟨41, _⟩ => ⟨S4x1024, .i32⟩
  | .hbm, ⟨42, _⟩ => ⟨S4x1024x1, .i32⟩
  | .hbm, ⟨43, _⟩ => ⟨S1, .i32⟩
  | .hbm, ⟨44, _⟩ => ⟨S_, .i32⟩
  | .hbm, ⟨45, _⟩ => ⟨S4x1024x1, .i32⟩
  | .hbm, ⟨46, _⟩ => ⟨S4x1024x1, .i1⟩
  | .hbm, ⟨47, _⟩ => ⟨S1x1x1, .i32⟩
  | .hbm, ⟨48, _⟩ => ⟨S4x1024x1, .i32⟩
  | .hbm, ⟨49, _⟩ => ⟨S4x1024x1, .i1⟩
  | .hbm, ⟨50, _⟩ => ⟨S4x1024x1, .i1⟩
  | .hbm, ⟨51, _⟩ => ⟨S_, .i1⟩
  | .hbm, ⟨52, _⟩ => ⟨S4x1024, .i1⟩
  | .hbm, ⟨53, _⟩ => ⟨S4x1024, .f32⟩
  | .hbm, ⟨54, _⟩ => ⟨S_, .f32⟩
  | .hbm, ⟨55, _⟩ => ⟨S4x1024, .f32⟩
  | .hbm, ⟨56, _⟩ => ⟨S4x1024, .f32⟩
  | .hbm, ⟨57, _⟩ => ⟨S_, .f32⟩
  | .hbm, ⟨58, _⟩ => ⟨S4x1024x2, .f32⟩
  | .hbm, ⟨59, _⟩ => ⟨S4x1024x1, .f32⟩
  | .hbm, ⟨60, _⟩ => ⟨S4x1024x1, .f32⟩
  | .hbm, ⟨61, _⟩ => ⟨S4x1024x8, .f32⟩
  | .hbm, ⟨62, _⟩ => ⟨S4x8x1024, .f32⟩
  | .hbm, ⟨63, _⟩ => ⟨S4x1x1024, .f32⟩
  | .hbm, ⟨64, _⟩ => ⟨S4x256x8, .f32⟩
  | .hbm, ⟨65, _⟩ => ⟨S4x1x1, .i32⟩
  | .hbm, ⟨66, _⟩ => ⟨S4x256x6, .f32⟩
  | .hbm, ⟨67, _⟩ => ⟨S4, .i32⟩
  | .local _ .vmem, ⟨0, _⟩ => ⟨S1x8x1024, .f32⟩
  | .local _ .vmem, ⟨1, _⟩ => ⟨S1x8x1024, .f32⟩
  | .local _ .vmem, ⟨2, _⟩ => ⟨S1x1024x8, .f32⟩
  | .local _ .vmem, ⟨3, _⟩ => ⟨S1x1024x8, .f32⟩
  | .local _ .vmem, ⟨4, _⟩ => ⟨S1x256x8, .f32⟩
  | .local _ .vmem, ⟨5, _⟩ => ⟨S1x256x8, .f32⟩
  | .local _ .smem, ⟨0, _⟩ => ⟨S1x1x1024, .f32⟩
  | .local _ .smem, ⟨1, _⟩ => ⟨S1x1x1024, .f32⟩
  | .local _ .smem, ⟨2, _⟩ => ⟨S1x1x1, .i32⟩
  | .local _ .smem, ⟨3, _⟩ => ⟨S1x1x1, .i32⟩
  | _, _ => ⟨S4x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v1 : Ref sig .tc := ⟨.hbm, 8, rfl⟩
abbrev main_v2 : Ref sig .tc := ⟨.hbm, 9, rfl⟩
abbrev main_values : Ref sig .tc := ⟨.hbm, 10, rfl⟩
abbrev main_indices : Ref sig .tc := ⟨.hbm, 11, rfl⟩
abbrev main_v3 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_c_1 : Ref sig .tc := ⟨.hbm, 20, rfl⟩
abbrev main_call1_c_2 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_c_3 : Ref sig .tc := ⟨.hbm, 28, rfl⟩
abbrev main_call1_v11 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v4 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v5 : Ref sig .tc := ⟨.hbm, 56, rfl⟩
abbrev main_cst_0 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12_0 : Ref sig .tc := ⟨.hbm, 64, rfl⟩
abbrev main_v12_1 : Ref sig .tc := ⟨.hbm, 65, rfl⟩
abbrev main_v13 : Ref sig .tc := ⟨.hbm, 66, rfl⟩
abbrev main_v14 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg2_0 : Ref sig .tc := ⟨.smem, 0, rfl⟩
abbrev cc0_stg2_1 : Ref sig .tc := ⟨.smem, 1, rfl⟩
abbrev cc0_stg4_0 : Ref sig .tc := ⟨.smem, 2, rfl⟩
abbrev cc0_stg4_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def k0_off1 (arg6 : BitVec 32) : Fin 3 → Nat :=
  let c0_18 : Index := 0#32
  let c8_i32 : BitVec 32 := 8#32
  let v23 : BitVec 32 := Scalar.muli arg6 c8_i32
  let v24 : Index := Scalar.indexCast v23
  let c0_19 : Index := 0#32
  ![0, v24.toNat, 0]

def k0_off2 (arg6 : BitVec 32) : Fin 3 → Nat :=
  let c0_36 : Index := 0#32
  let c0_37 : Index := 0#32
  let c8_i32 : BitVec 32 := 8#32
  let v23 : BitVec 32 := Scalar.muli arg6 c8_i32
  let c0_i32_35 : BitVec 32 := 0#32
  let v120 : BitVec 32 := Scalar.addi v23 c0_i32_35
  let v121 : Index := Scalar.indexCast v120
  ![0, 0, v121.toNat]
def k0_off3 (arg6 : BitVec 32) : Fin 3 → Nat :=
  let c0_131 : Index := 0#32
  let c8_i32 : BitVec 32 := 8#32
  let v23 : BitVec 32 := Scalar.muli arg6 c8_i32
  let c0_i32_130 : BitVec 32 := 0#32
  let v390 : BitVec 32 := Scalar.addi v23 c0_i32_130
  let v391 : Index := Scalar.indexCast v390
  let c0_132 : Index := 0#32
  ![0, v391.toNat, 0]
def k0_cond1 (arg8 : BitVec 32) (v117 : BitVec 1) (v118 : BitVec 1) (v123 : BitVec 1) : BitVec 1 :=
  let v119 : BitVec 1 := Scalar.andi v117 v118
  let v124 : BitVec 1 := Scalar.andi v119 v123
  let c256_i32_43 : BitVec 32 := 256#32
  let v138 : BitVec 1 := Scalar.cmpi .slt arg8 c256_i32_43
  let v139 : BitVec 1 := Scalar.andi v124 v138
  let v140 : BitVec 32 := Scalar.extui v139
  let c0_i32_44 : BitVec 32 := 0#32
  let v141 : BitVec 1 := Scalar.cmpi .ne v140 c0_i32_44
  v141

def k0_off4 (arg8 : BitVec 32) : Fin 3 → Nat :=
  let c0_133 : Index := 0#32
  let v394 : Index := Scalar.indexCast arg8
  let c0_134 : Index := 0#32
  ![0, v394.toNat, 0]

def k0_chk2 (arg6 : BitVec 32) (arg8 : BitVec 32) (v117 : BitVec 1) (v118 : BitVec 1) (v123 : BitVec 1) : Prop :=
  (∀ (k0_h1 : k0_cond1 arg8 v117 v118 v123 = 1#1), ∀ a, (k0_off3 arg6) a + S1x1x8.size a ≤ S1x1024x8.size a) ∧
  (∀ (k0_h1 : k0_cond1 arg8 v117 v118 v123 = 1#1), ∀ a, (k0_off4 arg8) a + S1x1x8.size a ≤ S1x256x8.size a)
theorem k0_off3_inb : ∀ (arg6 : BitVec 32) (arg8 : BitVec 32) (v117 : BitVec 1) (v118 : BitVec 1) (v123 : BitVec 1) (k0_hw2 : k0_chk2 arg6 arg8 v117 v118 v123), ∀ (k0_h1 : k0_cond1 arg8 v117 v118 v123 = 1#1), ∀ a, (k0_off3 arg6) a + S1x1x8.size a ≤ S1x1024x8.size a := fun arg6 arg8 v117 v118 v123 k0_hw2 k0_h1 => k0_hw2.1 k0_h1
theorem k0_off4_inb : ∀ (arg6 : BitVec 32) (arg8 : BitVec 32) (v117 : BitVec 1) (v118 : BitVec 1) (v123 : BitVec 1) (k0_hw2 : k0_chk2 arg6 arg8 v117 v118 v123), ∀ (k0_h1 : k0_cond1 arg8 v117 v118 v123 = 1#1), ∀ a, (k0_off4 arg8) a + S1x1x8.size a ≤ S1x256x8.size a := fun arg6 arg8 v117 v118 v123 k0_hw2 k0_h1 => k0_hw2.2 k0_h1

def k0_off5 (arg6 : BitVec 32) : Fin 3 → Nat :=
  let c0_48 : Index := 0#32
  let c0_49 : Index := 0#32
  let c8_i32 : BitVec 32 := 8#32
  let v23 : BitVec 32 := Scalar.muli arg6 c8_i32
  let c1_i32 : BitVec 32 := 1#32
  let v155 : BitVec 32 := Scalar.addi v23 c1_i32
  let v156 : Index := Scalar.indexCast v155
  ![0, 0, v156.toNat]
def k0_off6 (arg6 : BitVec 32) : Fin 3 → Nat :=
  let c0_131 : Index := 0#32
  let c8_i32 : BitVec 32 := 8#32
  let v23 : BitVec 32 := Scalar.muli arg6 c8_i32
  let c1_i32_130 : BitVec 32 := 1#32
  let v390 : BitVec 32 := Scalar.addi v23 c1_i32_130
  let v391 : Index := Scalar.indexCast v390
  let c0_132 : Index := 0#32
  ![0, v391.toNat, 0]
def k0_cond2 (arg8 : BitVec 32) (v117 : BitVec 1) (v118 : BitVec 1) (v123 : BitVec 1) (v152 : BitVec 1) (v153 : BitVec 1) (v158 : BitVec 1) : BitVec 1 :=
  let v154 : BitVec 1 := Scalar.andi v152 v153
  let v159 : BitVec 1 := Scalar.andi v154 v158
  let v119 : BitVec 1 := Scalar.andi v117 v118
  let v124 : BitVec 1 := Scalar.andi v119 v123
  let v142 : BitVec 32 := Scalar.extui v124
  let v143 : BitVec 32 := Scalar.addi arg8 v142
  let c256_i32_55 : BitVec 32 := 256#32
  let v173 : BitVec 1 := Scalar.cmpi .slt v143 c256_i32_55
  let v174 : BitVec 1 := Scalar.andi v159 v173
  let v175 : BitVec 32 := Scalar.extui v174
  let c0_i32_56 : BitVec 32 := 0#32
  let v176 : BitVec 1 := Scalar.cmpi .ne v175 c0_i32_56
  v176

def k0_off7 (arg8 : BitVec 32) (v117 : BitVec 1) (v118 : BitVec 1) (v123 : BitVec 1) : Fin 3 → Nat :=
  let c0_133 : Index := 0#32
  let v119 : BitVec 1 := Scalar.andi v117 v118
  let v124 : BitVec 1 := Scalar.andi v119 v123
  let v142 : BitVec 32 := Scalar.extui v124
  let v143 : BitVec 32 := Scalar.addi arg8 v142
  let v394 : Index := Scalar.indexCast v143
  let c0_134 : Index := 0#32
  ![0, v394.toNat, 0]

def k0_chk3 (arg6 : BitVec 32) (arg8 : BitVec 32) (v117 : BitVec 1) (v118 : BitVec 1) (v123 : BitVec 1) (v152 : BitVec 1) (v153 : BitVec 1) (v158 : BitVec 1) : Prop :=
  (∀ (k0_h2 : k0_cond2 arg8 v117 v118 v123 v152 v153 v158 = 1#1), ∀ a, (k0_off6 arg6) a + S1x1x8.size a ≤ S1x1024x8.size a) ∧
  (∀ (k0_h2 : k0_cond2 arg8 v117 v118 v123 v152 v153 v158 = 1#1), ∀ a, (k0_off7 arg8 v117 v118 v123) a + S1x1x8.size a ≤ S1x256x8.size a)
theorem k0_off6_inb : ∀ (arg6 : BitVec 32) (arg8 : BitVec 32) (v117 : BitVec 1) (v118 : BitVec 1) (v123 : BitVec 1) (v152 : BitVec 1) (v153 : BitVec 1) (v158 : BitVec 1) (k0_hw3 : k0_chk3 arg6 arg8 v117 v118 v123 v152 v153 v158), ∀ (k0_h2 : k0_cond2 arg8 v117 v118 v123 v152 v153 v158 = 1#1), ∀ a, (k0_off6 arg6) a + S1x1x8.size a ≤ S1x1024x8.size a := fun arg6 arg8 v117 v118 v123 v152 v153 v158 k0_hw3 k0_h2 => k0_hw3.1 k0_h2
theorem k0_off7_inb : ∀ (arg6 : BitVec 32) (arg8 : BitVec 32) (v117 : BitVec 1) (v118 : BitVec 1) (v123 : BitVec 1) (v152 : BitVec 1) (v153 : BitVec 1) (v158 : BitVec 1) (k0_hw3 : k0_chk3 arg6 arg8 v117 v118 v123 v152 v153 v158), ∀ (k0_h2 : k0_cond2 arg8 v117 v118 v123 v152 v153 v158 = 1#1), ∀ a, (k0_off7 arg8 v117 v118 v123) a + S1x1x8.size a ≤ S1x256x8.size a := fun arg6 arg8 v117 v118 v123 v152 v153 v158 k0_hw3 k0_h2 => k0_hw3.2 k0_h2

def k0_off8 (arg6 : BitVec 32) : Fin 3 → Nat :=
  let c0_60 : Index := 0#32
  let c0_61 : Index := 0#32
  let c8_i32 : BitVec 32 := 8#32
  let v23 : BitVec 32 := Scalar.muli arg6 c8_i32
  let c2_i32 : BitVec 32 := 2#32
  let v190 : BitVec 32 := Scalar.addi v23 c2_i32
  let v191 : Index := Scalar.indexCast v190
  ![0, 0, v191.toNat]
def k0_off9 (arg6 : BitVec 32) : Fin 3 → Nat :=
  let c0_131 : Index := 0#32
  let c8_i32 : BitVec 32 := 8#32
  let v23 : BitVec 32 := Scalar.muli arg6 c8_i32
  let c2_i32_130 : BitVec 32 := 2#32
  let v390 : BitVec 32 := Scalar.addi v23 c2_i32_130
  let v391 : Index := Scalar.indexCast v390
  let c0_132 : Index := 0#32
  ![0, v391.toNat, 0]
def k0_cond3 (arg8 : BitVec 32) (v117 : BitVec 1) (v118 : BitVec 1) (v123 : BitVec 1) (v152 : BitVec 1) (v153 : BitVec 1) (v158 : BitVec 1) (v187 : BitVec 1) (v188 : BitVec 1) (v193 : BitVec 1) : BitVec 1 :=
  let v189 : BitVec 1 := Scalar.andi v187 v188
  let v194 : BitVec 1 := Scalar.andi v189 v193
  let v119 : BitVec 1 := Scalar.andi v117 v118
  let v124 : BitVec 1 := Scalar.andi v119 v123
  let v142 : BitVec 32 := Scalar.extui v124
  let v143 : BitVec 32 := Scalar.addi arg8 v142
  let v154 : BitVec 1 := Scalar.andi v152 v153
  let v159 : BitVec 1 := Scalar.andi v154 v158
  let v177 : BitVec 32 := Scalar.extui v159
  let v178 : BitVec 32 := Scalar.addi v143 v177
  let c256_i32_67 : BitVec 32 := 256#32
  let v208 : BitVec 1 := Scalar.cmpi .slt v178 c256_i32_67
  let v209 : BitVec 1 := Scalar.andi v194 v208
  let v210 : BitVec 32 := Scalar.extui v209
  let c0_i32_68 : BitVec 32 := 0#32
  let v211 : BitVec 1 := Scalar.cmpi .ne v210 c0_i32_68
  v211

def k0_off10 (arg8 : BitVec 32) (v117 : BitVec 1) (v118 : BitVec 1) (v123 : BitVec 1) (v152 : BitVec 1) (v153 : BitVec 1) (v158 : BitVec 1) : Fin 3 → Nat :=
  let c0_133 : Index := 0#32
  let v119 : BitVec 1 := Scalar.andi v117 v118
  let v124 : BitVec 1 := Scalar.andi v119 v123
  let v142 : BitVec 32 := Scalar.extui v124
  let v143 : BitVec 32 := Scalar.addi arg8 v142
  let v154 : BitVec 1 := Scalar.andi v152 v153
  let v159 : BitVec 1 := Scalar.andi v154 v158
  let v177 : BitVec 32 := Scalar.extui v159
  let v178 : BitVec 32 := Scalar.addi v143 v177
  let v394 : Index := Scalar.indexCast v178
  let c0_134 : Index := 0#32
  ![0, v394.toNat, 0]

def k0_chk4 (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) : Prop :=
  (∀ (k0_h3 : k0_cond3 arg8 v117 v118 v123 v152 v153 v158 v187 v188 v193 = 1#1), ∀ a, (k0_off9 arg6) a + S1x1x8.size a ≤ S1x1024x8.size a) ∧
  (∀ (k0_h3 : k0_cond3 arg8 v117 v118 v123 v152 v153 v158 v187 v188 v193 = 1#1), ∀ a, (k0_off10 arg8 v117 v118 v123 v152 v153 v158) a + S1x1x8.size a ≤ S1x256x8.size a)
theorem k0_off9_inb : ∀ (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (k0_hw4 : k0_chk4 arg6 arg8 v117 v118 v123 v152 v153 v158 v187 v188 v193), ∀ (k0_h3 : k0_cond3 arg8 v117 v118 v123 v152 v153 v158 v187 v188 v193 = 1#1), ∀ a, (k0_off9 arg6) a + S1x1x8.size a ≤ S1x1024x8.size a := fun arg6 arg8 v117 v118 v123 v152 v153 v158 v187 v188 v193 k0_hw4 k0_h3 => k0_hw4.1 k0_h3
theorem k0_off10_inb : ∀ (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (k0_hw4 : k0_chk4 arg6 arg8 v117 v118 v123 v152 v153 v158 v187 v188 v193), ∀ (k0_h3 : k0_cond3 arg8 v117 v118 v123 v152 v153 v158 v187 v188 v193 = 1#1), ∀ a, (k0_off10 arg8 v117 v118 v123 v152 v153 v158) a + S1x1x8.size a ≤ S1x256x8.size a := fun arg6 arg8 v117 v118 v123 v152 v153 v158 v187 v188 v193 k0_hw4 k0_h3 => k0_hw4.2 k0_h3

def k0_off11 (arg6 : BitVec 32) : Fin 3 → Nat :=
  let c0_72 : Index := 0#32
  let c0_73 : Index := 0#32
  let c8_i32 : BitVec 32 := 8#32
  let v23 : BitVec 32 := Scalar.muli arg6 c8_i32
  let c3_i32 : BitVec 32 := 3#32
  let v225 : BitVec 32 := Scalar.addi v23 c3_i32
  let v226 : Index := Scalar.indexCast v225
  ![0, 0, v226.toNat]
def k0_off12 (arg6 : BitVec 32) : Fin 3 → Nat :=
  let c0_131 : Index := 0#32
  let c8_i32 : BitVec 32 := 8#32
  let v23 : BitVec 32 := Scalar.muli arg6 c8_i32
  let c3_i32_130 : BitVec 32 := 3#32
  let v390 : BitVec 32 := Scalar.addi v23 c3_i32_130
  let v391 : Index := Scalar.indexCast v390
  let c0_132 : Index := 0#32
  ![0, v391.toNat, 0]
def k0_cond4 (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) : BitVec 1 :=
  let v224 : BitVec 1 := Scalar.andi v222 v223
  let v229 : BitVec 1 := Scalar.andi v224 v228
  let v119 : BitVec 1 := Scalar.andi v117 v118
  let v124 : BitVec 1 := Scalar.andi v119 v123
  let v142 : BitVec 32 := Scalar.extui v124
  let v143 : BitVec 32 := Scalar.addi arg8 v142
  let v154 : BitVec 1 := Scalar.andi v152 v153
  let v159 : BitVec 1 := Scalar.andi v154 v158
  let v177 : BitVec 32 := Scalar.extui v159
  let v178 : BitVec 32 := Scalar.addi v143 v177
  let v189 : BitVec 1 := Scalar.andi v187 v188
  let v194 : BitVec 1 := Scalar.andi v189 v193
  let v212 : BitVec 32 := Scalar.extui v194
  let v213 : BitVec 32 := Scalar.addi v178 v212
  let c256_i32_79 : BitVec 32 := 256#32
  let v243 : BitVec 1 := Scalar.cmpi .slt v213 c256_i32_79
  let v244 : BitVec 1 := Scalar.andi v229 v243
  let v245 : BitVec 32 := Scalar.extui v244
  let c0_i32_80 : BitVec 32 := 0#32
  let v246 : BitVec 1 := Scalar.cmpi .ne v245 c0_i32_80
  v246

def k0_off13 (arg8 : BitVec 32) (v117 : BitVec 1) (v118 : BitVec 1) (v123 : BitVec 1) (v152 : BitVec 1) (v153 : BitVec 1) (v158 : BitVec 1) (v187 : BitVec 1) (v188 : BitVec 1) (v193 : BitVec 1) : Fin 3 → Nat :=
  let c0_133 : Index := 0#32
  let v119 : BitVec 1 := Scalar.andi v117 v118
  let v124 : BitVec 1 := Scalar.andi v119 v123
  let v142 : BitVec 32 := Scalar.extui v124
  let v143 : BitVec 32 := Scalar.addi arg8 v142
  let v154 : BitVec 1 := Scalar.andi v152 v153
  let v159 : BitVec 1 := Scalar.andi v154 v158
  let v177 : BitVec 32 := Scalar.extui v159
  let v178 : BitVec 32 := Scalar.addi v143 v177
  let v189 : BitVec 1 := Scalar.andi v187 v188
  let v194 : BitVec 1 := Scalar.andi v189 v193
  let v212 : BitVec 32 := Scalar.extui v194
  let v213 : BitVec 32 := Scalar.addi v178 v212
  let v394 : Index := Scalar.indexCast v213
  let c0_134 : Index := 0#32
  ![0, v394.toNat, 0]

def k0_chk5 (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) : Prop :=
  (∀ (k0_h4 : k0_cond4 arg8 v117 v118 v123 v152 v153 v158 v187 v188 v193 v222 v223 v228 = 1#1), ∀ a, (k0_off12 arg6) a + S1x1x8.size a ≤ S1x1024x8.size a) ∧
  (∀ (k0_h4 : k0_cond4 arg8 v117 v118 v123 v152 v153 v158 v187 v188 v193 v222 v223 v228 = 1#1), ∀ a, (k0_off13 arg8 v117 v118 v123 v152 v153 v158 v187 v188 v193) a + S1x1x8.size a ≤ S1x256x8.size a)
theorem k0_off12_inb : ∀ (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (k0_hw5 : k0_chk5 arg6 arg8 v117 v118 v123 v152 v153 v158 v187 v188 v193 v222 v223 v228), ∀ (k0_h4 : k0_cond4 arg8 v117 v118 v123 v152 v153 v158 v187 v188 v193 v222 v223 v228 = 1#1), ∀ a, (k0_off12 arg6) a + S1x1x8.size a ≤ S1x1024x8.size a := fun arg6 arg8 v117 v118 v123 v152 v153 v158 v187 v188 v193 v222 v223 v228 k0_hw5 k0_h4 => k0_hw5.1 k0_h4
theorem k0_off13_inb : ∀ (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (k0_hw5 : k0_chk5 arg6 arg8 v117 v118 v123 v152 v153 v158 v187 v188 v193 v222 v223 v228), ∀ (k0_h4 : k0_cond4 arg8 v117 v118 v123 v152 v153 v158 v187 v188 v193 v222 v223 v228 = 1#1), ∀ a, (k0_off13 arg8 v117 v118 v123 v152 v153 v158 v187 v188 v193) a + S1x1x8.size a ≤ S1x256x8.size a := fun arg6 arg8 v117 v118 v123 v152 v153 v158 v187 v188 v193 v222 v223 v228 k0_hw5 k0_h4 => k0_hw5.2 k0_h4

def k0_off14 (arg6 : BitVec 32) : Fin 3 → Nat :=
  let c0_84 : Index := 0#32
  let c0_85 : Index := 0#32
  let c8_i32 : BitVec 32 := 8#32
  let v23 : BitVec 32 := Scalar.muli arg6 c8_i32
  let c4_i32 : BitVec 32 := 4#32
  let v260 : BitVec 32 := Scalar.addi v23 c4_i32
  let v261 : Index := Scalar.indexCast v260
  ![0, 0, v261.toNat]
def k0_off15 (arg6 : BitVec 32) : Fin 3 → Nat :=
  let c0_131 : Index := 0#32
  let c8_i32 : BitVec 32 := 8#32
  let v23 : BitVec 32 := Scalar.muli arg6 c8_i32
  let c4_i32_130 : BitVec 32 := 4#32
  let v390 : BitVec 32 := Scalar.addi v23 c4_i32_130
  let v391 : Index := Scalar.indexCast v390
  let c0_132 : Index := 0#32
  ![0, v391.toNat, 0]
def k0_cond5 (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) : BitVec 1 :=
  let v259 : BitVec 1 := Scalar.andi v257 v258
  let v264 : BitVec 1 := Scalar.andi v259 v263
  let v119 : BitVec 1 := Scalar.andi v117 v118
  let v124 : BitVec 1 := Scalar.andi v119 v123
  let v142 : BitVec 32 := Scalar.extui v124
  let v143 : BitVec 32 := Scalar.addi arg8 v142
  let v154 : BitVec 1 := Scalar.andi v152 v153
  let v159 : BitVec 1 := Scalar.andi v154 v158
  let v177 : BitVec 32 := Scalar.extui v159
  let v178 : BitVec 32 := Scalar.addi v143 v177
  let v189 : BitVec 1 := Scalar.andi v187 v188
  let v194 : BitVec 1 := Scalar.andi v189 v193
  let v212 : BitVec 32 := Scalar.extui v194
  let v213 : BitVec 32 := Scalar.addi v178 v212
  let v224 : BitVec 1 := Scalar.andi v222 v223
  let v229 : BitVec 1 := Scalar.andi v224 v228
  let v247 : BitVec 32 := Scalar.extui v229
  let v248 : BitVec 32 := Scalar.addi v213 v247
  let c256_i32_91 : BitVec 32 := 256#32
  let v278 : BitVec 1 := Scalar.cmpi .slt v248 c256_i32_91
  let v279 : BitVec 1 := Scalar.andi v264 v278
  let v280 : BitVec 32 := Scalar.extui v279
  let c0_i32_92 : BitVec 32 := 0#32
  let v281 : BitVec 1 := Scalar.cmpi .ne v280 c0_i32_92
  v281

def k0_off16 (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) : Fin 3 → Nat :=
  let c0_133 : Index := 0#32
  let v119 : BitVec 1 := Scalar.andi v117 v118
  let v124 : BitVec 1 := Scalar.andi v119 v123
  let v142 : BitVec 32 := Scalar.extui v124
  let v143 : BitVec 32 := Scalar.addi arg8 v142
  let v154 : BitVec 1 := Scalar.andi v152 v153
  let v159 : BitVec 1 := Scalar.andi v154 v158
  let v177 : BitVec 32 := Scalar.extui v159
  let v178 : BitVec 32 := Scalar.addi v143 v177
  let v189 : BitVec 1 := Scalar.andi v187 v188
  let v194 : BitVec 1 := Scalar.andi v189 v193
  let v212 : BitVec 32 := Scalar.extui v194
  let v213 : BitVec 32 := Scalar.addi v178 v212
  let v224 : BitVec 1 := Scalar.andi v222 v223
  let v229 : BitVec 1 := Scalar.andi v224 v228
  let v247 : BitVec 32 := Scalar.extui v229
  let v248 : BitVec 32 := Scalar.addi v213 v247
  let v394 : Index := Scalar.indexCast v248
  let c0_134 : Index := 0#32
  ![0, v394.toNat, 0]

def k0_chk6 (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) : Prop :=
  (∀ (k0_h5 : k0_cond5 arg8 v117 v118 v123 v152 v153 v158 v187 v188 v193 v222 v223 v228 v257 v258 v263 = 1#1), ∀ a, (k0_off15 arg6) a + S1x1x8.size a ≤ S1x1024x8.size a) ∧
  (∀ (k0_h5 : k0_cond5 arg8 v117 v118 v123 v152 v153 v158 v187 v188 v193 v222 v223 v228 v257 v258 v263 = 1#1), ∀ a, (k0_off16 arg8 v117 v118 v123 v152 v153 v158 v187 v188 v193 v222 v223 v228) a + S1x1x8.size a ≤ S1x256x8.size a)
theorem k0_off15_inb : ∀ (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (k0_hw6 : k0_chk6 arg6 arg8 v117 v118 v123 v152 v153 v158 v187 v188 v193 v222 v223 v228 v257 v258 v263), ∀ (k0_h5 : k0_cond5 arg8 v117 v118 v123 v152 v153 v158 v187 v188 v193 v222 v223 v228 v257 v258 v263 = 1#1), ∀ a, (k0_off15 arg6) a + S1x1x8.size a ≤ S1x1024x8.size a := fun arg6 arg8 v117 v118 v123 v152 v153 v158 v187 v188 v193 v222 v223 v228 v257 v258 v263 k0_hw6 k0_h5 => k0_hw6.1 k0_h5
theorem k0_off16_inb : ∀ (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (k0_hw6 : k0_chk6 arg6 arg8 v117 v118 v123 v152 v153 v158 v187 v188 v193 v222 v223 v228 v257 v258 v263), ∀ (k0_h5 : k0_cond5 arg8 v117 v118 v123 v152 v153 v158 v187 v188 v193 v222 v223 v228 v257 v258 v263 = 1#1), ∀ a, (k0_off16 arg8 v117 v118 v123 v152 v153 v158 v187 v188 v193 v222 v223 v228) a + S1x1x8.size a ≤ S1x256x8.size a := fun arg6 arg8 v117 v118 v123 v152 v153 v158 v187 v188 v193 v222 v223 v228 v257 v258 v263 k0_hw6 k0_h5 => k0_hw6.2 k0_h5

def k0_off17 (arg6 : BitVec 32) : Fin 3 → Nat :=
  let c0_96 : Index := 0#32
  let c0_97 : Index := 0#32
  let c8_i32 : BitVec 32 := 8#32
  let v23 : BitVec 32 := Scalar.muli arg6 c8_i32
  let c5_i32 : BitVec 32 := 5#32
  let v295 : BitVec 32 := Scalar.addi v23 c5_i32
  let v296 : Index := Scalar.indexCast v295
  ![0, 0, v296.toNat]
def k0_off18 (arg6 : BitVec 32) : Fin 3 → Nat :=
  let c0_131 : Index := 0#32
  let c8_i32 : BitVec 32 := 8#32
  let v23 : BitVec 32 := Scalar.muli arg6 c8_i32
  let c5_i32_130 : BitVec 32 := 5#32
  let v390 : BitVec 32 := Scalar.addi v23 c5_i32_130
  let v391 : Index := Scalar.indexCast v390
  let c0_132 : Index := 0#32
  ![0, v391.toNat, 0]
def k0_cond6 (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) : BitVec 1 :=
  let v294 : BitVec 1 := Scalar.andi v292 v293
  let v299 : BitVec 1 := Scalar.andi v294 v298
  let v119 : BitVec 1 := Scalar.andi v117 v118
  let v124 : BitVec 1 := Scalar.andi v119 v123
  let v142 : BitVec 32 := Scalar.extui v124
  let v143 : BitVec 32 := Scalar.addi arg8 v142
  let v154 : BitVec 1 := Scalar.andi v152 v153
  let v159 : BitVec 1 := Scalar.andi v154 v158
  let v177 : BitVec 32 := Scalar.extui v159
  let v178 : BitVec 32 := Scalar.addi v143 v177
  let v189 : BitVec 1 := Scalar.andi v187 v188
  let v194 : BitVec 1 := Scalar.andi v189 v193
  let v212 : BitVec 32 := Scalar.extui v194
  let v213 : BitVec 32 := Scalar.addi v178 v212
  let v224 : BitVec 1 := Scalar.andi v222 v223
  let v229 : BitVec 1 := Scalar.andi v224 v228
  let v247 : BitVec 32 := Scalar.extui v229
  let v248 : BitVec 32 := Scalar.addi v213 v247
  let v259 : BitVec 1 := Scalar.andi v257 v258
  let v264 : BitVec 1 := Scalar.andi v259 v263
  let v282 : BitVec 32 := Scalar.extui v264
  let v283 : BitVec 32 := Scalar.addi v248 v282
  let c256_i32_103 : BitVec 32 := 256#32
  let v313 : BitVec 1 := Scalar.cmpi .slt v283 c256_i32_103
  let v314 : BitVec 1 := Scalar.andi v299 v313
  let v315 : BitVec 32 := Scalar.extui v314
  let c0_i32_104 : BitVec 32 := 0#32
  let v316 : BitVec 1 := Scalar.cmpi .ne v315 c0_i32_104
  v316

def k0_off19 (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) : Fin 3 → Nat :=
  let c0_133 : Index := 0#32
  let v119 : BitVec 1 := Scalar.andi v117 v118
  let v124 : BitVec 1 := Scalar.andi v119 v123
  let v142 : BitVec 32 := Scalar.extui v124
  let v143 : BitVec 32 := Scalar.addi arg8 v142
  let v154 : BitVec 1 := Scalar.andi v152 v153
  let v159 : BitVec 1 := Scalar.andi v154 v158
  let v177 : BitVec 32 := Scalar.extui v159
  let v178 : BitVec 32 := Scalar.addi v143 v177
  let v189 : BitVec 1 := Scalar.andi v187 v188
  let v194 : BitVec 1 := Scalar.andi v189 v193
  let v212 : BitVec 32 := Scalar.extui v194
  let v213 : BitVec 32 := Scalar.addi v178 v212
  let v224 : BitVec 1 := Scalar.andi v222 v223
  let v229 : BitVec 1 := Scalar.andi v224 v228
  let v247 : BitVec 32 := Scalar.extui v229
  let v248 : BitVec 32 := Scalar.addi v213 v247
  let v259 : BitVec 1 := Scalar.andi v257 v258
  let v264 : BitVec 1 := Scalar.andi v259 v263
  let v282 : BitVec 32 := Scalar.extui v264
  let v283 : BitVec 32 := Scalar.addi v248 v282
  let v394 : Index := Scalar.indexCast v283
  let c0_134 : Index := 0#32
  ![0, v394.toNat, 0]

def k0_chk7 (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) : Prop :=
  (∀ (k0_h6 : k0_cond6 arg8 v117 v118 v123 v152 v153 v158 v187 v188 v193 v222 v223 v228 v257 v258 v263 v292 v293 v298 = 1#1), ∀ a, (k0_off18 arg6) a + S1x1x8.size a ≤ S1x1024x8.size a) ∧
  (∀ (k0_h6 : k0_cond6 arg8 v117 v118 v123 v152 v153 v158 v187 v188 v193 v222 v223 v228 v257 v258 v263 v292 v293 v298 = 1#1), ∀ a, (k0_off19 arg8 v117 v118 v123 v152 v153 v158 v187 v188 v193 v222 v223 v228 v257 v258 v263) a + S1x1x8.size a ≤ S1x256x8.size a)
theorem k0_off18_inb : ∀ (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) (k0_hw7 : k0_chk7 arg6 arg8 v117 v118 v123 v152 v153 v158 v187 v188 v193 v222 v223 v228 v257 v258 v263 v292 v293 v298), ∀ (k0_h6 : k0_cond6 arg8 v117 v118 v123 v152 v153 v158 v187 v188 v193 v222 v223 v228 v257 v258 v263 v292 v293 v298 = 1#1), ∀ a, (k0_off18 arg6) a + S1x1x8.size a ≤ S1x1024x8.size a := fun arg6 arg8 v117 v118 v123 v152 v153 v158 v187 v188 v193 v222 v223 v228 v257 v258 v263 v292 v293 v298 k0_hw7 k0_h6 => k0_hw7.1 k0_h6
theorem k0_off19_inb : ∀ (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) (k0_hw7 : k0_chk7 arg6 arg8 v117 v118 v123 v152 v153 v158 v187 v188 v193 v222 v223 v228 v257 v258 v263 v292 v293 v298), ∀ (k0_h6 : k0_cond6 arg8 v117 v118 v123 v152 v153 v158 v187 v188 v193 v222 v223 v228 v257 v258 v263 v292 v293 v298 = 1#1), ∀ a, (k0_off19 arg8 v117 v118 v123 v152 v153 v158 v187 v188 v193 v222 v223 v228 v257 v258 v263) a + S1x1x8.size a ≤ S1x256x8.size a := fun arg6 arg8 v117 v118 v123 v152 v153 v158 v187 v188 v193 v222 v223 v228 v257 v258 v263 v292 v293 v298 k0_hw7 k0_h6 => k0_hw7.2 k0_h6

def k0_off20 (arg6 : BitVec 32) : Fin 3 → Nat :=
  let c0_108 : Index := 0#32
  let c0_109 : Index := 0#32
  let c8_i32 : BitVec 32 := 8#32
  let v23 : BitVec 32 := Scalar.muli arg6 c8_i32
  let c6_i32 : BitVec 32 := 6#32
  let v330 : BitVec 32 := Scalar.addi v23 c6_i32
  let v331 : Index := Scalar.indexCast v330
  ![0, 0, v331.toNat]
def k0_off21 (arg6 : BitVec 32) : Fin 3 → Nat :=
  let c0_131 : Index := 0#32
  let c8_i32 : BitVec 32 := 8#32
  let v23 : BitVec 32 := Scalar.muli arg6 c8_i32
  let c6_i32_130 : BitVec 32 := 6#32
  let v390 : BitVec 32 := Scalar.addi v23 c6_i32_130
  let v391 : Index := Scalar.indexCast v390
  let c0_132 : Index := 0#32
  ![0, v391.toNat, 0]
def k0_cond7 (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) (v327 : BitVec 1) (v328 : BitVec 1) (v333 : BitVec 1) : BitVec 1 :=
  let v329 : BitVec 1 := Scalar.andi v327 v328
  let v334 : BitVec 1 := Scalar.andi v329 v333
  let v119 : BitVec 1 := Scalar.andi v117 v118
  let v124 : BitVec 1 := Scalar.andi v119 v123
  let v142 : BitVec 32 := Scalar.extui v124
  let v143 : BitVec 32 := Scalar.addi arg8 v142
  let v154 : BitVec 1 := Scalar.andi v152 v153
  let v159 : BitVec 1 := Scalar.andi v154 v158
  let v177 : BitVec 32 := Scalar.extui v159
  let v178 : BitVec 32 := Scalar.addi v143 v177
  let v189 : BitVec 1 := Scalar.andi v187 v188
  let v194 : BitVec 1 := Scalar.andi v189 v193
  let v212 : BitVec 32 := Scalar.extui v194
  let v213 : BitVec 32 := Scalar.addi v178 v212
  let v224 : BitVec 1 := Scalar.andi v222 v223
  let v229 : BitVec 1 := Scalar.andi v224 v228
  let v247 : BitVec 32 := Scalar.extui v229
  let v248 : BitVec 32 := Scalar.addi v213 v247
  let v259 : BitVec 1 := Scalar.andi v257 v258
  let v264 : BitVec 1 := Scalar.andi v259 v263
  let v282 : BitVec 32 := Scalar.extui v264
  let v283 : BitVec 32 := Scalar.addi v248 v282
  let v294 : BitVec 1 := Scalar.andi v292 v293
  let v299 : BitVec 1 := Scalar.andi v294 v298
  let v317 : BitVec 32 := Scalar.extui v299
  let v318 : BitVec 32 := Scalar.addi v283 v317
  let c256_i32_115 : BitVec 32 := 256#32
  let v348 : BitVec 1 := Scalar.cmpi .slt v318 c256_i32_115
  let v349 : BitVec 1 := Scalar.andi v334 v348
  let v350 : BitVec 32 := Scalar.extui v349
  let c0_i32_116 : BitVec 32 := 0#32
  let v351 : BitVec 1 := Scalar.cmpi .ne v350 c0_i32_116
  v351

def k0_off22 (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) : Fin 3 → Nat :=
  let c0_133 : Index := 0#32
  let v119 : BitVec 1 := Scalar.andi v117 v118
  let v124 : BitVec 1 := Scalar.andi v119 v123
  let v142 : BitVec 32 := Scalar.extui v124
  let v143 : BitVec 32 := Scalar.addi arg8 v142
  let v154 : BitVec 1 := Scalar.andi v152 v153
  let v159 : BitVec 1 := Scalar.andi v154 v158
  let v177 : BitVec 32 := Scalar.extui v159
  let v178 : BitVec 32 := Scalar.addi v143 v177
  let v189 : BitVec 1 := Scalar.andi v187 v188
  let v194 : BitVec 1 := Scalar.andi v189 v193
  let v212 : BitVec 32 := Scalar.extui v194
  let v213 : BitVec 32 := Scalar.addi v178 v212
  let v224 : BitVec 1 := Scalar.andi v222 v223
  let v229 : BitVec 1 := Scalar.andi v224 v228
  let v247 : BitVec 32 := Scalar.extui v229
  let v248 : BitVec 32 := Scalar.addi v213 v247
  let v259 : BitVec 1 := Scalar.andi v257 v258
  let v264 : BitVec 1 := Scalar.andi v259 v263
  let v282 : BitVec 32 := Scalar.extui v264
  let v283 : BitVec 32 := Scalar.addi v248 v282
  let v294 : BitVec 1 := Scalar.andi v292 v293
  let v299 : BitVec 1 := Scalar.andi v294 v298
  let v317 : BitVec 32 := Scalar.extui v299
  let v318 : BitVec 32 := Scalar.addi v283 v317
  let v394 : Index := Scalar.indexCast v318
  let c0_134 : Index := 0#32
  ![0, v394.toNat, 0]

def k0_chk8 (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) (v327 : BitVec 1) (v328 : BitVec 1) (v333 : BitVec 1) : Prop :=
  (∀ (k0_h7 : k0_cond7 arg8 v117 v118 v123 v152 v153 v158 v187 v188 v193 v222 v223 v228 v257 v258 v263 v292 v293 v298 v327 v328 v333 = 1#1), ∀ a, (k0_off21 arg6) a + S1x1x8.size a ≤ S1x1024x8.size a) ∧
  (∀ (k0_h7 : k0_cond7 arg8 v117 v118 v123 v152 v153 v158 v187 v188 v193 v222 v223 v228 v257 v258 v263 v292 v293 v298 v327 v328 v333 = 1#1), ∀ a, (k0_off22 arg8 v117 v118 v123 v152 v153 v158 v187 v188 v193 v222 v223 v228 v257 v258 v263 v292 v293 v298) a + S1x1x8.size a ≤ S1x256x8.size a)
theorem k0_off21_inb : ∀ (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) (v327 : BitVec 1) (v328 : BitVec 1) (v333 : BitVec 1) (k0_hw8 : k0_chk8 arg6 arg8 v117 v118 v123 v152 v153 v158 v187 v188 v193 v222 v223 v228 v257 v258 v263 v292 v293 v298 v327 v328 v333), ∀ (k0_h7 : k0_cond7 arg8 v117 v118 v123 v152 v153 v158 v187 v188 v193 v222 v223 v228 v257 v258 v263 v292 v293 v298 v327 v328 v333 = 1#1), ∀ a, (k0_off21 arg6) a + S1x1x8.size a ≤ S1x1024x8.size a := fun arg6 arg8 v117 v118 v123 v152 v153 v158 v187 v188 v193 v222 v223 v228 v257 v258 v263 v292 v293 v298 v327 v328 v333 k0_hw8 k0_h7 => k0_hw8.1 k0_h7
theorem k0_off22_inb : ∀ (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) (v327 : BitVec 1) (v328 : BitVec 1) (v333 : BitVec 1) (k0_hw8 : k0_chk8 arg6 arg8 v117 v118 v123 v152 v153 v158 v187 v188 v193 v222 v223 v228 v257 v258 v263 v292 v293 v298 v327 v328 v333), ∀ (k0_h7 : k0_cond7 arg8 v117 v118 v123 v152 v153 v158 v187 v188 v193 v222 v223 v228 v257 v258 v263 v292 v293 v298 v327 v328 v333 = 1#1), ∀ a, (k0_off22 arg8 v117 v118 v123 v152 v153 v158 v187 v188 v193 v222 v223 v228 v257 v258 v263 v292 v293 v298) a + S1x1x8.size a ≤ S1x256x8.size a := fun arg6 arg8 v117 v118 v123 v152 v153 v158 v187 v188 v193 v222 v223 v228 v257 v258 v263 v292 v293 v298 v327 v328 v333 k0_hw8 k0_h7 => k0_hw8.2 k0_h7

def k0_off23 (arg6 : BitVec 32) : Fin 3 → Nat :=
  let c0_120 : Index := 0#32
  let c0_121 : Index := 0#32
  let c8_i32 : BitVec 32 := 8#32
  let v23 : BitVec 32 := Scalar.muli arg6 c8_i32
  let c7_i32 : BitVec 32 := 7#32
  let v365 : BitVec 32 := Scalar.addi v23 c7_i32
  let v366 : Index := Scalar.indexCast v365
  ![0, 0, v366.toNat]

def k0_chk1 (arg6 : BitVec 32) : Prop :=
  (∀ a, (k0_off1 arg6) a + S1x8x8.size a ≤ S1x1024x8.size a) ∧
  (∀ a, (k0_off2 arg6) a + S1x1x1.size a ≤ S1x1x1024.size a) ∧
  (∀ a, (k0_off5 arg6) a + S1x1x1.size a ≤ S1x1x1024.size a) ∧
  (∀ a, (k0_off8 arg6) a + S1x1x1.size a ≤ S1x1x1024.size a) ∧
  (∀ a, (k0_off11 arg6) a + S1x1x1.size a ≤ S1x1x1024.size a) ∧
  (∀ a, (k0_off14 arg6) a + S1x1x1.size a ≤ S1x1x1024.size a) ∧
  (∀ a, (k0_off17 arg6) a + S1x1x1.size a ≤ S1x1x1024.size a) ∧
  (∀ a, (k0_off20 arg6) a + S1x1x1.size a ≤ S1x1x1024.size a) ∧
  (∀ a, (k0_off23 arg6) a + S1x1x1.size a ≤ S1x1x1024.size a)
theorem k0_off1_inb : ∀ (arg6 : BitVec 32) (k0_hw1 : k0_chk1 arg6), ∀ a, (k0_off1 arg6) a + S1x8x8.size a ≤ S1x1024x8.size a := fun arg6 k0_hw1 => k0_hw1.1
theorem k0_off2_inb : ∀ (arg6 : BitVec 32) (k0_hw1 : k0_chk1 arg6), ∀ a, (k0_off2 arg6) a + S1x1x1.size a ≤ S1x1x1024.size a := fun arg6 k0_hw1 => k0_hw1.2.1
theorem k0_off5_inb : ∀ (arg6 : BitVec 32) (k0_hw1 : k0_chk1 arg6), ∀ a, (k0_off5 arg6) a + S1x1x1.size a ≤ S1x1x1024.size a := fun arg6 k0_hw1 => k0_hw1.2.2.1
theorem k0_off8_inb : ∀ (arg6 : BitVec 32) (k0_hw1 : k0_chk1 arg6), ∀ a, (k0_off8 arg6) a + S1x1x1.size a ≤ S1x1x1024.size a := fun arg6 k0_hw1 => k0_hw1.2.2.2.1
theorem k0_off11_inb : ∀ (arg6 : BitVec 32) (k0_hw1 : k0_chk1 arg6), ∀ a, (k0_off11 arg6) a + S1x1x1.size a ≤ S1x1x1024.size a := fun arg6 k0_hw1 => k0_hw1.2.2.2.2.1
theorem k0_off14_inb : ∀ (arg6 : BitVec 32) (k0_hw1 : k0_chk1 arg6), ∀ a, (k0_off14 arg6) a + S1x1x1.size a ≤ S1x1x1024.size a := fun arg6 k0_hw1 => k0_hw1.2.2.2.2.2.1
theorem k0_off17_inb : ∀ (arg6 : BitVec 32) (k0_hw1 : k0_chk1 arg6), ∀ a, (k0_off17 arg6) a + S1x1x1.size a ≤ S1x1x1024.size a := fun arg6 k0_hw1 => k0_hw1.2.2.2.2.2.2.1
theorem k0_off20_inb : ∀ (arg6 : BitVec 32) (k0_hw1 : k0_chk1 arg6), ∀ a, (k0_off20 arg6) a + S1x1x1.size a ≤ S1x1x1024.size a := fun arg6 k0_hw1 => k0_hw1.2.2.2.2.2.2.2.1
theorem k0_off23_inb : ∀ (arg6 : BitVec 32) (k0_hw1 : k0_chk1 arg6), ∀ a, (k0_off23 arg6) a + S1x1x1.size a ≤ S1x1x1024.size a := fun arg6 k0_hw1 => k0_hw1.2.2.2.2.2.2.2.2

def k0_off24 (arg6 : BitVec 32) : Fin 3 → Nat :=
  let c0_131 : Index := 0#32
  let c8_i32 : BitVec 32 := 8#32
  let v23 : BitVec 32 := Scalar.muli arg6 c8_i32
  let c7_i32_130 : BitVec 32 := 7#32
  let v390 : BitVec 32 := Scalar.addi v23 c7_i32_130
  let v391 : Index := Scalar.indexCast v390
  let c0_132 : Index := 0#32
  ![0, v391.toNat, 0]
def k0_cond8 (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) (v327 : BitVec 1) (v328 : BitVec 1) (v333 : BitVec 1) (v362 : BitVec 1) (v363 : BitVec 1) (v368 : BitVec 1) : BitVec 1 :=
  let v364 : BitVec 1 := Scalar.andi v362 v363
  let v369 : BitVec 1 := Scalar.andi v364 v368
  let v119 : BitVec 1 := Scalar.andi v117 v118
  let v124 : BitVec 1 := Scalar.andi v119 v123
  let v142 : BitVec 32 := Scalar.extui v124
  let v143 : BitVec 32 := Scalar.addi arg8 v142
  let v154 : BitVec 1 := Scalar.andi v152 v153
  let v159 : BitVec 1 := Scalar.andi v154 v158
  let v177 : BitVec 32 := Scalar.extui v159
  let v178 : BitVec 32 := Scalar.addi v143 v177
  let v189 : BitVec 1 := Scalar.andi v187 v188
  let v194 : BitVec 1 := Scalar.andi v189 v193
  let v212 : BitVec 32 := Scalar.extui v194
  let v213 : BitVec 32 := Scalar.addi v178 v212
  let v224 : BitVec 1 := Scalar.andi v222 v223
  let v229 : BitVec 1 := Scalar.andi v224 v228
  let v247 : BitVec 32 := Scalar.extui v229
  let v248 : BitVec 32 := Scalar.addi v213 v247
  let v259 : BitVec 1 := Scalar.andi v257 v258
  let v264 : BitVec 1 := Scalar.andi v259 v263
  let v282 : BitVec 32 := Scalar.extui v264
  let v283 : BitVec 32 := Scalar.addi v248 v282
  let v294 : BitVec 1 := Scalar.andi v292 v293
  let v299 : BitVec 1 := Scalar.andi v294 v298
  let v317 : BitVec 32 := Scalar.extui v299
  let v318 : BitVec 32 := Scalar.addi v283 v317
  let v329 : BitVec 1 := Scalar.andi v327 v328
  let v334 : BitVec 1 := Scalar.andi v329 v333
  let v352 : BitVec 32 := Scalar.extui v334
  let v353 : BitVec 32 := Scalar.addi v318 v352
  let c256_i32_127 : BitVec 32 := 256#32
  let v383 : BitVec 1 := Scalar.cmpi .slt v353 c256_i32_127
  let v384 : BitVec 1 := Scalar.andi v369 v383
  let v385 : BitVec 32 := Scalar.extui v384
  let c0_i32_128 : BitVec 32 := 0#32
  let v386 : BitVec 1 := Scalar.cmpi .ne v385 c0_i32_128
  v386

def k0_off25 (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) (v327 : BitVec 1) (v328 : BitVec 1) (v333 : BitVec 1) : Fin 3 → Nat :=
  let c0_133 : Index := 0#32
  let v119 : BitVec 1 := Scalar.andi v117 v118
  let v124 : BitVec 1 := Scalar.andi v119 v123
  let v142 : BitVec 32 := Scalar.extui v124
  let v143 : BitVec 32 := Scalar.addi arg8 v142
  let v154 : BitVec 1 := Scalar.andi v152 v153
  let v159 : BitVec 1 := Scalar.andi v154 v158
  let v177 : BitVec 32 := Scalar.extui v159
  let v178 : BitVec 32 := Scalar.addi v143 v177
  let v189 : BitVec 1 := Scalar.andi v187 v188
  let v194 : BitVec 1 := Scalar.andi v189 v193
  let v212 : BitVec 32 := Scalar.extui v194
  let v213 : BitVec 32 := Scalar.addi v178 v212
  let v224 : BitVec 1 := Scalar.andi v222 v223
  let v229 : BitVec 1 := Scalar.andi v224 v228
  let v247 : BitVec 32 := Scalar.extui v229
  let v248 : BitVec 32 := Scalar.addi v213 v247
  let v259 : BitVec 1 := Scalar.andi v257 v258
  let v264 : BitVec 1 := Scalar.andi v259 v263
  let v282 : BitVec 32 := Scalar.extui v264
  let v283 : BitVec 32 := Scalar.addi v248 v282
  let v294 : BitVec 1 := Scalar.andi v292 v293
  let v299 : BitVec 1 := Scalar.andi v294 v298
  let v317 : BitVec 32 := Scalar.extui v299
  let v318 : BitVec 32 := Scalar.addi v283 v317
  let v329 : BitVec 1 := Scalar.andi v327 v328
  let v334 : BitVec 1 := Scalar.andi v329 v333
  let v352 : BitVec 32 := Scalar.extui v334
  let v353 : BitVec 32 := Scalar.addi v318 v352
  let v394 : Index := Scalar.indexCast v353
  let c0_134 : Index := 0#32
  ![0, v394.toNat, 0]

def k0_chk9 (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) (v327 : BitVec 1) (v328 : BitVec 1) (v333 : BitVec 1) (v362 : BitVec 1) (v363 : BitVec 1) (v368 : BitVec 1) : Prop :=
  (∀ (k0_h8 : k0_cond8 arg8 v117 v118 v123 v152 v153 v158 v187 v188 v193 v222 v223 v228 v257 v258 v263 v292 v293 v298 v327 v328 v333 v362 v363 v368 = 1#1), ∀ a, (k0_off24 arg6) a + S1x1x8.size a ≤ S1x1024x8.size a) ∧
  (∀ (k0_h8 : k0_cond8 arg8 v117 v118 v123 v152 v153 v158 v187 v188 v193 v222 v223 v228 v257 v258 v263 v292 v293 v298 v327 v328 v333 v362 v363 v368 = 1#1), ∀ a, (k0_off25 arg8 v117 v118 v123 v152 v153 v158 v187 v188 v193 v222 v223 v228 v257 v258 v263 v292 v293 v298 v327 v328 v333) a + S1x1x8.size a ≤ S1x256x8.size a)
theorem k0_off24_inb : ∀ (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) (v327 : BitVec 1) (v328 : BitVec 1) (v333 : BitVec 1) (v362 : BitVec 1) (v363 : BitVec 1) (v368 : BitVec 1) (k0_hw9 : k0_chk9 arg6 arg8 v117 v118 v123 v152 v153 v158 v187 v188 v193 v222 v223 v228 v257 v258 v263 v292 v293 v298 v327 v328 v333 v362 v363 v368), ∀ (k0_h8 : k0_cond8 arg8 v117 v118 v123 v152 v153 v158 v187 v188 v193 v222 v223 v228 v257 v258 v263 v292 v293 v298 v327 v328 v333 v362 v363 v368 = 1#1), ∀ a, (k0_off24 arg6) a + S1x1x8.size a ≤ S1x1024x8.size a := fun arg6 arg8 v117 v118 v123 v152 v153 v158 v187 v188 v193 v222 v223 v228 v257 v258 v263 v292 v293 v298 v327 v328 v333 v362 v363 v368 k0_hw9 k0_h8 => k0_hw9.1 k0_h8
theorem k0_off25_inb : ∀ (arg6 : BitVec 32) (arg8 : BitVec 32) (v117 : BitVec 1) (v118 : BitVec 1) (v123 : BitVec 1) (v152 : BitVec 1) (v153 : BitVec 1) (v158 : BitVec 1) (v187 : BitVec 1) (v188 : BitVec 1) (v193 : BitVec 1) (v222 : BitVec 1) (v223 : BitVec 1) (v228 : BitVec 1) (v257 : BitVec 1) (v258 : BitVec 1) (v263 : BitVec 1) (v292 : BitVec 1) (v293 : BitVec 1) (v298 : BitVec 1) (v327 : BitVec 1) (v328 : BitVec 1) (v333 : BitVec 1) (v362 : BitVec 1) (v363 : BitVec 1) (v368 : BitVec 1) (k0_hw9 : k0_chk9 arg6 arg8 v117 v118 v123 v152 v153 v158 v187 v188 v193 v222 v223 v228 v257 v258 v263 v292 v293 v298 v327 v328 v333 v362 v363 v368), ∀ (k0_h8 : k0_cond8 arg8 v117 v118 v123 v152 v153 v158 v187 v188 v193 v222 v223 v228 v257 v258 v263 v292 v293 v298 v327 v328 v333 v362 v363 v368 = 1#1), ∀ a, (k0_off25 arg8 v117 v118 v123 v152 v153 v158 v187 v188 v193 v222 v223 v228 v257 v258 v263 v292 v293 v298 v327 v328 v333) a + S1x1x8.size a ≤ S1x256x8.size a := fun arg6 arg8 v117 v118 v123 v152 v153 v158 v187 v188 v193 v222 v223 v228 v257 v258 v263 v292 v293 v298 v327 v328 v333 v362 v363 v368 k0_hw9 k0_h8 => k0_hw9.2 k0_h8

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .smem S1x1x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x20000x4 : Shape := ⟨3, ![4, 20000, 4]⟩
abbrev S4x20000x8 : Shape := ⟨3, ![4, 20000, 8]⟩
abbrev S_ : Shape := ⟨0, ![]⟩
abbrev S4x20000 : Shape := ⟨2, ![4, 20000]⟩
abbrev S4x1024 : Shape := ⟨2, ![4, 1024]⟩
abbrev S4x1024x1 : Shape := ⟨3, ![4, 1024, 1]⟩
abbrev S4x1024x4 : Shape := ⟨3, ![4, 1024, 4]⟩
abbrev S4x1x1024 : Shape := ⟨3, ![4, 1, 1024]⟩
abbrev S4x1024x1024 : Shape := ⟨3, ![4, 1024, 1024]⟩
abbrev S1024 : Shape := ⟨1, ![1024]⟩
abbrev S4x1 : Shape := ⟨2, ![4, 1]⟩
abbrev S4 : Shape := ⟨1, ![4]⟩
abbrev S1 : Shape := ⟨1, ![1]⟩
abbrev S1x1024 : Shape := ⟨2, ![1, 1024]⟩
abbrev S4x256 : Shape := ⟨2, ![4, 256]⟩
abbrev S4x256x1 : Shape := ⟨3, ![4, 256, 1]⟩
abbrev S4x256x4 : Shape := ⟨3, ![4, 256, 4]⟩
abbrev S4x256x6 : Shape := ⟨3, ![4, 256, 6]⟩

abbrev nBuf : Space → Nat
  | .hbm => 255
  | .vmem => 0
  | .smem => 0
  | _ => 0

abbrev hbmTy0_0 (i : Nat) : BufTy := match i % 128 with
  | 0 => ⟨S4x20000x4, .f32⟩
  | 1 => ⟨S4x20000x8, .f32⟩
  | 2 => ⟨S_, .f32⟩
  | 3 => ⟨S4x20000, .f32⟩
  | 4 => ⟨S4x20000x8, .i32⟩
  | 5 => ⟨S_, .f32⟩
  | 6 => ⟨S_, .i32⟩
  | 7 => ⟨S4x20000, .f32⟩
  | 8 => ⟨S4x20000, .i32⟩
  | 9 => ⟨S4x1024, .f32⟩
  | 10 => ⟨S4x1024, .i32⟩
  | 11 => ⟨S_, .i32⟩
  | 12 => ⟨S4x1024, .i32⟩
  | 13 => ⟨S4x1024, .i1⟩
  | 14 => ⟨S_, .i32⟩
  | 15 => ⟨S4x1024, .i32⟩
  | 16 => ⟨S4x1024, .i32⟩
  | 17 => ⟨S4x1024, .i32⟩
  | 18 => ⟨S4x1024x1, .i32⟩
  | 19 => ⟨S4x1024x4, .f32⟩
  | 20 => ⟨S_, .i32⟩
  | 21 => ⟨S4x1024, .i32⟩
  | 22 => ⟨S4x1024, .i1⟩
  | 23 => ⟨S_, .i32⟩
  | 24 => ⟨S4x1024, .i32⟩
  | 25 => ⟨S4x1024, .i32⟩
  | 26 => ⟨S4x1024, .i32⟩
  | 27 => ⟨S4x1024x1, .i32⟩
  | 28 => ⟨S4x1024, .i32⟩
  | 29 => ⟨S_, .f32⟩
  | 30 => ⟨S4x1024, .f32⟩
  | 31 => ⟨S4x1024, .i1⟩
  | 32 => ⟨S4x1024x1, .f32⟩
  | 33 => ⟨S4x1024, .f32⟩
  | 34 => ⟨S4x1024x1, .f32⟩
  | 35 => ⟨S4x1024, .f32⟩
  | 36 => ⟨S4x1024x1, .f32⟩
  | 37 => ⟨S4x1024, .f32⟩
  | 38 => ⟨S4x1024x1, .f32⟩
  | 39 => ⟨S4x1024, .f32⟩
  | 40 => ⟨S4x1024, .f32⟩
  | 41 => ⟨S_, .f32⟩
  | 42 => ⟨S4x1024, .f32⟩
  | 43 => ⟨S4x1024, .f32⟩
  | 44 => ⟨S4x1024, .f32⟩
  | 45 => ⟨S_, .f32⟩
  | 46 => ⟨S4x1024, .f32⟩
  | 47 => ⟨S4x1024, .f32⟩
  | 48 => ⟨S4x1024, .f32⟩
  | 49 => ⟨S4x1024x1, .f32⟩
  | 50 => ⟨S4x1x1024, .f32⟩
  | 51 => ⟨S4x1024x1024, .f32⟩
  | 52 => ⟨S4x1024x1024, .f32⟩
  | 53 => ⟨S4x1024x1024, .f32⟩
  | 54 => ⟨S4x1024x1, .f32⟩
  | 55 => ⟨S4x1x1024, .f32⟩
  | 56 => ⟨S4x1024x1024, .f32⟩
  | 57 => ⟨S4x1024x1024, .f32⟩
  | 58 => ⟨S4x1024x1024, .f32⟩
  | 59 => ⟨S4x1024x1, .f32⟩
  | 60 => ⟨S4x1x1024, .f32⟩
  | 61 => ⟨S4x1024x1024, .f32⟩
  | 62 => ⟨S4x1024x1024, .f32⟩
  | 63 => ⟨S4x1024x1024, .f32⟩
  | 64 => ⟨S4x1024x1, .f32⟩
  | 65 => ⟨S4x1x1024, .f32⟩
  | 66 => ⟨S4x1024x1024, .f32⟩
  | 67 => ⟨S4x1024x1024, .f32⟩
  | 68 => ⟨S4x1024x1024, .f32⟩
  | 69 => ⟨S4x1024x1024, .f32⟩
  | 70 => ⟨S_, .f32⟩
  | 71 => ⟨S4x1024x1024, .f32⟩
  | 72 => ⟨S4x1024x1024, .f32⟩
  | 73 => ⟨S4x1024x1024, .f32⟩
  | 74 => ⟨S_, .f32⟩
  | 75 => ⟨S4x1024x1024, .f32⟩
  | 76 => ⟨S4x1024x1024, .f32⟩
  | 77 => ⟨S4x1024x1024, .f32⟩
  | 78 => ⟨S4x1024x1, .f32⟩
  | 79 => ⟨S4x1x1024, .f32⟩
  | 80 => ⟨S4x1024x1024, .f32⟩
  | 81 => ⟨S4x1024x1024, .f32⟩
  | 82 => ⟨S4x1024x1024, .f32⟩
  | 83 => ⟨S4x1024x1024, .f32⟩
  | 84 => ⟨S_, .f32⟩
  | 85 => ⟨S4x1024x1024, .f32⟩
  | 86 => ⟨S4x1024x1024, .f32⟩
  | 87 => ⟨S4x1024x1024, .f32⟩
  | 88 => ⟨S1024, .i32⟩
  | 89 => ⟨S_, .i1⟩
  | 90 => ⟨S4x1024, .i1⟩
  | 91 => ⟨S_, .i32⟩
  | 92 => ⟨S_, .i32⟩
  | 93 => ⟨S4x1024, .i1⟩
  | 94 => ⟨S4x1024x1024, .f32⟩
  | 95 => ⟨S1024, .i32⟩
  | 96 => ⟨S_, .i32⟩
  | 97 => ⟨S_, .i32⟩
  | 98 => ⟨S4x1024, .i1⟩
  | 99 => ⟨S4x1024, .i1⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S4x1, .i1⟩
  | 119 => ⟨S4, .i1⟩
  | 120 => ⟨S4, .i1⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S4x20000x4, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S4x1, .i1⟩
  | 8 => ⟨S4, .i1⟩
  | 9 => ⟨S4, .i1⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S1, .i32⟩
  | 17 => ⟨S4x1024, .i1⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S4x1x1024, .f32⟩
  | 41 => ⟨S4x1024, .f32⟩
  | 42 => ⟨S_, .f32⟩
  | 43 => ⟨S4x1024, .f32⟩
  | 44 => ⟨S4x1024, .i1⟩
  | 45 => ⟨S4x1, .i1⟩
  | 46 => ⟨S4x1024, .i1⟩
  | 47 => ⟨S4x1024, .i1⟩
  | 48 => ⟨S_, .i32⟩
  | 49 => ⟨S1024, .i32⟩
  | 50 => ⟨S1024, .i1⟩
  | 51 => ⟨S1x1024, .i1⟩
  | 52 => ⟨S4x1024, .i1⟩
  | 53 => ⟨S4x1024, .i1⟩
  | 54 => ⟨S4x1024, .i1⟩
  | 55 => ⟨S_, .i32⟩
  | 56 => ⟨S_, .i32⟩
  | 57 => ⟨S_, .i32⟩
  | 58 => ⟨S1024, .i32⟩
  | 59 => ⟨S1024, .i32⟩
  | 60 => ⟨S4x1024, .i32⟩
  | 61 => ⟨S4x1024, .i32⟩
  | 62 => ⟨S4x1024, .i32⟩
  | 63 => ⟨S4x1024, .i32⟩
  | 64 => ⟨S4x1024, .i32⟩
  | 65 => ⟨S4x1024, .i32⟩
  | 66 => ⟨S4x256, .i32⟩
  | 67 => ⟨S_, .i32⟩
  | 68 => ⟨S4x256, .i32⟩
  | 69 => ⟨S4x256, .i1⟩
  | 70 => ⟨S_, .i32⟩
  | 71 => ⟨S4x256, .i32⟩
  | 72 => ⟨S4x256, .i32⟩
  | 73 => ⟨S4x256, .i32⟩
  | 74 => ⟨S4x256x1, .i32⟩
  | 75 => ⟨S4x256, .i1⟩
  | 76 => ⟨S4x256x1, .i1⟩
  | 77 => ⟨S_, .i32⟩
  | 78 => ⟨S4x256, .i32⟩
  | 79 => ⟨S4x256, .i1⟩
  | 80 => ⟨S_, .i32⟩
  | 81 => ⟨S4x256, .i32⟩
  | 82 => ⟨S4x256, .i32⟩
  | 83 => ⟨S4x256, .i32⟩
  | 84 => ⟨S4x256x1, .i32⟩
  | 85 => ⟨S4x256x4, .f32⟩
  | 86 => ⟨S_, .f32⟩
  | 87 => ⟨S_, .f32⟩
  | 88 => ⟨S4x256x4, .i1⟩
  | 89 => ⟨S4x256x4, .f32⟩
  | 90 => ⟨S4x256x4, .f32⟩
  | 91 => ⟨S_, .i32⟩
  | 92 => ⟨S4x256, .i32⟩
  | 93 => ⟨S4x256, .i1⟩
  | 94 => ⟨S_, .i32⟩
  | 95 => ⟨S4x256, .i32⟩
  | 96 => ⟨S4x256, .i32⟩
  | 97 => ⟨S4x256, .i32⟩
  | 98 => ⟨S4x256x1, .i32⟩
  | 99 => ⟨S4x256, .f32⟩
  | 100 => ⟨S_, .f32⟩
  | 101 => ⟨S_, .f32⟩
  | 102 => ⟨S4x256, .f32⟩
  | 103 => ⟨S4x256, .f32⟩
  | 104 => ⟨S_, .i32⟩
  | 105 => ⟨S4x256, .i32⟩
  | 106 => ⟨S4x256, .i1⟩
  | 107 => ⟨S_, .i32⟩
  | 108 => ⟨S4x256, .i32⟩
  | 109 => ⟨S4x256, .i32⟩
  | 110 => ⟨S4x256, .i32⟩
  | 111 => ⟨S4x256x1, .i32⟩
  | 112 => ⟨S4x256, .i32⟩
  | 113 => ⟨S_, .i32⟩
  | 114 => ⟨S_, .i32⟩
  | 115 => ⟨S4x256, .i32⟩
  | 116 => ⟨S4x256, .i32⟩
  | 117 => ⟨S4x256, .f32⟩
  | 118 => ⟨S4x256x1, .f32⟩
  | 119 => ⟨S4x256x1, .f32⟩
  | 120 => ⟨S4x256x6, .f32⟩
  | 121 => ⟨S4x1024, .i32⟩
  | 122 => ⟨S_, .i32⟩
  | 123 => ⟨S4, .i32⟩
  | 124 => ⟨S_, .i32⟩
  | 125 => ⟨S4, .i32⟩
  | 126 => ⟨S4, .i32⟩
  | _ => ⟨S4x20000x4, .f32⟩

abbrev hbmTy (i : Nat) : BufTy := match i / 128 with
  | 0 => hbmTy0_0 i
  | 1 => hbmTy0_1 i
  | _ => ⟨S4x20000x4, .f32⟩

abbrev bufTy : (tb : Table) → Fin (tcTables nBuf tb) → BufTy
  | .hbm, ⟨i, _⟩ => hbmTy i
  | _, _ => ⟨S4x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v1 : Ref sig .tc := ⟨.hbm, 8, rfl⟩
abbrev main_values : Ref sig .tc := ⟨.hbm, 9, rfl⟩
abbrev main_indices : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_9 : Ref sig .tc := ⟨.hbm, 89, rfl⟩
abbrev main_v70 : Ref sig .tc := ⟨.hbm, 90, rfl⟩
abbrev main_c_10 : Ref sig .tc := ⟨.hbm, 91, rfl⟩
abbrev main_c_11 : Ref sig .tc := ⟨.hbm, 92, rfl⟩
abbrev main_v71_0 : Ref sig .tc := ⟨.hbm, 93, rfl⟩
abbrev main_v71_1 : Ref sig .tc := ⟨.hbm, 94, rfl⟩
abbrev main_v71_2 : Ref sig .tc := ⟨.hbm, 95, rfl⟩
abbrev main_v71_3 : Ref sig .tc := ⟨.hbm, 96, rfl⟩
abbrev main_v71_4 : Ref sig .tc := ⟨.hbm, 97, rfl⟩
abbrev main_v71_5 : Ref sig .tc := ⟨.hbm, 98, rfl⟩
abbrev main_v71_6 : Ref sig .tc := ⟨.hbm, 99, rfl⟩
abbrev main_while0c_c_32 : Ref sig .tc := ⟨.hbm, 100, rfl⟩
abbrev main_while0c_v117 : Ref sig .tc := ⟨.hbm, 101, rfl⟩
abbrev main_while0b_c_32 : Ref sig .tc := ⟨.hbm, 102, rfl⟩
abbrev main_while0b_v117 : Ref sig .tc := ⟨.hbm, 103, rfl⟩
abbrev main_while0b_v118 : Ref sig .tc := ⟨.hbm, 104, rfl⟩
abbrev main_while0b_c_33 : Ref sig .tc := ⟨.hbm, 105, rfl⟩
abbrev main_while0b_c_34 : Ref sig .tc := ⟨.hbm, 106, rfl⟩
abbrev main_while0b_v119 : Ref sig .tc := ⟨.hbm, 107, rfl⟩
abbrev main_while0b_c_35 : Ref sig .tc := ⟨.hbm, 108, rfl⟩
abbrev main_while0b_c_36 : Ref sig .tc := ⟨.hbm, 109, rfl⟩
abbrev main_while0b_v120 : Ref sig .tc := ⟨.hbm, 110, rfl⟩
abbrev main_while0b_c_37 : Ref sig .tc := ⟨.hbm, 111, rfl⟩
abbrev main_while0b_v121 : Ref sig .tc := ⟨.hbm, 112, rfl⟩
abbrev main_while0b_c_38 : Ref sig .tc := ⟨.hbm, 113, rfl⟩
abbrev main_while0b_v122 : Ref sig .tc := ⟨.hbm, 114, rfl⟩
abbrev main_while0b_c_39 : Ref sig .tc := ⟨.hbm, 115, rfl⟩
abbrev main_while0b_v123 : Ref sig .tc := ⟨.hbm, 116, rfl⟩
abbrev main_while0b_v124 : Ref sig .tc := ⟨.hbm, 117, rfl⟩
abbrev main_while0b_v125 : Ref sig .tc := ⟨.hbm, 118, rfl⟩
abbrev main_while0b_v126 : Ref sig .tc := ⟨.hbm, 119, rfl⟩
abbrev main_while0b_v127 : Ref sig .tc := ⟨.hbm, 120, rfl⟩
abbrev main_while0b_v128 : Ref sig .tc := ⟨.hbm, 121, rfl⟩
abbrev main_while0b_c_40 : Ref sig .tc := ⟨.hbm, 122, rfl⟩
abbrev main_while0b_c_41 : Ref sig .tc := ⟨.hbm, 123, rfl⟩
abbrev main_while0b_v129 : Ref sig .tc := ⟨.hbm, 124, rfl⟩
abbrev main_while0b_c_42 : Ref sig .tc := ⟨.hbm, 125, rfl⟩
abbrev main_while0b_c_43 : Ref sig .tc := ⟨.hbm, 126, rfl⟩
abbrev main_while0b_v130 : Ref sig .tc := ⟨.hbm, 127, rfl⟩
abbrev main_while0b_c_44 : Ref sig .tc := ⟨.hbm, 128, rfl⟩
abbrev main_while0b_v131 : Ref sig .tc := ⟨.hbm, 129, rfl⟩
abbrev main_while0b_c_45 : Ref sig .tc := ⟨.hbm, 130, rfl⟩
abbrev main_while0b_v132 : Ref sig .tc := ⟨.hbm, 131, rfl⟩
abbrev main_while0b_c_46 : Ref sig .tc := ⟨.hbm, 132, rfl⟩
abbrev main_while0b_v133 : Ref sig .tc := ⟨.hbm, 133, rfl⟩
abbrev main_while0b_v134 : Ref sig .tc := ⟨.hbm, 134, rfl⟩
abbrev main_while0b_v135 : Ref sig .tc := ⟨.hbm, 135, rfl⟩
abbrev main_while0b_v136 : Ref sig .tc := ⟨.hbm, 136, rfl⟩
abbrev main_while0b_v137 : Ref sig .tc := ⟨.hbm, 137, rfl⟩
abbrev main_while0b_c_47 : Ref sig .tc := ⟨.hbm, 138, rfl⟩
abbrev main_while0b_v138 : Ref sig .tc := ⟨.hbm, 139, rfl⟩
abbrev main_while0b_c_48 : Ref sig .tc := ⟨.hbm, 140, rfl⟩
abbrev main_while0b_v139 : Ref sig .tc := ⟨.hbm, 141, rfl⟩
abbrev main_while0b_v140 : Ref sig .tc := ⟨.hbm, 142, rfl⟩
abbrev main_while0b_v141 : Ref sig .tc := ⟨.hbm, 143, rfl⟩
abbrev main_while0b_v142 : Ref sig .tc := ⟨.hbm, 144, rfl⟩
abbrev main_while0b_v143 : Ref sig .tc := ⟨.hbm, 145, rfl⟩
abbrev main_while0b_v144 : Ref sig .tc := ⟨.hbm, 146, rfl⟩
abbrev main_while0b_c_49 : Ref sig .tc := ⟨.hbm, 147, rfl⟩
abbrev main_while0b_c_50 : Ref sig .tc := ⟨.hbm, 148, rfl⟩
abbrev main_while0b_v145 : Ref sig .tc := ⟨.hbm, 149, rfl⟩
abbrev main_while0b_c_51 : Ref sig .tc := ⟨.hbm, 150, rfl⟩
abbrev main_while0b_c_52 : Ref sig .tc := ⟨.hbm, 151, rfl⟩
abbrev main_while0b_v146 : Ref sig .tc := ⟨.hbm, 152, rfl⟩
abbrev main_while0b_c_53 : Ref sig .tc := ⟨.hbm, 153, rfl⟩
abbrev main_while0b_v147 : Ref sig .tc := ⟨.hbm, 154, rfl⟩
abbrev main_while0b_c_54 : Ref sig .tc := ⟨.hbm, 155, rfl⟩
abbrev main_while0b_v148 : Ref sig .tc := ⟨.hbm, 156, rfl⟩
abbrev main_while0b_c_55 : Ref sig .tc := ⟨.hbm, 157, rfl⟩
abbrev main_while0b_v149 : Ref sig .tc := ⟨.hbm, 158, rfl⟩
abbrev main_while0b_v150 : Ref sig .tc := ⟨.hbm, 159, rfl⟩
abbrev main_while0b_c_56 : Ref sig .tc := ⟨.hbm, 160, rfl⟩
abbrev main_while0b_c_57 : Ref sig .tc := ⟨.hbm, 161, rfl⟩
abbrev main_while0b_v151 : Ref sig .tc := ⟨.hbm, 162, rfl⟩
abbrev main_while0b_c_58 : Ref sig .tc := ⟨.hbm, 163, rfl⟩
abbrev main_while0b_c_59 : Ref sig .tc := ⟨.hbm, 164, rfl⟩
abbrev main_while0b_v152 : Ref sig .tc := ⟨.hbm, 165, rfl⟩
abbrev main_while0b_c_60 : Ref sig .tc := ⟨.hbm, 166, rfl⟩
abbrev main_while0b_v153 : Ref sig .tc := ⟨.hbm, 167, rfl⟩
abbrev main_while0b_v154 : Ref sig .tc := ⟨.hbm, 168, rfl⟩
abbrev main_while0b_v155 : Ref sig .tc := ⟨.hbm, 169, rfl⟩
abbrev main_while0b_cst_61 : Ref sig .tc := ⟨.hbm, 170, rfl⟩
abbrev main_while0b_v156 : Ref sig .tc := ⟨.hbm, 171, rfl⟩
abbrev main_while0b_v157 : Ref sig .tc := ⟨.hbm, 172, rfl⟩
abbrev main_while0b_v158 : Ref sig .tc := ⟨.hbm, 173, rfl⟩
abbrev main_while0b_v159 : Ref sig .tc := ⟨.hbm, 174, rfl⟩
abbrev main_while0b_v160 : Ref sig .tc := ⟨.hbm, 175, rfl⟩
abbrev main_while0b_v161 : Ref sig .tc := ⟨.hbm, 176, rfl⟩
abbrev main_while0b_v162 : Ref sig .tc := ⟨.hbm, 177, rfl⟩
abbrev main_while0b_v163 : Ref sig .tc := ⟨.hbm, 178, rfl⟩
abbrev main_while0b_v164 : Ref sig .tc := ⟨.hbm, 179, rfl⟩
abbrev main_while0b_v165 : Ref sig .tc := ⟨.hbm, 180, rfl⟩
abbrev main_while0b_v166 : Ref sig .tc := ⟨.hbm, 181, rfl⟩
abbrev main_while0b_v167 : Ref sig .tc := ⟨.hbm, 182, rfl⟩
abbrev main_while0b_c_62 : Ref sig .tc := ⟨.hbm, 183, rfl⟩
abbrev main_while0b_v168 : Ref sig .tc := ⟨.hbm, 184, rfl⟩
abbrev main_c_12 : Ref sig .tc := ⟨.hbm, 185, rfl⟩
abbrev main_v72 : Ref sig .tc := ⟨.hbm, 186, rfl⟩
abbrev main_v73 : Ref sig .tc := ⟨.hbm, 187, rfl⟩
abbrev main_call1_v0 : Ref sig .tc := ⟨.hbm, 188, rfl⟩
abbrev main_call1_v1 : Ref sig .tc := ⟨.hbm, 189, rfl⟩
abbrev main_v74 : Ref sig .tc := ⟨.hbm, 190, rfl⟩
abbrev main_call2_v0 : Ref sig .tc := ⟨.hbm, 191, rfl⟩
abbrev main_call2_v1_0 : Ref sig .tc := ⟨.hbm, 192, rfl⟩
abbrev main_v75 : Ref sig .tc := ⟨.hbm, 193, rfl⟩
abbrev main_v76 : Ref sig .tc := ⟨.hbm, 194, rfl⟩
abbrev main_c_13 : Ref sig .tc := ⟨.hbm, 195, rfl⟩
abbrev main_v77 : Ref sig .tc := ⟨.hbm, 196, rfl⟩
abbrev main_v78 : Ref sig .tc := ⟨.hbm, 197, rfl⟩
abbrev main_c_14 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_c_15 : Ref sig .tc := ⟨.hbm, 205, rfl⟩
abbrev main_v85 : Ref sig .tc := ⟨.hbm, 206, rfl⟩
abbrev main_v86 : Ref sig .tc := ⟨.hbm, 207, rfl⟩
abbrev main_c_16 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_v91 : Ref sig .tc := ⟨.hbm, 213, rfl⟩
abbrev main_cst_17 : Ref sig .tc := ⟨.hbm, 214, rfl⟩
abbrev main_call3_v0 : Ref sig .tc := ⟨.hbm, 215, rfl⟩
abbrev main_call3_v1 : Ref sig .tc := ⟨.hbm, 216, rfl⟩
abbrev main_call3_v2 : Ref sig .tc := ⟨.hbm, 217, rfl⟩
abbrev main_v92 : Ref sig .tc := ⟨.hbm, 218, rfl⟩
abbrev main_c_18 : Ref sig .tc := ⟨.hbm, 219, rfl⟩
abbrev main_v93 : Ref sig .tc := ⟨.hbm, 220, rfl⟩
abbrev main_v94 : Ref sig .tc := ⟨.hbm, 221, rfl⟩
abbrev main_c_19 : Ref sig .tc := ⟨.hbm, 222, rfl⟩
abbrev main_v95 : Ref sig .tc := ⟨.hbm, 223, rfl⟩
abbrev main_v96 : Ref sig .tc := ⟨.hbm, 224, rfl⟩
abbrev main_v97 : Ref sig .tc := ⟨.hbm, 225, rfl⟩
abbrev main_v98 : Ref sig .tc := ⟨.hbm, 226, rfl⟩
abbrev main_v99 : Ref sig .tc := ⟨.hbm, 227, rfl⟩
abbrev main_cst_20 : Ref sig .tc := ⟨.hbm, 228, rfl⟩
abbrev main_call4_v0 : Ref sig .tc := ⟨.hbm, 229, rfl⟩
abbrev main_call4_v1 : Ref sig .tc := ⟨.hbm, 230, rfl⟩
abbrev main_v100 : Ref sig .tc := ⟨.hbm, 231, rfl⟩
abbrev main_c_21 : Ref sig .tc := ⟨.hbm, 232, rfl⟩
abbrev main_v101 : Ref sig .tc := ⟨.hbm, 233, rfl⟩
abbrev main_v102 : Ref sig .tc := ⟨.hbm, 234, rfl⟩
abbrev main_c_22 : Ref sig .tc := ⟨.hbm, 235, rfl⟩
abbrev main_v103 : Ref sig .tc := ⟨.hbm, 236, rfl⟩
abbrev main_v104 : Ref sig .tc := ⟨.hbm, 237, rfl⟩
abbrev main_v105 : Ref sig .tc := ⟨.hbm, 238, rfl⟩
abbrev main_v106 : Ref sig .tc := ⟨.hbm, 239, rfl⟩
abbrev main_v107 : Ref sig .tc := ⟨.hbm, 240, rfl⟩
abbrev main_c_23 : Ref sig .tc := ⟨.hbm, 241, rfl⟩
abbrev main_call5_v0 : Ref sig .tc := ⟨.hbm, 242, rfl⟩
abbrev main_call5_v1 : Ref sig .tc := ⟨.hbm, 243, rfl⟩
abbrev main_v108 : Ref sig .tc := ⟨.hbm, 244, rfl⟩
abbrev main_v109 : Ref sig .tc := ⟨.hbm, 245, rfl⟩
abbrev main_v110 : Ref sig .tc := ⟨.hbm, 246, rfl⟩
abbrev main_v111 : Ref sig .tc := ⟨.hbm, 247, rfl⟩
abbrev main_v112 : Ref sig .tc := ⟨.hbm, 248, rfl⟩
abbrev main_v113 : Ref sig .tc := ⟨.hbm, 249, rfl⟩
abbrev main_c_24 : Ref sig .tc := ⟨.hbm, 250, rfl⟩
abbrev main_v114 : Ref sig .tc := ⟨.hbm, 251, rfl⟩
abbrev main_c_25 : Ref sig .tc := ⟨.hbm, 252, rfl⟩
abbrev main_v115 : Ref sig .tc := ⟨.hbm, 253, rfl⟩
abbrev main_v116 : Ref sig .tc := ⟨.hbm, 254, rfl⟩

abbrev nD : Nat := 1
abbrev τ : Topo := Topo.v7x

variable {F : FTy → Type} [FloatOps F]

abbrev main_while0_count : Scf.Loop 32 := ⟨0#32, 1024#32, 1#32⟩
-- ==== Proof.Model.lean ====
/-
  What one block of the kernel's loop computes, as pure functions. A block is eight consecutive candidates; the state
  that travels from block to block is the row of keep flags, the count of kept candidates and the output rows.
-/
module

public import proofs.«01_k».proof.Proof.Gen.KernelIdeal
public import proofs.«01_k».proof.Proof.Gen.KernelIdeal.Skeleton
public import Idealize.ShloMosaic.Lib.Pointwise

@[expose] public section

noncomputable section

namespace Cert.KernelIdeal.Nms

open Idealize.ShloMosaic Idealize.ShloMosaic.TcCoe
open Cert.KernelIdeal Cert.KernelIdeal.Gen

variable {F : FTy → Type} [FloatOps F]

/-- What a grid point's loop reads and never writes: the four rows of corner coordinates and the row of areas, the
    candidates as a table of rows, and the scores. -/
structure Ctx (F : FTy → Type) where
  v1 : FVec F S1x1024 .f32
  v3 : FVec F S1x1024 .f32
  v5 : FVec F S1x1024 .f32
  v7 : FVec F S1x1024 .f32
  v14 : FVec F S1x1024 .f32
  x2 : Vec F S1x1024x8 .f32
  x3 : Vec F S1x1x1024 .f32

/-- What the loop carries: keep flags inside the current block, keep flags over all candidates, how many are kept, and
    the output rows. -/
structure St (F : FTy → Type) where
  kc : FVec F S8x1 .f32
  kp : FVec F S1x1024 .f32
  cnt : BitVec 32
  o : Vec F S1x256x8 .f32

/-- The lane numbers `0 … 1023` along a row. -/
abbrev lanes : IVec S1x1024 32 := iota .tc S1x1024 32 [1] iota_S1x1024_d1_w32
/-- The positions `0 … 7` inside a block. -/
abbrev spots : IVec S8x1 32 := iota .tc S8x1 32 [0] iota_S8x1_d0_w32

/-- The block's number as a word, and the word of its first candidate. -/
abbrev blkW (b : Fin 128) : BitVec 32 := BitVec.ofNat 32 b.val
abbrev base (b : Fin 128) : BitVec 32 := Scalar.muli (blkW b) 8#32

theorem cand_lt (b : Fin 128) {k : ℕ} (hk : k < 8) : 8 * b.val + k < 1024 := by have := b.isLt; omega

/-- The candidate at position `k` of block `b`. -/
abbrev cand (b : Fin 128) (k : ℕ) (hk : k < 8) : Fin 1024 := ⟨8 * b.val + k, cand_lt b hk⟩

/-- The eight table rows of block `b`. -/
def Ctx.cols (C : Ctx F) (b : Fin 128) : Vec F S1x8x8 .f32 := fun i => C.x2 (ix3 0 (cand b (i 1).val (i 1).isLt) (i 2))
/-- The table row at position `k` of block `b`. -/
def Ctx.row (C : Ctx F) (b : Fin 128) (k : ℕ) (hk : k < 8) : Vec F S1x1x8 .f32 := fun i => C.x2 (ix3 0 (cand b k hk) (i 2))
/-- The score at position `k` of block `b`. -/
def Ctx.sco (C : Ctx F) (b : Fin 128) (k : ℕ) (hk : k < 8) : F .f32 := C.x3 (ix3 0 0 (cand b k hk))

/-- For each member of the block, the largest flag among earlier kept candidates that overlap it. -/
def Ctx.pre (C : Ctx F) (b : Fin 128) (kp : FVec F S1x1024 .f32) : FVec F S8x1 .f32 :=
  k0_pay16 C.v1 C.v3 C.v5 C.v7 C.v14 kp (C.cols b)
/-- The overlap flags between members of the block. -/
def Ctx.msk (C : Ctx F) (b : Fin 128) : FVec F S8x8 .f32 :=
  k0_pay17 (k0_pay10 (C.cols b)) (k0_pay11 (C.cols b)) (k0_pay12 (C.cols b)) (k0_pay13 (C.cols b)) (k0_pay14 (C.cols b)) (k0_pay15 (C.cols b))

theorem slice_row (k : ℕ) (hk : k < 8) : S8x1.Slices ![k, 0] S1x1 := by
  interval_cases k <;> decide
theorem slice_col (k : ℕ) (hk : k < 8) : S8x8.Slices ![0, k] S8x1 := by
  interval_cases k <;> decide

/-- The entry of `pre` for position `k`. -/
def preAt (v71 : FVec F S8x1 .f32) (k : ℕ) (hk : k < 8) : F .f32 :=
  extractAt ![0, 0] (extractStridedSlice S1x1 ![k, 0] v71 (slice_row k hk)) inpos_S1x1_p0_0
/-- The largest flag among the block's kept members that overlap position `k`. -/
def supAt (kc : FVec F S8x1 .f32) (m : FVec F S8x8 .f32) (k : ℕ) (hk : k < 8) : F .f32 :=
  extractAt ![0, 0, 0] (shapeCast S1x1x1 (multiReduction .maximumf [1, 2] S1 (shapeCast S1x8x1 (mulf kc
    (extractStridedSlice S8x1 ![0, k] m (slice_col k hk))) shapeCasts_S8x1_S1x8x1) 0xFF800000#32 reduces_S1x8x1_S1 (.inl rfl) rfl)
    shapeCasts_S1_S1x1x1) inpos_S1x1x1_p0_0_0

/-- No earlier block suppresses position `k`; nor an earlier member of this block; and its score is large enough. -/
def pB (v71 : FVec F S8x1 .f32) (k : ℕ) (hk : k < 8) : BitVec 1 := Scalar.cmpf .ole (preAt v71 k hk) (Scalar.ofBits .f32 0x00000000#32)
def iB (kc : FVec F S8x1 .f32) (m : FVec F S8x8 .f32) (k : ℕ) (hk : k < 8) : BitVec 1 :=
  Scalar.cmpf .ole (supAt kc m k hk) (Scalar.ofBits .f32 0x00000000#32)
def sB (s : F .f32) : BitVec 1 := Scalar.cmpf .ogt s (Scalar.ofBits .f32 0x3DCCCCCD#32)

/-- Position `k` is kept. -/
def Ctx.kB (C : Ctx F) (b : Fin 128) (v71 : FVec F S8x1 .f32) (k : ℕ) (hk : k < 8) (s : St F) : BitVec 1 :=
  Scalar.andi (Scalar.andi (pB v71 k hk) (iB s.kc (C.msk b) k hk)) (sB (C.sco b k hk))

def kcNext (k : ℕ) (t : BitVec 1) (kc : FVec F S8x1 .f32) : FVec F S8x1 .f32 :=
  select (andi (cmpi .eq spots (broadcast S8x1 (BitVec.ofNat 32 k))) (broadcast S8x1 t)) (broadcast S8x1 (Scalar.ofBits .f32 0x3F800000#32)) kc
/-- The lanes to flag when position `k` of block `b` is decided by `t`. -/
def kpSel (b : Fin 128) (k : ℕ) (t : BitVec 1) : IVec S1x1024 1 :=
  andi (cmpi .eq lanes (broadcast S1x1024 (Scalar.addi (base b) (BitVec.ofNat 32 k)))) (broadcast S1x1024 t)
def kpNext (b : Fin 128) (k : ℕ) (t : BitVec 1) (kp : FVec F S1x1024 .f32) : FVec F S1x1024 .f32 :=
  select (kpSel b k t) (broadcast S1x1024 (Scalar.ofBits .f32 0x3F800000#32)) kp

/-- The bit that guards the store of an output row: the candidate is kept and there is room. -/
abbrev room (t : BitVec 1) (cnt : BitVec 32) : BitVec 1 :=
  Scalar.cmpi .ne (Scalar.extui (Scalar.andi t (Scalar.cmpi .slt cnt 256#32)) : BitVec 32) 0#32

/-- The output rows with row `cnt` replaced by `row`, when the guard is set. -/
def put (g : BitVec 1) (cnt : BitVec 32) (row : Vec F S1x1x8 .f32) (o : Vec F S1x256x8 .f32) : Vec F S1x256x8 .f32 :=
  fun i => if g = 1#1 ∧ (i 1).val = cnt.toNat then row (ix3 0 0 (i 2)) else o i

/-- The decision at position `k`: flags, count and output rows follow. -/
def Ctx.step (C : Ctx F) (b : Fin 128) (v71 : FVec F S8x1 .f32) (k : ℕ) (hk : k < 8) (s : St F) : St F where
  kc := kcNext k (C.kB b v71 k hk s) s.kc
  kp := kpNext b k (C.kB b v71 k hk s) s.kp
  cnt := Scalar.addi s.cnt (Scalar.extui (C.kB b v71 k hk s))
  o := put (room (C.kB b v71 k hk s) s.cnt) s.cnt (C.row b k hk) s.o

/-- A block starts with no member flagged. -/
def start (kp : FVec F S1x1024 .f32) (cnt : BitVec 32) (o : Vec F S1x256x8 .f32) : St F := ⟨k0_pay18, kp, cnt, o⟩

section
variable (C : Ctx F) (b : Fin 128) (kp : FVec F S1x1024 .f32) (cnt : BitVec 32) (o : Vec F S1x256x8 .f32)

/-- The states inside a block: before position `k`. -/
def Ctx.s0 : St F := start kp cnt o
def Ctx.s1 : St F := C.step b (C.pre b kp) 0 (by omega) (Ctx.s0 kp cnt o)
def Ctx.s2 : St F := C.step b (C.pre b kp) 1 (by omega) (C.s1 b kp cnt o)
def Ctx.s3 : St F := C.step b (C.pre b kp) 2 (by omega) (C.s2 b kp cnt o)
def Ctx.s4 : St F := C.step b (C.pre b kp) 3 (by omega) (C.s3 b kp cnt o)
def Ctx.s5 : St F := C.step b (C.pre b kp) 4 (by omega) (C.s4 b kp cnt o)
def Ctx.s6 : St F := C.step b (C.pre b kp) 5 (by omega) (C.s5 b kp cnt o)
def Ctx.s7 : St F := C.step b (C.pre b kp) 6 (by omega) (C.s6 b kp cnt o)
def Ctx.s8 : St F := C.step b (C.pre b kp) 7 (by omega) (C.s7 b kp cnt o)

end

/-- What the blocks from `128 - n` on leave: they run while the count leaves room. -/
def Ctx.loop (C : Ctx F) : ℕ → FVec F S1x1024 .f32 → BitVec 32 → Vec F S1x256x8 .f32 → BitVec 32 × Vec F S1x256x8 .f32
  | 0, _, cnt, o => (cnt, o)
  | n + 1, kp, cnt, o =>
    if h : 127 - n < 128 ∧ Scalar.cmpi .slt cnt 256#32 = 1#1 then
      C.loop n (C.s8 ⟨127 - n, h.1⟩ kp cnt o).kp (C.s8 ⟨127 - n, h.1⟩ kp cnt o).cnt (C.s8 ⟨127 - n, h.1⟩ kp cnt o).o
    else (cnt, o)

end Cert.KernelIdeal.Nms

end
-- ==== Proof.Access.lean ====
/-
  Reading and writing a whole buffer that is known to hold given contents: one rule for a block of table rows, one for a
  score, one for the guarded copy of a table row into the output rows, and one for the plain whole-buffer store.
-/
module

public import proofs.«01_k».proof.Proof.Model
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WholeRead

@[expose] public section

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loop's label is answered at a number of blocks still to run. -/
abbrev trips : Variants := Variants.nat

section
variable (c : Dev nD) (bd : Option ℕ) (E : Set ℕ)

/-- The whole buffer `m` of core `c` holds `X`. -/
def has {sp : Space} {s : Shape} {e : EltTy} (m : Memref sig .tc sp s e) (h : m.IsWhole) (X : s.Idx → Elt F e) : sProp 𝕄 :=
  iprop(m.view.loc (c : Thread nD τ) ↦[m.view.set]{fullShare} h.unread X)

theorem wp_read {sp : CoreSpace} {s : Shape} {e : EltTy} (m : Memref sig .tc sp s e) (h : m.IsWhole) (X : s.Idx → Elt F e)
    (r : Rect s) (hl : m.view.LoadsAt r.toLoadRect) (Y : r.shape.Idx → Elt F e) (hY : ∀ x, X (r.toLoadRect.idx x) = Y x) (Q : (r.shape.Idx → Elt F e) → sProp 𝕄) :
    iprop(has c m h X ∗ (has c m h X -∗ Q Y))
      ⊢ wp frame (wpE (defs₀ (F := F)) trips (c : Thread nD τ) bd) E (Prog.lift (.load m r.toLoadRect hl)) Q := by
  have e : m.view.readAt (Elt F) r.toLoadRect (h.unread X) = Y := funext fun x => by
    rw [View.readAt_apply, h.read_unread]; exact hY x
  unfold has Prog.lift
  iintro ⟨H, Hk⟩
  iapply (wp_load trips (c : Thread nD τ) bd E (m := m) (r := r.toLoadRect) (S := m.view.set) (View.setOn_subset_set _ _)) $$ H
  iintro H
  rw [e, wp_ret]; imodintro
  iapply Hk; iexact H

/-- One word of the scores. -/
theorem wp_word (m : Memref sig .tc .smem S1x1x1024 .f32) (h : m.IsWhole) (X : Vec F S1x1x1024 .f32) {off : Fin 3 → ℕ}
    (inb : ∀ a, off a + S1x1x1.size a ≤ S1x1x1024.size a) (h1 : (Rect.unit (s := S1x1x1024) off S1x1x1.size inb).shape.numel = 1)
    (hp : EltTy.f32.packing = 1) (n : Fin 1024) (hn : off = ![0, 0, n.val]) (Q : Elt F .f32 → sProp 𝕄) :
    iprop(has c m h X ∗ (has c m h X -∗ Q (X (ix3 0 0 n))))
      ⊢ wp frame (wpE (defs₀ (F := F)) trips (c : Thread nD τ) bd) E
          (smemLoad m (Rect.unit (s := S1x1x1024) off S1x1x1.size inb) h1 hp) Q := by
  subst hn
  have e : m.view.readAt (Elt F) (Rect.unit (s := S1x1x1024) ![0, 0, n.val] S1x1x1.size inb).toLoadRect (h.unread X)
      (Shape.Idx.first (h1.symm ▸ Nat.one_pos)) = X (ix3 0 0 n) := by
    rw [View.readAt_apply, h.read_unread]
    congr 1
    funext a
    fin_cases a <;> rfl
  unfold has smemLoad smemLoadElt
  iintro ⟨H, Hk⟩
  iapply (wp_load trips (c : Thread nD τ) bd E (m := m) (S := m.view.set) (View.setOn_subset_set _ _)) $$ H
  iintro H
  rw [e, wp_ret]; imodintro
  iapply Hk; iexact H

/-- Storing through a rectangle replaces the contents there. -/
theorem write_rect {sp : Space} {s : Shape} {e : EltTy} (m : Memref sig .tc sp s e) (h : m.IsWhole) (X : s.Idx → Elt F e)
    (r : Rect s) (w : r.shape.Idx → Elt F e) :
    (m.access r).write (Elt F) (h.unread X) w Finset.univ = h.unread (r.overlay X w) := by
  refine h.eq_unread (funext fun j => ?_)
  by_cases hj : j ∈ r.set
  · rw [← Rect.map_emb_univ, Finset.mem_map] at hj
    obtain ⟨x, -, rfl⟩ := hj
    rw [Rect.overlay_emb]
    exact congrFun (View.read_write_univ (v := m.access r) (Val := Elt F) (h.unread X) w) x
  · rw [Rect.overlay_of_not_mem _ _ _ hj]
    have h1 : m.view.emb j ∉ (m.access r).setOn Finset.univ := by
      rw [View.setOn_univ, View.set_slice]
      exact fun hm => hj ((Finset.mem_map' _).mp hm)
    rw [View.read_apply]
    erw [View.write_of_not_mem _ _ _ h1]
    rw [← View.read_apply, h.read_unread]

theorem wp_fill {sp : CoreSpace} {s : Shape} {e : EltTy} (m : Memref sig .tc sp s e) (h : m.IsWhole) (X : s.Idx → Elt F e)
    (r : Rect s) (w : r.shape.Idx → Elt F e) (hx : (m.access r).Stores Finset.univ) (hm) (Q : PUnit → sProp 𝕄) :
    iprop(has c m h X ∗ (has c m h (r.overlay X w) -∗ Q ⟨⟩))
      ⊢ wp frame (wpE (defs₀ (F := F)) trips (c : Thread nD τ) bd) E (Prog.lift (.store m r w Finset.univ hx hm)) Q := by
  unfold has Prog.lift
  iintro ⟨H, Hk⟩
  iapply (wp_store trips (c : Thread nD τ) bd E (m := m) (r := r) (Mk := Finset.univ) (S := m.view.set)
    (by rw [View.setOn_univ, View.set_slice]; exact View.setOn_subset_set _ _)) $$ H
  iintro H
  rw [write_rect, wp_ret]; imodintro
  iapply Hk; iexact H

/-- Overlaying one output row is the guarded update. -/
theorem overlay_row {off : Fin 3 → ℕ} (inb : ∀ a, off a + S1x1x8.size a ≤ S1x256x8.size a) (cnt : BitVec 32)
    (hoff : off = ![0, cnt.toNat, 0]) (o : Vec F S1x256x8 .f32) (row : Vec F S1x1x8 .f32) :
    (Rect.unit (s := S1x256x8) off S1x1x8.size inb).overlay o row = put 1#1 cnt row o := by
  subst hoff
  funext j
  unfold put
  by_cases hj : (j 1).val = cnt.toNat
  · rw [if_pos ⟨rfl, hj⟩]
    have : j = (Rect.unit (s := S1x256x8) ![0, cnt.toNat, 0] S1x1x8.size inb).emb (ix3 0 0 (j 2)) := by
      funext a
      fin_cases a
      · have h0 : (j 0).val < 1 := (j 0).isLt
        exact Fin.ext (show (j 0).val = 0 + 1 * 0 by omega)
      · exact Fin.ext (show (j 1).val = cnt.toNat + 1 * 0 by omega)
      · exact Fin.ext (show (j 2).val = 0 + 1 * (j 2).val by omega)
    conv_lhs => rw [this]
    rw [Rect.overlay_emb]
  · rw [if_neg (fun h => hj h.2)]
    refine Rect.overlay_of_not_mem _ _ _ fun hm => hj ?_
    have := (Rect.mem_set_unit.mp hm) 1
    simp [S1x1x8] at this
    omega

/-- The guarded copy of table row `k` of block `b` into output row `cnt`, then the rest. -/
theorem wp_guarded {α : Type} (m2 : Memref sig .tc .vmem S1x1024x8 .f32) (h2 : m2.IsWhole) (C : Ctx F)
    (m4 : Memref sig .tc .vmem S1x256x8 .f32) (h4 : m4.IsWhole) (o : Vec F S1x256x8 .f32)
    (b : Fin 128) (k : ℕ) (hk : k < 8) (g : BitVec 1) (cnt : BitVec 32) {o2 o4 : Fin 3 → ℕ}
    (e2 : o2 = ![0, 8 * b.val + k, 0]) (e4 : o4 = ![0, cnt.toNat, 0])
    (i2 : g = 1#1 → ∀ a, o2 a + S1x1x8.size a ≤ S1x1024x8.size a)
    (i4 : g = 1#1 → ∀ a, o4 a + S1x1x8.size a ≤ S1x256x8.size a)
    (pay : Vec F S1x1x8 .f32 → FVec F S1x1x8 .f32) (hpay : ∀ v, pay v = v)
    (p : Prog (TpuEff nD τ sig (Elt F) (Λ₀ F) .tc) α) (Q : α → sProp 𝕄) :
    iprop(has c m2 h2 C.x2 ∗ has c m4 h4 o ∗ (has c m2 h2 C.x2 -∗ has c m4 h4 (put g cnt (C.row b k hk) o)
        -∗ wp frame (wpE (defs₀ (F := F)) trips (c : Thread nD τ) bd) E p Q))
      ⊢ wp frame (wpE (defs₀ (F := F)) trips (c : Thread nD τ) bd) E
          (if hg : g = 1#1 then
            (Prog.lift (.load m2 (Rect.unit (s := S1x1024x8) o2 S1x1x8.size (i2 hg)).toLoadRect (View.loadsAt_vmem h_S1x1x8)) >>= fun v =>
              Prog.lift (.load m4 (Rect.unit (s := S1x256x8) o4 S1x1x8.size (i4 hg)).toLoadRect (View.loadsAt_vmem h_S1x1x8)) >>= fun _ =>
              Prog.lift (.store m4 (Rect.unit (s := S1x256x8) o4 S1x1x8.size (i4 hg)) (pay v) Finset.univ (View.stores_vmem_bits_univ h_S1x1x8 rfl) (.inl rfl)) >>= fun _ => p)
          else p) Q := by
  by_cases hg : g = 1#1
  · rw [dif_pos hg]
    simp only [wp_bind]
    iintro ⟨H2, H4, Hk⟩
    iapply (wp_read c bd E m2 h2 C.x2 _ _ (C.row b k hk) (fun x => by
      subst e2
      unfold Ctx.row
      congr 1
      funext a
      fin_cases a
      · exact Fin.ext (by have := (x 0).isLt; simpa [LoadRect.idx, ix3] using this)
      · exact Fin.ext (by have := (x 1).isLt; simpa [LoadRect.idx, ix3] using this)
      · exact Fin.ext (by simp [LoadRect.idx, ix3])))
    isplitl [H2]; · iexact H2
    iintro H2
    iapply (wp_read c bd E m4 h4 o _ _ _ (fun x => rfl))
    isplitl [H4]; · iexact H4
    iintro H4
    iapply (wp_fill c bd E m4 h4 o)
    isplitl [H4]; · iexact H4
    rw [hpay, overlay_row (i4 hg) cnt e4]
    subst hg
    iintro H4
    ihave Hk := Hk $$ H2
    iapply Hk; iexact H4
  · rw [dif_neg hg]
    have : put g cnt (C.row b k hk) o = o := funext fun i => if_neg fun h => hg h.1
    rw [this]
    iintro ⟨H2, H4, Hk⟩
    ihave Hk := Hk $$ H2
    iapply Hk; iexact H4

end

end Cert.KernelIdeal.Nms

end
-- ==== Proof.Words.lean ====
/-
  The words the loop's body computes its addresses from, and the side conditions on them: a block's rows and scores lie
  inside the arrays, and an output row is stored only while the count leaves room for it.
-/
module

public import proofs.«01_k».proof.Proof.Access

@[expose] public section

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem base_nat (b : Fin 128) (k : ℕ) (hk : k < 8) : (Scalar.addi (base b) (BitVec.ofNat 32 k)).toNat = 8 * b.val + k := by
  have := b.isLt
  show (BitVec.ofNat 32 b.val * 8#32 + BitVec.ofNat 32 k).toNat = _
  simp only [BitVec.toNat_add, BitVec.toNat_mul, BitVec.toNat_ofNat]
  omega

theorem base_nat' (b : Fin 128) : (base b).toNat = 8 * b.val := by
  have := b.isLt
  show (BitVec.ofNat 32 b.val * 8#32).toNat = _
  simp only [BitVec.toNat_mul, BitVec.toNat_ofNat]
  omega

theorem slt_room (cnt : BitVec 32) (hc : cnt.toNat < 300) (h : Scalar.cmpi .slt cnt 256#32 = 1#1) : cnt.toNat < 256 := by
  by_contra hge
  have h1 : cnt.slt 256#32 = true := by
    cases hs : cnt.slt 256#32 with
    | true => rfl
    | false => exact absurd ((congrArg BitVec.ofBool hs).symm.trans h) (by decide)
  rw [BitVec.slt_iff_toInt_lt, BitVec.toInt_eq_toNat_of_lt (by omega)] at h1
  have : (256#32 : BitVec 32).toInt = 256 := by decide
  omega

/-- A guard that is set leaves room for one more row. -/
theorem lt_of_room (t : BitVec 1) (cnt : BitVec 32) (hc : cnt.toNat < 300) (h : room t cnt = 1#1) : cnt.toNat < 256 := by
  have h2 : Scalar.cmpi .slt cnt 256#32 = 1#1 := by
    by_contra hne
    have h0 : Scalar.cmpi .slt cnt 256#32 = 0#1 := by
      rcases BitVec.eq_zero_or_eq_one (Scalar.cmpi .slt cnt 256#32) with h | h
      · exact h
      · exact absurd h hne
    have h3 : Scalar.andi t (Scalar.cmpi .slt cnt 256#32) = 0#1 := by rw [h0]; exact BitVec.and_zero
    unfold room at h
    rw [h3] at h
    exact absurd h (by decide)
  exact slt_room cnt hc h2

theorem add_bit_le (cnt : BitVec 32) (t : BitVec 1) : (Scalar.addi cnt (Scalar.extui t)).toNat ≤ cnt.toNat + 1 := by
  have h1 : (Scalar.extui t : BitVec 32).toNat ≤ 1 := by
    rcases BitVec.eq_zero_or_eq_one t with h | h <;> subst h <;> decide
  show (cnt + Scalar.extui t).toNat ≤ _
  rw [BitVec.toNat_add]
  have := Nat.mod_le (cnt.toNat + (Scalar.extui t : BitVec 32).toNat) (2 ^ 32)
  omega

theorem row_in (b : Fin 128) (k : ℕ) (hk : k < 8) {o2 : Fin 3 → ℕ} (e : o2 = ![0, 8 * b.val + k, 0]) :
    ∀ a, o2 a + S1x1x8.size a ≤ S1x1024x8.size a := by
  subst e
  have := cand_lt b hk
  intro a
  fin_cases a
  · exact le_refl 1
  · exact this
  · exact le_refl 8

theorem word_in (b : Fin 128) (k : ℕ) (hk : k < 8) {o2 : Fin 3 → ℕ} (e : o2 = ![0, 0, 8 * b.val + k]) :
    ∀ a, o2 a + S1x1x1.size a ≤ S1x1x1024.size a := by
  subst e
  have := cand_lt b hk
  intro a
  fin_cases a
  · exact le_refl 1
  · exact le_refl 1
  · exact this

theorem out_in (t : BitVec 1) (cnt : BitVec 32) (hc : cnt.toNat < 300) (h : room t cnt = 1#1) {o4 : Fin 3 → ℕ}
    (e : o4 = ![0, cnt.toNat, 0]) : ∀ a, o4 a + S1x1x8.size a ≤ S1x256x8.size a := by
  subst e
  have := lt_of_room t cnt hc h
  intro a
  fin_cases a
  · exact le_refl 1
  · exact this
  · exact le_refl 8

section
variable (b : Fin 128)

theorem off1_eq : k0_off1 (blkW b) = ![0, 8 * b.val, 0] := congrArg (fun n => ![0, n, 0]) (base_nat' b)
theorem off2_eq : k0_off2 (blkW b) = ![0, 0, 8 * b.val + 0] := congrArg (fun n => ![0, 0, n]) (base_nat b 0 (by omega))
theorem off3_eq : k0_off3 (blkW b) = ![0, 8 * b.val + 0, 0] := congrArg (fun n => ![0, n, 0]) (base_nat b 0 (by omega))
theorem off5_eq : k0_off5 (blkW b) = ![0, 0, 8 * b.val + 1] := congrArg (fun n => ![0, 0, n]) (base_nat b 1 (by omega))
theorem off6_eq : k0_off6 (blkW b) = ![0, 8 * b.val + 1, 0] := congrArg (fun n => ![0, n, 0]) (base_nat b 1 (by omega))
theorem off8_eq : k0_off8 (blkW b) = ![0, 0, 8 * b.val + 2] := congrArg (fun n => ![0, 0, n]) (base_nat b 2 (by omega))
theorem off9_eq : k0_off9 (blkW b) = ![0, 8 * b.val + 2, 0] := congrArg (fun n => ![0, n, 0]) (base_nat b 2 (by omega))
theorem off11_eq : k0_off11 (blkW b) = ![0, 0, 8 * b.val + 3] := congrArg (fun n => ![0, 0, n]) (base_nat b 3 (by omega))
theorem off12_eq : k0_off12 (blkW b) = ![0, 8 * b.val + 3, 0] := congrArg (fun n => ![0, n, 0]) (base_nat b 3 (by omega))
theorem off14_eq : k0_off14 (blkW b) = ![0, 0, 8 * b.val + 4] := congrArg (fun n => ![0, 0, n]) (base_nat b 4 (by omega))
theorem off15_eq : k0_off15 (blkW b) = ![0, 8 * b.val + 4, 0] := congrArg (fun n => ![0, n, 0]) (base_nat b 4 (by omega))
theorem off17_eq : k0_off17 (blkW b) = ![0, 0, 8 * b.val + 5] := congrArg (fun n => ![0, 0, n]) (base_nat b 5 (by omega))
theorem off18_eq : k0_off18 (blkW b) = ![0, 8 * b.val + 5, 0] := congrArg (fun n => ![0, n, 0]) (base_nat b 5 (by omega))
theorem off20_eq : k0_off20 (blkW b) = ![0, 0, 8 * b.val + 6] := congrArg (fun n => ![0, 0, n]) (base_nat b 6 (by omega))
theorem off21_eq : k0_off21 (blkW b) = ![0, 8 * b.val + 6, 0] := congrArg (fun n => ![0, n, 0]) (base_nat b 6 (by omega))
theorem off23_eq : k0_off23 (blkW b) = ![0, 0, 8 * b.val + 7] := congrArg (fun n => ![0, 0, n]) (base_nat b 7 (by omega))
theorem off24_eq : k0_off24 (blkW b) = ![0, 8 * b.val + 7, 0] := congrArg (fun n => ![0, n, 0]) (base_nat b 7 (by omega))

theorem chk1_ok : k0_chk1 (blkW b) := by
  have := b.isLt
  refine ⟨?_, word_in b 0 (by omega) (off2_eq b), word_in b 1 (by omega) (off5_eq b), word_in b 2 (by omega) (off8_eq b), word_in b 3 (by omega) (off11_eq b), word_in b 4 (by omega) (off14_eq b), word_in b 5 (by omega) (off17_eq b), word_in b 6 (by omega) (off20_eq b), word_in b 7 (by omega) (off23_eq b)⟩
  rw [off1_eq]
  intro a
  fin_cases a
  · exact le_refl 1
  · show 8 * b.val + 8 ≤ 1024; omega
  · exact le_refl 8

variable (C : Ctx F) (kp : FVec F S1x1024 .f32) (cnt : BitVec 32) (o : Vec F S1x256x8 .f32)

theorem cnt1_lt (hc : cnt.toNat < 256) : (C.s1 b kp cnt o).cnt.toNat < 257 := by
  have h := add_bit_le (Ctx.s0 kp cnt o).cnt (C.kB b (C.pre b kp) 0 (by omega) (Ctx.s0 kp cnt o))
  have h2 : (Ctx.s0 kp cnt o).cnt.toNat < 256 := hc
  have h3 : (C.s1 b kp cnt o).cnt = Scalar.addi (Ctx.s0 kp cnt o).cnt (Scalar.extui (C.kB b (C.pre b kp) 0 (by omega) (Ctx.s0 kp cnt o))) := rfl
  rw [h3]; omega
theorem cnt2_lt (hc : cnt.toNat < 256) : (C.s2 b kp cnt o).cnt.toNat < 258 := by
  have h := add_bit_le (C.s1 b kp cnt o).cnt (C.kB b (C.pre b kp) 1 (by omega) (C.s1 b kp cnt o))
  have h2 : (C.s1 b kp cnt o).cnt.toNat < 257 := cnt1_lt b C kp cnt o hc
  have h3 : (C.s2 b kp cnt o).cnt = Scalar.addi (C.s1 b kp cnt o).cnt (Scalar.extui (C.kB b (C.pre b kp) 1 (by omega) (C.s1 b kp cnt o))) := rfl
  rw [h3]; omega
theorem cnt3_lt (hc : cnt.toNat < 256) : (C.s3 b kp cnt o).cnt.toNat < 259 := by
  have h := add_bit_le (C.s2 b kp cnt o).cnt (C.kB b (C.pre b kp) 2 (by omega) (C.s2 b kp cnt o))
  have h2 : (C.s2 b kp cnt o).cnt.toNat < 258 := cnt2_lt b C kp cnt o hc
  have h3 : (C.s3 b kp cnt o).cnt = Scalar.addi (C.s2 b kp cnt o).cnt (Scalar.extui (C.kB b (C.pre b kp) 2 (by omega) (C.s2 b kp cnt o))) := rfl
  rw [h3]; omega
theorem cnt4_lt (hc : cnt.toNat < 256) : (C.s4 b kp cnt o).cnt.toNat < 260 := by
  have h := add_bit_le (C.s3 b kp cnt o).cnt (C.kB b (C.pre b kp) 3 (by omega) (C.s3 b kp cnt o))
  have h2 : (C.s3 b kp cnt o).cnt.toNat < 259 := cnt3_lt b C kp cnt o hc
  have h3 : (C.s4 b kp cnt o).cnt = Scalar.addi (C.s3 b kp cnt o).cnt (Scalar.extui (C.kB b (C.pre b kp) 3 (by omega) (C.s3 b kp cnt o))) := rfl
  rw [h3]; omega
theorem cnt5_lt (hc : cnt.toNat < 256) : (C.s5 b kp cnt o).cnt.toNat < 261 := by
  have h := add_bit_le (C.s4 b kp cnt o).cnt (C.kB b (C.pre b kp) 4 (by omega) (C.s4 b kp cnt o))
  have h2 : (C.s4 b kp cnt o).cnt.toNat < 260 := cnt4_lt b C kp cnt o hc
  have h3 : (C.s5 b kp cnt o).cnt = Scalar.addi (C.s4 b kp cnt o).cnt (Scalar.extui (C.kB b (C.pre b kp) 4 (by omega) (C.s4 b kp cnt o))) := rfl
  rw [h3]; omega
theorem cnt6_lt (hc : cnt.toNat < 256) : (C.s6 b kp cnt o).cnt.toNat < 262 := by
  have h := add_bit_le (C.s5 b kp cnt o).cnt (C.kB b (C.pre b kp) 5 (by omega) (C.s5 b kp cnt o))
  have h2 : (C.s5 b kp cnt o).cnt.toNat < 261 := cnt5_lt b C kp cnt o hc
  have h3 : (C.s6 b kp cnt o).cnt = Scalar.addi (C.s5 b kp cnt o).cnt (Scalar.extui (C.kB b (C.pre b kp) 5 (by omega) (C.s5 b kp cnt o))) := rfl
  rw [h3]; omega
theorem cnt7_lt (hc : cnt.toNat < 256) : (C.s7 b kp cnt o).cnt.toNat < 263 := by
  have h := add_bit_le (C.s6 b kp cnt o).cnt (C.kB b (C.pre b kp) 6 (by omega) (C.s6 b kp cnt o))
  have h2 : (C.s6 b kp cnt o).cnt.toNat < 262 := cnt6_lt b C kp cnt o hc
  have h3 : (C.s7 b kp cnt o).cnt = Scalar.addi (C.s6 b kp cnt o).cnt (Scalar.extui (C.kB b (C.pre b kp) 6 (by omega) (C.s6 b kp cnt o))) := rfl
  rw [h3]; omega
theorem cnt8_lt (hc : cnt.toNat < 256) : (C.s8 b kp cnt o).cnt.toNat < 264 := by
  have h := add_bit_le (C.s7 b kp cnt o).cnt (C.kB b (C.pre b kp) 7 (by omega) (C.s7 b kp cnt o))
  have h2 : (C.s7 b kp cnt o).cnt.toNat < 263 := cnt7_lt b C kp cnt o hc
  have h3 : (C.s8 b kp cnt o).cnt = Scalar.addi (C.s7 b kp cnt o).cnt (Scalar.extui (C.kB b (C.pre b kp) 7 (by omega) (C.s7 b kp cnt o))) := rfl
  rw [h3]; omega
/-- Position 0: the table row is inside the table, and the output row inside the output when its store is guarded in. -/
theorem chk2_ok (hc : cnt.toNat < 256) : k0_chk2 (blkW b) cnt (pB (C.pre b kp) 0 (by omega)) (iB (Ctx.s0 kp cnt o).kc (C.msk b) 0 (by omega)) (sB (C.sco b 0 (by omega))) :=
  ⟨fun _ => row_in b 0 (by omega) (off3_eq b), fun h => out_in (C.kB b (C.pre b kp) 0 (by omega) (Ctx.s0 kp cnt o)) (Ctx.s0 kp cnt o).cnt (lt_trans hc (by decide)) h rfl⟩
/-- Position 1: the table row is inside the table, and the output row inside the output when its store is guarded in. -/
theorem chk3_ok (hc : cnt.toNat < 256) : k0_chk3 (blkW b) cnt (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) :=
  ⟨fun _ => row_in b 1 (by omega) (off6_eq b), fun h => out_in (C.kB b (C.pre b kp) 1 (by omega) (C.s1 b kp cnt o)) (C.s1 b kp cnt o).cnt (lt_trans (cnt1_lt b C kp cnt o hc) (by decide)) h rfl⟩
/-- Position 2: the table row is inside the table, and the output row inside the output when its store is guarded in. -/
theorem chk4_ok (hc : cnt.toNat < 256) : k0_chk4 (blkW b) cnt (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) (pB (C.pre b kp) 2 (by omega)) (iB (C.s2 b kp cnt o).kc (C.msk b) 2 (by omega)) (sB (C.sco b 2 (by omega))) :=
  ⟨fun _ => row_in b 2 (by omega) (off9_eq b), fun h => out_in (C.kB b (C.pre b kp) 2 (by omega) (C.s2 b kp cnt o)) (C.s2 b kp cnt o).cnt (lt_trans (cnt2_lt b C kp cnt o hc) (by decide)) h rfl⟩
/-- Position 3: the table row is inside the table, and the output row inside the output when its store is guarded in. -/
theorem chk5_ok (hc : cnt.toNat < 256) : k0_chk5 (blkW b) cnt (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) (pB (C.pre b kp) 2 (by omega)) (iB (C.s2 b kp cnt o).kc (C.msk b) 2 (by omega)) (sB (C.sco b 2 (by omega))) (pB (C.pre b kp) 3 (by omega)) (iB (C.s3 b kp cnt o).kc (C.msk b) 3 (by omega)) (sB (C.sco b 3 (by omega))) :=
  ⟨fun _ => row_in b 3 (by omega) (off12_eq b), fun h => out_in (C.kB b (C.pre b kp) 3 (by omega) (C.s3 b kp cnt o)) (C.s3 b kp cnt o).cnt (lt_trans (cnt3_lt b C kp cnt o hc) (by decide)) h rfl⟩
/-- Position 4: the table row is inside the table, and the output row inside the output when its store is guarded in. -/
theorem chk6_ok (hc : cnt.toNat < 256) : k0_chk6 (blkW b) cnt (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) (pB (C.pre b kp) 2 (by omega)) (iB (C.s2 b kp cnt o).kc (C.msk b) 2 (by omega)) (sB (C.sco b 2 (by omega))) (pB (C.pre b kp) 3 (by omega)) (iB (C.s3 b kp cnt o).kc (C.msk b) 3 (by omega)) (sB (C.sco b 3 (by omega))) (pB (C.pre b kp) 4 (by omega)) (iB (C.s4 b kp cnt o).kc (C.msk b) 4 (by omega)) (sB (C.sco b 4 (by omega))) :=
  ⟨fun _ => row_in b 4 (by omega) (off15_eq b), fun h => out_in (C.kB b (C.pre b kp) 4 (by omega) (C.s4 b kp cnt o)) (C.s4 b kp cnt o).cnt (lt_trans (cnt4_lt b C kp cnt o hc) (by decide)) h rfl⟩
/-- Position 5: the table row is inside the table, and the output row inside the output when its store is guarded in. -/
theorem chk7_ok (hc : cnt.toNat < 256) : k0_chk7 (blkW b) cnt (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) (pB (C.pre b kp) 2 (by omega)) (iB (C.s2 b kp cnt o).kc (C.msk b) 2 (by omega)) (sB (C.sco b 2 (by omega))) (pB (C.pre b kp) 3 (by omega)) (iB (C.s3 b kp cnt o).kc (C.msk b) 3 (by omega)) (sB (C.sco b 3 (by omega))) (pB (C.pre b kp) 4 (by omega)) (iB (C.s4 b kp cnt o).kc (C.msk b) 4 (by omega)) (sB (C.sco b 4 (by omega))) (pB (C.pre b kp) 5 (by omega)) (iB (C.s5 b kp cnt o).kc (C.msk b) 5 (by omega)) (sB (C.sco b 5 (by omega))) :=
  ⟨fun _ => row_in b 5 (by omega) (off18_eq b), fun h => out_in (C.kB b (C.pre b kp) 5 (by omega) (C.s5 b kp cnt o)) (C.s5 b kp cnt o).cnt (lt_trans (cnt5_lt b C kp cnt o hc) (by decide)) h rfl⟩
/-- Position 6: the table row is inside the table, and the output row inside the output when its store is guarded in. -/
theorem chk8_ok (hc : cnt.toNat < 256) : k0_chk8 (blkW b) cnt (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) (pB (C.pre b kp) 2 (by omega)) (iB (C.s2 b kp cnt o).kc (C.msk b) 2 (by omega)) (sB (C.sco b 2 (by omega))) (pB (C.pre b kp) 3 (by omega)) (iB (C.s3 b kp cnt o).kc (C.msk b) 3 (by omega)) (sB (C.sco b 3 (by omega))) (pB (C.pre b kp) 4 (by omega)) (iB (C.s4 b kp cnt o).kc (C.msk b) 4 (by omega)) (sB (C.sco b 4 (by omega))) (pB (C.pre b kp) 5 (by omega)) (iB (C.s5 b kp cnt o).kc (C.msk b) 5 (by omega)) (sB (C.sco b 5 (by omega))) (pB (C.pre b kp) 6 (by omega)) (iB (C.s6 b kp cnt o).kc (C.msk b) 6 (by omega)) (sB (C.sco b 6 (by omega))) :=
  ⟨fun _ => row_in b 6 (by omega) (off21_eq b), fun h => out_in (C.kB b (C.pre b kp) 6 (by omega) (C.s6 b kp cnt o)) (C.s6 b kp cnt o).cnt (lt_trans (cnt6_lt b C kp cnt o hc) (by decide)) h rfl⟩
/-- Position 7: the table row is inside the table, and the output row inside the output when its store is guarded in. -/
theorem chk9_ok (hc : cnt.toNat < 256) : k0_chk9 (blkW b) cnt (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) (pB (C.pre b kp) 2 (by omega)) (iB (C.s2 b kp cnt o).kc (C.msk b) 2 (by omega)) (sB (C.sco b 2 (by omega))) (pB (C.pre b kp) 3 (by omega)) (iB (C.s3 b kp cnt o).kc (C.msk b) 3 (by omega)) (sB (C.sco b 3 (by omega))) (pB (C.pre b kp) 4 (by omega)) (iB (C.s4 b kp cnt o).kc (C.msk b) 4 (by omega)) (sB (C.sco b 4 (by omega))) (pB (C.pre b kp) 5 (by omega)) (iB (C.s5 b kp cnt o).kc (C.msk b) 5 (by omega)) (sB (C.sco b 5 (by omega))) (pB (C.pre b kp) 6 (by omega)) (iB (C.s6 b kp cnt o).kc (C.msk b) 6 (by omega)) (sB (C.sco b 6 (by omega))) (pB (C.pre b kp) 7 (by omega)) (iB (C.s7 b kp cnt o).kc (C.msk b) 7 (by omega)) (sB (C.sco b 7 (by omega))) :=
  ⟨fun _ => row_in b 7 (by omega) (off24_eq b), fun h => out_in (C.kB b (C.pre b kp) 7 (by omega) (C.s7 b kp cnt o)) (C.s7 b kp cnt o).cnt (lt_trans (cnt7_lt b C kp cnt o hc) (by decide)) h rfl⟩

end

end Cert.KernelIdeal.Nms

end
-- ==== Proof.Parts.lean ====
/-
  The loop's body, part by part: holding the table, the scores and the output rows, each part ends with the flags, the
  count and the output rows of the block's next states.
-/
module

public import proofs.«01_k».proof.Proof.Words

@[expose] public section

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (bd : Option ℕ) (E : Set ℕ)
variable (arg2 : Memref sig .tc .vmem S1x1024x8 .f32) (harg2 : arg2.IsWhole) (arg3 : Memref sig .tc .smem S1x1x1024 .f32) (harg3 : arg3.IsWhole)
variable (arg4 : Memref sig .tc .vmem S1x256x8 .f32) (harg4 : arg4.IsWhole)
variable (C : Ctx F) (b : Fin 128) (kp : FVec F S1x1024 .f32) (cnt : BitVec 32) (o : Vec F S1x256x8 .f32)

/-- A side condition that holds lets the program go on. -/
theorem wp_sure {P : Prop} {d : Decidable P} (h : P) (Q : PLift P → sProp 𝕄) :
    Q ⟨h⟩ ⊢ wp frame (wpE (defs₀ (F := F)) trips (c : Thread nD τ) bd) E (Prog.lift (.assume P d)) Q := by
  unfold Prog.lift
  iintro H
  iapply (wp_assume trips (c : Thread nD τ) bd E h)
  rw [wp_ret]; imodintro
  iexact H

theorem recast (v : Vec F S1x1x8 .f32) :
    shapeCast S1x1x8 (shapeCast S1x8 v shapeCasts_S1x1x8_S1x8) shapeCasts_S1x8_S1x1x8 = v := by
  rw [shapeCast_shapeCast]

theorem block_at {off : Fin 3 → ℕ} (e : off = ![0, 8 * b.val, 0]) (inb : ∀ a, off a + S1x8x8.size a ≤ S1x1024x8.size a)
    (x : (Rect.unit (s := S1x1024x8) off S1x8x8.size inb).shape.Idx) :
    C.x2 ((Rect.unit (s := S1x1024x8) off S1x8x8.size inb).toLoadRect.idx x) = C.cols b x := by
  subst e
  unfold Ctx.cols
  congr 1
  funext a
  fin_cases a
  · have h0 : (x 0).val < 1 := (x 0).isLt
    exact Fin.ext (show 0 + 1 * (x 0).val = 0 by omega)
  · exact Fin.ext (show 8 * b.val + 1 * (x 1).val = 8 * b.val + (x 1).val by omega)
  · exact Fin.ext (show 0 + 1 * (x 2).val = (x 2).val by omega)

/-- Part 1. -/
theorem part1_ok (i : grid0.Coords) (Q : (Σ' (k0_hw1 : k0_chk1 (blkW b)) (v23 : BitVec 32) (v26 : FVec F S8x8 .f32) (v27 : FVec F S8x1 .f32) (v28 : FVec F S8x1 .f32) (v29 : FVec F S8x1 .f32) (v30 : FVec F S8x1 .f32) (v37 : FVec F S8x1 .f32), FVec F S8x1 .f32) → sProp 𝕄) :
    iprop(has c arg2 harg2 C.x2 ∗ has c arg3 harg3 C.x3 ∗ has c arg4 harg4 (Ctx.s0 kp cnt o).o
        ∗ (∀ (r : Σ' (k0_hw1 : k0_chk1 (blkW b)) (v23 : BitVec 32) (v26 : FVec F S8x8 .f32) (v27 : FVec F S8x1 .f32) (v28 : FVec F S8x1 .f32) (v29 : FVec F S8x1 .f32) (v30 : FVec F S8x1 .f32) (v37 : FVec F S8x1 .f32), FVec F S8x1 .f32) o', ⌜r = ⟨chk1_ok b, (base b), (k0_pay10 (C.cols b)), (k0_pay11 (C.cols b)), (k0_pay12 (C.cols b)), (k0_pay13 (C.cols b)), (k0_pay14 (C.cols b)), (k0_pay15 (C.cols b)), (C.pre b kp)⟩ ∧ o' = (Ctx.s0 kp cnt o).o⌝ -∗ has c arg2 harg2 C.x2 -∗ has c arg3 harg3 C.x3 -∗ has c arg4 harg4 o' -∗ Q r))
      ⊢ wp frame (wpE (defs₀ (F := F)) trips (c : Thread nD τ) bd) E
          (k0_part1 (F := F) i arg2 harg2 C.v1 C.v3 C.v5 C.v7 C.v14 arg3 harg3 spots lanes arg4 harg4 (blkW b) kp cnt) Q := by
  rw [k0_part1_eq_skeleton]; unfold k0_part1_skel
  iintro ⟨H2, H3, H4, Hk⟩
  try simp only [wp_bind]
  iapply (wp_sure c bd E (chk1_ok b))
  try simp only [wp_bind]
  iapply (wp_read c bd E arg2 harg2 C.x2 _ _ (C.cols b) (fun x => block_at C b (off1_eq b) _ x))
  isplitl [H2]; · iexact H2
  iintro H2
  rw [Prog.pure_eq_ret, wp_ret]; imodintro
  iapply Hk $$ [] H2 H3 H4
  ipureintro
  exact ⟨rfl, rfl⟩

/-- Part 2. -/
theorem part2_ok (i : grid0.Coords) (Q : (Σ' (v107 : FVec F S8x8 .f32) (v108 : FVec F S8x1 .f32) (v117 : BitVec 1) (v118 : BitVec 1) (v119 : BitVec 1), BitVec 32) → sProp 𝕄) :
    iprop(has c arg2 harg2 C.x2 ∗ has c arg3 harg3 C.x3 ∗ has c arg4 harg4 (Ctx.s0 kp cnt o).o
        ∗ (∀ (r : Σ' (v107 : FVec F S8x8 .f32) (v108 : FVec F S8x1 .f32) (v117 : BitVec 1) (v118 : BitVec 1) (v119 : BitVec 1), BitVec 32) o', ⌜r = ⟨(C.msk b), (Ctx.s0 kp cnt o).kc, (pB (C.pre b kp) 0 (by omega)), (iB (Ctx.s0 kp cnt o).kc (C.msk b) 0 (by omega)), (Scalar.andi (pB (C.pre b kp) 0 (by omega)) (iB (Ctx.s0 kp cnt o).kc (C.msk b) 0 (by omega))), (Scalar.addi (base b) 0#32)⟩ ∧ o' = (Ctx.s0 kp cnt o).o⌝ -∗ has c arg2 harg2 C.x2 -∗ has c arg3 harg3 C.x3 -∗ has c arg4 harg4 o' -∗ Q r))
      ⊢ wp frame (wpE (defs₀ (F := F)) trips (c : Thread nD τ) bd) E
          (k0_part2 (F := F) i arg2 harg2 C.v1 C.v3 C.v5 C.v7 C.v14 arg3 harg3 spots lanes arg4 harg4 (blkW b) kp cnt (base b) (k0_pay10 (C.cols b)) (k0_pay11 (C.cols b)) (k0_pay12 (C.cols b)) (k0_pay13 (C.cols b)) (k0_pay14 (C.cols b)) (k0_pay15 (C.cols b)) (C.pre b kp)) Q := by
  rw [k0_part2_eq_skeleton]; unfold k0_part2_skel
  iintro ⟨H2, H3, H4, Hk⟩
  rw [Prog.pure_eq_ret, wp_ret]; imodintro
  iapply Hk $$ [] H2 H3 H4
  ipureintro
  exact ⟨rfl, rfl⟩

/-- Part 3. -/
theorem part3_ok (i : grid0.Coords) (hc : cnt.toNat < 256) (hw1 : k0_chk1 (blkW b)) (Q : (Σ' (v123 : BitVec 1) (v130 : FVec F S8x1 .f32) (v137 : FVec F S1x1024 .f32) (v143 : BitVec 32) (v152 : BitVec 1) (v153 : BitVec 1) (v158 : BitVec 1) (k0_hw3 : k0_chk3 (blkW b) cnt (pB (C.pre b kp) 0 (by omega)) (iB (Ctx.s0 kp cnt o).kc (C.msk b) 0 (by omega)) v123 v152 v153 v158) (v159 : BitVec 1) (v161 : IVec S8x1 1), IVec S8x1 1) → sProp 𝕄) :
    iprop(has c arg2 harg2 C.x2 ∗ has c arg3 harg3 C.x3 ∗ has c arg4 harg4 (Ctx.s0 kp cnt o).o
        ∗ (∀ (r : Σ' (v123 : BitVec 1) (v130 : FVec F S8x1 .f32) (v137 : FVec F S1x1024 .f32) (v143 : BitVec 32) (v152 : BitVec 1) (v153 : BitVec 1) (v158 : BitVec 1) (k0_hw3 : k0_chk3 (blkW b) cnt (pB (C.pre b kp) 0 (by omega)) (iB (Ctx.s0 kp cnt o).kc (C.msk b) 0 (by omega)) v123 v152 v153 v158) (v159 : BitVec 1) (v161 : IVec S8x1 1), IVec S8x1 1) o', ⌜r = ⟨(sB (C.sco b 0 (by omega))), (C.s1 b kp cnt o).kc, (C.s1 b kp cnt o).kp, (C.s1 b kp cnt o).cnt, (pB (C.pre b kp) 1 (by omega)), (iB (C.s1 b kp cnt o).kc (C.msk b) 1 (by omega)), (sB (C.sco b 1 (by omega))), (chk3_ok b C kp cnt o hc), (C.kB b (C.pre b kp) 1 (by omega) (C.s1 b kp cnt o)), (k0_pay26 spots), (broadcast S8x1 (C.kB b (C.pre b kp) 1 (by omega) (C.s1 b kp cnt o)))⟩ ∧ o' = (C.s1 b kp cnt o).o⌝ -∗ has c arg2 harg2 C.x2 -∗ has c arg3 harg3 C.x3 -∗ has c arg4 harg4 o' -∗ Q r))
      ⊢ wp frame (wpE (defs₀ (F := F)) trips (c : Thread nD τ) bd) E
          (k0_part3 (F := F) i arg2 harg2 C.v1 C.v3 C.v5 C.v7 C.v14 arg3 harg3 spots lanes arg4 harg4 (blkW b) kp cnt hw1 (base b) (C.pre b kp) (C.msk b) (Ctx.s0 kp cnt o).kc (pB (C.pre b kp) 0 (by omega)) (iB (Ctx.s0 kp cnt o).kc (C.msk b) 0 (by omega)) (Scalar.andi (pB (C.pre b kp) 0 (by omega)) (iB (Ctx.s0 kp cnt o).kc (C.msk b) 0 (by omega))) (Scalar.addi (base b) 0#32)) Q := by
  rw [k0_part3_eq_skeleton]; unfold k0_part3_skel
  iintro ⟨H2, H3, H4, Hk⟩
  try simp only [wp_bind]
  iapply (wp_word c bd E arg3 harg3 C.x3 _ _ _ (cand b 0 (by omega)) (off2_eq b))
  isplitl [H3]; · iexact H3
  iintro H3
  try simp only [wp_bind]
  iapply (wp_sure c bd E (chk2_ok b C kp cnt o hc))
  try dsimp only
  iapply (wp_guarded c bd E arg2 harg2 C arg4 harg4 _ b 0 (by omega) _ (Ctx.s0 kp cnt o).cnt (off3_eq b) rfl _ _ k0_pay23 (fun v => recast v))
  isplitl [H2]; · iexact H2
  isplitl [H4]; · iexact H4
  iintro H2 H4
  try simp only [wp_bind]
  iapply (wp_word c bd E arg3 harg3 C.x3 _ _ _ (cand b 1 (by omega)) (off5_eq b))
  isplitl [H3]; · iexact H3
  iintro H3
  try simp only [wp_bind]
  iapply (wp_sure c bd E (chk3_ok b C kp cnt o hc))
  rw [Prog.pure_eq_ret, wp_ret]; imodintro
  iapply Hk $$ [] H2 H3 H4
  ipureintro
  exact ⟨rfl, rfl⟩

/-- Part 4. -/
theorem part4_ok (i : grid0.Coords) (hc : cnt.toNat < 256) (hw1 : k0_chk1 (blkW b)) (Q : (Σ' (v172 : FVec F S1x1024 .f32) (v178 : BitVec 32) (v187 : BitVec 1) (v188 : BitVec 1) (v193 : BitVec 1) (k0_hw4 : k0_chk4 (blkW b) cnt (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) v187 v188 v193) (v194 : BitVec 1) (v200 : FVec F S8x1 .f32), IVec S1x1024 1) → sProp 𝕄) :
    iprop(has c arg2 harg2 C.x2 ∗ has c arg3 harg3 C.x3 ∗ has c arg4 harg4 (C.s1 b kp cnt o).o
        ∗ (∀ (r : Σ' (v172 : FVec F S1x1024 .f32) (v178 : BitVec 32) (v187 : BitVec 1) (v188 : BitVec 1) (v193 : BitVec 1) (k0_hw4 : k0_chk4 (blkW b) cnt (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) v187 v188 v193) (v194 : BitVec 1) (v200 : FVec F S8x1 .f32), IVec S1x1024 1) o', ⌜r = ⟨(C.s2 b kp cnt o).kp, (C.s2 b kp cnt o).cnt, (pB (C.pre b kp) 2 (by omega)), (iB (C.s2 b kp cnt o).kc (C.msk b) 2 (by omega)), (sB (C.sco b 2 (by omega))), (chk4_ok b C kp cnt o hc), (C.kB b (C.pre b kp) 2 (by omega) (C.s2 b kp cnt o)), (C.s3 b kp cnt o).kc, (kpSel b 2 (C.kB b (C.pre b kp) 2 (by omega) (C.s2 b kp cnt o)))⟩ ∧ o' = (C.s2 b kp cnt o).o⌝ -∗ has c arg2 harg2 C.x2 -∗ has c arg3 harg3 C.x3 -∗ has c arg4 harg4 o' -∗ Q r))
      ⊢ wp frame (wpE (defs₀ (F := F)) trips (c : Thread nD τ) bd) E
          (k0_part4 (F := F) i arg2 harg2 C.v1 C.v3 C.v5 C.v7 C.v14 arg3 harg3 spots lanes arg4 harg4 (blkW b) kp cnt hw1 (base b) (C.pre b kp) (C.msk b) (pB (C.pre b kp) 0 (by omega)) (iB (Ctx.s0 kp cnt o).kc (C.msk b) 0 (by omega)) (sB (C.sco b 0 (by omega))) (C.s1 b kp cnt o).kc (C.s1 b kp cnt o).kp (C.s1 b kp cnt o).cnt (pB (C.pre b kp) 1 (by omega)) (iB (C.s1 b kp cnt o).kc (C.msk b) 1 (by omega)) (sB (C.sco b 1 (by omega))) (chk3_ok b C kp cnt o hc) (C.kB b (C.pre b kp) 1 (by omega) (C.s1 b kp cnt o)) (k0_pay26 spots) (broadcast S8x1 (C.kB b (C.pre b kp) 1 (by omega) (C.s1 b kp cnt o)))) Q := by
  rw [k0_part4_eq_skeleton]; unfold k0_part4_skel
  iintro ⟨H2, H3, H4, Hk⟩
  try dsimp only
  iapply (wp_guarded c bd E arg2 harg2 C arg4 harg4 _ b 1 (by omega) _ (C.s1 b kp cnt o).cnt (off6_eq b) rfl _ _ k0_pay30 (fun v => recast v))
  isplitl [H2]; · iexact H2
  isplitl [H4]; · iexact H4
  iintro H2 H4
  try simp only [wp_bind]
  iapply (wp_word c bd E arg3 harg3 C.x3 _ _ _ (cand b 2 (by omega)) (off8_eq b))
  isplitl [H3]; · iexact H3
  iintro H3
  try simp only [wp_bind]
  iapply (wp_sure c bd E (chk4_ok b C kp cnt o hc))
  rw [Prog.pure_eq_ret, wp_ret]; imodintro
  iapply Hk $$ [] H2 H3 H4
  ipureintro
  exact ⟨rfl, rfl⟩

/-- Part 5. -/
theorem part5_ok (i : grid0.Coords) (hc : cnt.toNat < 256) (hw1 : k0_chk1 (blkW b)) (Q : (Σ' (v213 : BitVec 32) (v222 : BitVec 1) (v223 : BitVec 1) (v228 : BitVec 1) (v229 : BitVec 1) (v235 : FVec F S8x1 .f32), FVec F S1x1024 .f32) → sProp 𝕄) :
    iprop(has c arg2 harg2 C.x2 ∗ has c arg3 harg3 C.x3 ∗ has c arg4 harg4 (C.s2 b kp cnt o).o
        ∗ (∀ (r : Σ' (v213 : BitVec 32) (v222 : BitVec 1) (v223 : BitVec 1) (v228 : BitVec 1) (v229 : BitVec 1) (v235 : FVec F S8x1 .f32), FVec F S1x1024 .f32) o', ⌜r = ⟨(C.s3 b kp cnt o).cnt, (pB (C.pre b kp) 3 (by omega)), (iB (C.s3 b kp cnt o).kc (C.msk b) 3 (by omega)), (sB (C.sco b 3 (by omega))), (C.kB b (C.pre b kp) 3 (by omega) (C.s3 b kp cnt o)), (C.s4 b kp cnt o).kc, (C.s4 b kp cnt o).kp⟩ ∧ o' = (C.s4 b kp cnt o).o⌝ -∗ has c arg2 harg2 C.x2 -∗ has c arg3 harg3 C.x3 -∗ has c arg4 harg4 o' -∗ Q r))
      ⊢ wp frame (wpE (defs₀ (F := F)) trips (c : Thread nD τ) bd) E
          (k0_part5 (F := F) i arg2 harg2 C.v1 C.v3 C.v5 C.v7 C.v14 arg3 harg3 spots lanes arg4 harg4 (blkW b) kp cnt hw1 (base b) (C.pre b kp) (C.msk b) (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) (C.s2 b kp cnt o).kp (C.s2 b kp cnt o).cnt (pB (C.pre b kp) 2 (by omega)) (iB (C.s2 b kp cnt o).kc (C.msk b) 2 (by omega)) (sB (C.sco b 2 (by omega))) (chk4_ok b C kp cnt o hc) (C.kB b (C.pre b kp) 2 (by omega) (C.s2 b kp cnt o)) (C.s3 b kp cnt o).kc (kpSel b 2 (C.kB b (C.pre b kp) 2 (by omega) (C.s2 b kp cnt o)))) Q := by
  rw [k0_part5_eq_skeleton]; unfold k0_part5_skel
  iintro ⟨H2, H3, H4, Hk⟩
  try dsimp only
  iapply (wp_guarded c bd E arg2 harg2 C arg4 harg4 _ b 2 (by omega) _ (C.s2 b kp cnt o).cnt (off9_eq b) rfl _ _ k0_pay35 (fun v => recast v))
  isplitl [H2]; · iexact H2
  isplitl [H4]; · iexact H4
  iintro H2 H4
  try simp only [wp_bind]
  iapply (wp_word c bd E arg3 harg3 C.x3 _ _ _ (cand b 3 (by omega)) (off11_eq b))
  isplitl [H3]; · iexact H3
  iintro H3
  try simp only [wp_bind]
  iapply (wp_sure c bd E (chk5_ok b C kp cnt o hc))
  try dsimp only
  iapply (wp_guarded c bd E arg2 harg2 C arg4 harg4 _ b 3 (by omega) _ (C.s3 b kp cnt o).cnt (off12_eq b) rfl _ _ k0_pay40 (fun v => recast v))
  isplitl [H2]; · iexact H2
  isplitl [H4]; · iexact H4
  iintro H2 H4
  rw [Prog.pure_eq_ret, wp_ret]; imodintro
  iapply Hk $$ [] H2 H3 H4
  ipureintro
  exact ⟨rfl, rfl⟩

/-- Part 6. -/
theorem part6_ok (i : grid0.Coords) (hc : cnt.toNat < 256) (hw1 : k0_chk1 (blkW b)) (Q : (Σ' (v257 : BitVec 1) (v258 : BitVec 1) (v263 : BitVec 1) (v270 : FVec F S8x1 .f32) (v277 : FVec F S1x1024 .f32) (v283 : BitVec 32) (v289 : F .f32), FVec F S1x1 .f32) → sProp 𝕄) :
    iprop(has c arg2 harg2 C.x2 ∗ has c arg3 harg3 C.x3 ∗ has c arg4 harg4 (C.s4 b kp cnt o).o
        ∗ (∀ (r : Σ' (v257 : BitVec 1) (v258 : BitVec 1) (v263 : BitVec 1) (v270 : FVec F S8x1 .f32) (v277 : FVec F S1x1024 .f32) (v283 : BitVec 32) (v289 : F .f32), FVec F S1x1 .f32) o', ⌜r = ⟨(pB (C.pre b kp) 4 (by omega)), (iB (C.s4 b kp cnt o).kc (C.msk b) 4 (by omega)), (sB (C.sco b 4 (by omega))), (C.s5 b kp cnt o).kc, (C.s5 b kp cnt o).kp, (C.s5 b kp cnt o).cnt, (supAt (C.s5 b kp cnt o).kc (C.msk b) 5 (by omega)), (extractStridedSlice S1x1 ![5, 0] (C.pre b kp) slices_S8x1_o5_0_S1x1)⟩ ∧ o' = (C.s5 b kp cnt o).o⌝ -∗ has c arg2 harg2 C.x2 -∗ has c arg3 harg3 C.x3 -∗ has c arg4 harg4 o' -∗ Q r))
      ⊢ wp frame (wpE (defs₀ (F := F)) trips (c : Thread nD τ) bd) E
          (k0_part6 (F := F) i arg2 harg2 C.v1 C.v3 C.v5 C.v7 C.v14 arg3 harg3 spots lanes arg4 harg4 (blkW b) kp cnt hw1 (base b) (C.pre b kp) (C.msk b) (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) (pB (C.pre b kp) 2 (by omega)) (iB (C.s2 b kp cnt o).kc (C.msk b) 2 (by omega)) (sB (C.sco b 2 (by omega))) (C.s3 b kp cnt o).cnt (pB (C.pre b kp) 3 (by omega)) (iB (C.s3 b kp cnt o).kc (C.msk b) 3 (by omega)) (sB (C.sco b 3 (by omega))) (C.kB b (C.pre b kp) 3 (by omega) (C.s3 b kp cnt o)) (C.s4 b kp cnt o).kc (C.s4 b kp cnt o).kp) Q := by
  rw [k0_part6_eq_skeleton]; unfold k0_part6_skel
  iintro ⟨H2, H3, H4, Hk⟩
  try simp only [wp_bind]
  iapply (wp_word c bd E arg3 harg3 C.x3 _ _ _ (cand b 4 (by omega)) (off14_eq b))
  isplitl [H3]; · iexact H3
  iintro H3
  try simp only [wp_bind]
  iapply (wp_sure c bd E (chk6_ok b C kp cnt o hc))
  try dsimp only
  iapply (wp_guarded c bd E arg2 harg2 C arg4 harg4 _ b 4 (by omega) _ (C.s4 b kp cnt o).cnt (off15_eq b) rfl _ _ k0_pay45 (fun v => recast v))
  isplitl [H2]; · iexact H2
  isplitl [H4]; · iexact H4
  iintro H2 H4
  rw [Prog.pure_eq_ret, wp_ret]; imodintro
  iapply Hk $$ [] H2 H3 H4
  ipureintro
  exact ⟨rfl, rfl⟩

/-- Part 7. -/
theorem part7_ok (i : grid0.Coords) (hc : cnt.toNat < 256) (hw1 : k0_chk1 (blkW b)) (Q : (Σ' (v292 : BitVec 1) (v293 : BitVec 1) (v298 : BitVec 1) (v305 : FVec F S8x1 .f32) (v312 : FVec F S1x1024 .f32) (v318 : BitVec 32) (v327 : BitVec 1) (v328 : BitVec 1) (v329 : BitVec 1), BitVec 32) → sProp 𝕄) :
    iprop(has c arg2 harg2 C.x2 ∗ has c arg3 harg3 C.x3 ∗ has c arg4 harg4 (C.s5 b kp cnt o).o
        ∗ (∀ (r : Σ' (v292 : BitVec 1) (v293 : BitVec 1) (v298 : BitVec 1) (v305 : FVec F S8x1 .f32) (v312 : FVec F S1x1024 .f32) (v318 : BitVec 32) (v327 : BitVec 1) (v328 : BitVec 1) (v329 : BitVec 1), BitVec 32) o', ⌜r = ⟨(pB (C.pre b kp) 5 (by omega)), (iB (C.s5 b kp cnt o).kc (C.msk b) 5 (by omega)), (sB (C.sco b 5 (by omega))), (C.s6 b kp cnt o).kc, (C.s6 b kp cnt o).kp, (C.s6 b kp cnt o).cnt, (pB (C.pre b kp) 6 (by omega)), (iB (C.s6 b kp cnt o).kc (C.msk b) 6 (by omega)), (Scalar.andi (pB (C.pre b kp) 6 (by omega)) (iB (C.s6 b kp cnt o).kc (C.msk b) 6 (by omega))), (Scalar.addi (base b) 6#32)⟩ ∧ o' = (C.s6 b kp cnt o).o⌝ -∗ has c arg2 harg2 C.x2 -∗ has c arg3 harg3 C.x3 -∗ has c arg4 harg4 o' -∗ Q r))
      ⊢ wp frame (wpE (defs₀ (F := F)) trips (c : Thread nD τ) bd) E
          (k0_part7 (F := F) i arg2 harg2 C.v1 C.v3 C.v5 C.v7 C.v14 arg3 harg3 spots lanes arg4 harg4 (blkW b) kp cnt hw1 (base b) (C.pre b kp) (C.msk b) (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) (pB (C.pre b kp) 2 (by omega)) (iB (C.s2 b kp cnt o).kc (C.msk b) 2 (by omega)) (sB (C.sco b 2 (by omega))) (pB (C.pre b kp) 3 (by omega)) (iB (C.s3 b kp cnt o).kc (C.msk b) 3 (by omega)) (sB (C.sco b 3 (by omega))) (pB (C.pre b kp) 4 (by omega)) (iB (C.s4 b kp cnt o).kc (C.msk b) 4 (by omega)) (sB (C.sco b 4 (by omega))) (C.s5 b kp cnt o).kc (C.s5 b kp cnt o).kp (C.s5 b kp cnt o).cnt (supAt (C.s5 b kp cnt o).kc (C.msk b) 5 (by omega)) (extractStridedSlice S1x1 ![5, 0] (C.pre b kp) slices_S8x1_o5_0_S1x1)) Q := by
  rw [k0_part7_eq_skeleton]; unfold k0_part7_skel
  iintro ⟨H2, H3, H4, Hk⟩
  try simp only [wp_bind]
  iapply (wp_word c bd E arg3 harg3 C.x3 _ _ _ (cand b 5 (by omega)) (off17_eq b))
  isplitl [H3]; · iexact H3
  iintro H3
  try simp only [wp_bind]
  iapply (wp_sure c bd E (chk7_ok b C kp cnt o hc))
  try dsimp only
  iapply (wp_guarded c bd E arg2 harg2 C arg4 harg4 _ b 5 (by omega) _ (C.s5 b kp cnt o).cnt (off18_eq b) rfl _ _ k0_pay51 (fun v => recast v))
  isplitl [H2]; · iexact H2
  isplitl [H4]; · iexact H4
  iintro H2 H4
  rw [Prog.pure_eq_ret, wp_ret]; imodintro
  iapply Hk $$ [] H2 H3 H4
  ipureintro
  exact ⟨rfl, rfl⟩

/-- Part 8. -/
theorem part8_ok (i : grid0.Coords) (hc : cnt.toNat < 256) (hw1 : k0_chk1 (blkW b)) (Q : (Σ' (v333 : BitVec 1) (v340 : FVec F S8x1 .f32) (v347 : FVec F S1x1024 .f32) (v353 : BitVec 32) (v362 : BitVec 1) (v363 : BitVec 1) (v368 : BitVec 1) (k0_hw9 : k0_chk9 (blkW b) cnt (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) (pB (C.pre b kp) 2 (by omega)) (iB (C.s2 b kp cnt o).kc (C.msk b) 2 (by omega)) (sB (C.sco b 2 (by omega))) (pB (C.pre b kp) 3 (by omega)) (iB (C.s3 b kp cnt o).kc (C.msk b) 3 (by omega)) (sB (C.sco b 3 (by omega))) (pB (C.pre b kp) 4 (by omega)) (iB (C.s4 b kp cnt o).kc (C.msk b) 4 (by omega)) (sB (C.sco b 4 (by omega))) (pB (C.pre b kp) 5 (by omega)) (iB (C.s5 b kp cnt o).kc (C.msk b) 5 (by omega)) (sB (C.sco b 5 (by omega))) (pB (C.pre b kp) 6 (by omega)) (iB (C.s6 b kp cnt o).kc (C.msk b) 6 (by omega)) v333 v362 v363 v368) (v369 : BitVec 1) (v371 : IVec S8x1 1), IVec S8x1 1) → sProp 𝕄) :
    iprop(has c arg2 harg2 C.x2 ∗ has c arg3 harg3 C.x3 ∗ has c arg4 harg4 (C.s6 b kp cnt o).o
        ∗ (∀ (r : Σ' (v333 : BitVec 1) (v340 : FVec F S8x1 .f32) (v347 : FVec F S1x1024 .f32) (v353 : BitVec 32) (v362 : BitVec 1) (v363 : BitVec 1) (v368 : BitVec 1) (k0_hw9 : k0_chk9 (blkW b) cnt (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) (pB (C.pre b kp) 2 (by omega)) (iB (C.s2 b kp cnt o).kc (C.msk b) 2 (by omega)) (sB (C.sco b 2 (by omega))) (pB (C.pre b kp) 3 (by omega)) (iB (C.s3 b kp cnt o).kc (C.msk b) 3 (by omega)) (sB (C.sco b 3 (by omega))) (pB (C.pre b kp) 4 (by omega)) (iB (C.s4 b kp cnt o).kc (C.msk b) 4 (by omega)) (sB (C.sco b 4 (by omega))) (pB (C.pre b kp) 5 (by omega)) (iB (C.s5 b kp cnt o).kc (C.msk b) 5 (by omega)) (sB (C.sco b 5 (by omega))) (pB (C.pre b kp) 6 (by omega)) (iB (C.s6 b kp cnt o).kc (C.msk b) 6 (by omega)) v333 v362 v363 v368) (v369 : BitVec 1) (v371 : IVec S8x1 1), IVec S8x1 1) o', ⌜r = ⟨(sB (C.sco b 6 (by omega))), (C.s7 b kp cnt o).kc, (C.s7 b kp cnt o).kp, (C.s7 b kp cnt o).cnt, (pB (C.pre b kp) 7 (by omega)), (iB (C.s7 b kp cnt o).kc (C.msk b) 7 (by omega)), (sB (C.sco b 7 (by omega))), (chk9_ok b C kp cnt o hc), (C.kB b (C.pre b kp) 7 (by omega) (C.s7 b kp cnt o)), (k0_pay59 spots), (broadcast S8x1 (C.kB b (C.pre b kp) 7 (by omega) (C.s7 b kp cnt o)))⟩ ∧ o' = (C.s7 b kp cnt o).o⌝ -∗ has c arg2 harg2 C.x2 -∗ has c arg3 harg3 C.x3 -∗ has c arg4 harg4 o' -∗ Q r))
      ⊢ wp frame (wpE (defs₀ (F := F)) trips (c : Thread nD τ) bd) E
          (k0_part8 (F := F) i arg2 harg2 C.v1 C.v3 C.v5 C.v7 C.v14 arg3 harg3 spots lanes arg4 harg4 (blkW b) kp cnt hw1 (base b) (C.pre b kp) (C.msk b) (pB (C.pre b kp) 0 (by omega)) (iB (Ctx.s0 kp cnt o).kc (C.msk b) 0 (by omega)) (sB (C.sco b 0 (by omega))) (pB (C.pre b kp) 1 (by omega)) (iB (C.s1 b kp cnt o).kc (C.msk b) 1 (by omega)) (sB (C.sco b 1 (by omega))) (pB (C.pre b kp) 2 (by omega)) (iB (C.s2 b kp cnt o).kc (C.msk b) 2 (by omega)) (sB (C.sco b 2 (by omega))) (pB (C.pre b kp) 3 (by omega)) (iB (C.s3 b kp cnt o).kc (C.msk b) 3 (by omega)) (sB (C.sco b 3 (by omega))) (pB (C.pre b kp) 4 (by omega)) (iB (C.s4 b kp cnt o).kc (C.msk b) 4 (by omega)) (sB (C.sco b 4 (by omega))) (pB (C.pre b kp) 5 (by omega)) (iB (C.s5 b kp cnt o).kc (C.msk b) 5 (by omega)) (sB (C.sco b 5 (by omega))) (C.s6 b kp cnt o).kc (C.s6 b kp cnt o).kp (C.s6 b kp cnt o).cnt (pB (C.pre b kp) 6 (by omega)) (iB (C.s6 b kp cnt o).kc (C.msk b) 6 (by omega)) (Scalar.andi (pB (C.pre b kp) 6 (by omega)) (iB (C.s6 b kp cnt o).kc (C.msk b) 6 (by omega))) (Scalar.addi (base b) 6#32)) Q := by
  rw [k0_part8_eq_skeleton]; unfold k0_part8_skel
  iintro ⟨H2, H3, H4, Hk⟩
  try simp only [wp_bind]
  iapply (wp_word c bd E arg3 harg3 C.x3 _ _ _ (cand b 6 (by omega)) (off20_eq b))
  isplitl [H3]; · iexact H3
  iintro H3
  try simp only [wp_bind]
  iapply (wp_sure c bd E (chk8_ok b C kp cnt o hc))
  try dsimp only
  iapply (wp_guarded c bd E arg2 harg2 C arg4 harg4 _ b 6 (by omega) _ (C.s6 b kp cnt o).cnt (off21_eq b) rfl _ _ k0_pay56 (fun v => recast v))
  isplitl [H2]; · iexact H2
  isplitl [H4]; · iexact H4
  iintro H2 H4
  try simp only [wp_bind]
  iapply (wp_word c bd E arg3 harg3 C.x3 _ _ _ (cand b 7 (by omega)) (off23_eq b))
  isplitl [H3]; · iexact H3
  iintro H3
  try simp only [wp_bind]
  iapply (wp_sure c bd E (chk9_ok b C kp cnt o hc))
  rw [Prog.pure_eq_ret, wp_ret]; imodintro
  iapply Hk $$ [] H2 H3 H4
  ipureintro
  exact ⟨rfl, rfl⟩

end

end Cert.KernelIdeal.Nms

end
-- ==== Proof.Body.lean ====
/-
  The loop and the whole body. The loop's label is answered by what its remaining blocks leave, by induction on how many
  remain; the body fills the output rows with zeros, runs the loop from no flags and stores the clamped count.
-/
module

public import proofs.«01_k».proof.Proof.Parts

@[expose] public section

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (E : Set ℕ)
variable (arg2 : Memref sig .tc .vmem S1x1024x8 .f32) (harg2 : arg2.IsWhole) (arg3 : Memref sig .tc .smem S1x1x1024 .f32) (harg3 : arg3.IsWhole)
variable (arg4 : Memref sig .tc .vmem S1x256x8 .f32) (harg4 : arg4.IsWhole)
variable (C : Ctx F)

/-- The label with `n` blocks left: holding the three buffers it returns the final count, and the output rows follow. -/
def spec (n : ℕ) (kp : FVec F S1x1024 .f32) (cnt : BitVec 32) (o : Vec F S1x256x8 .f32) : sWPT 𝕄 (BitVec 32 × FVec F S1x1024 .f32 × BitVec 32) := do
  sWPT.consume iprop(has c arg2 harg2 C.x2 ∗ has c arg3 harg3 C.x3 ∗ has c arg4 harg4 o)
  let r ← sWPT.arbitrary
  sWPT.assume (r.2.2 = (C.loop n kp cnt o).1)
  sWPT.produce iprop(has c arg2 harg2 C.x2 ∗ has c arg3 harg3 C.x3 ∗ has c arg4 harg4 (C.loop n kp cnt o).2)
  pure r

theorem spec_apply (n : ℕ) (kp : FVec F S1x1024 .f32) (cnt : BitVec 32) (o : Vec F S1x256x8 .f32) (K : BitVec 32 × FVec F S1x1024 .f32 × BitVec 32 → sProp 𝕄) :
    spec c arg2 harg2 arg3 harg3 arg4 harg4 C n kp cnt o K
      = iprop((has c arg2 harg2 C.x2 ∗ has c arg3 harg3 C.x3 ∗ has c arg4 harg4 o)
        ∗ ∀ r : BitVec 32 × FVec F S1x1024 .f32 × BitVec 32, ⌜r.2.2 = (C.loop n kp cnt o).1⌝
          -∗ ((has c arg2 harg2 C.x2 ∗ has c arg3 harg3 C.x3 ∗ has c arg4 harg4 (C.loop n kp cnt o).2) -∗ K r)) := rfl

/-- The loop's test at block `b`. -/
theorem test_at (a cnt : BitVec 32) :
    Scalar.andi (Scalar.cmpi .slt a 128#32) (Scalar.cmpi .slt cnt 256#32) = 1#1
      ↔ Scalar.cmpi .slt a 128#32 = 1#1 ∧ Scalar.cmpi .slt cnt 256#32 = 1#1 := by
  rcases BitVec.eq_zero_or_eq_one (Scalar.cmpi .slt a 128#32) with h | h <;>
  rcases BitVec.eq_zero_or_eq_one (Scalar.cmpi .slt cnt 256#32) with h' | h' <;> rw [h, h'] <;> decide

theorem blk_slt (b : ℕ) (hb : b ≤ 128) : Scalar.cmpi .slt (BitVec.ofNat 32 b) 128#32 = 1#1 ↔ b < 128 :=
  WordCmp.cmpi_slt_ofNat_eq_one_iff (by omega) (by decide)

theorem blk_next (b : ℕ) (hb : b < 128) : Scalar.addi (BitVec.ofNat 32 b) 1#32 = BitVec.ofNat 32 (b + 1) := by
  apply BitVec.eq_of_toNat_eq
  show (BitVec.ofNat 32 b + 1#32).toNat = _
  simp only [BitVec.toNat_add, BitVec.toNat_ofNat]
  omega

theorem spec_le (i : grid0.Coords) : ∀ n, n ≤ 128 → ∀ (a : BitVec 32), a = BitVec.ofNat 32 (128 - n) → ∀ kp cnt o, cnt.toNat < 300 → ∀ K,
    spec c arg2 harg2 arg3 harg3 arg4 harg4 C n kp cnt o K
      ⊢ wp frame (wpE (defs₀ (F := F)) trips (c : Thread nD τ) (some n)) E
          (defs₀ (F := F) .tc 1 ⟨i, arg2, harg2, C.v1, C.v3, C.v5, C.v7, C.v14, arg3, harg3, spots, lanes, arg4, harg4, a, kp, cnt⟩) K := by
  intro n
  induction n with
  | zero =>
    intro hn a ha kp cnt o hcnt K
    subst ha
    rw [spec_apply]
    show _ ⊢ wp frame (wpE (defs₀ (F := F)) trips (c : Thread nD τ) (some 0)) E
      (cc0_while1 i arg2 harg2 C.v1 C.v3 C.v5 C.v7 C.v14 arg3 harg3 spots lanes arg4 harg4 (BitVec.ofNat 32 128) kp cnt) K
    rw [cc0_while1_eq_skeleton]; unfold cc0_while1_skel
    have ht : ¬ (Scalar.andi (Scalar.cmpi .slt (BitVec.ofNat 32 128) 128#32) (Scalar.cmpi .slt cnt 256#32) = 1#1) := fun h =>
      absurd ((blk_slt 128 (le_refl _)).mp ((test_at _ _).mp h).1) (by omega)
    dsimp only
    rw [if_neg ht, Prog.pure_eq_ret]
    iintro ⟨H, Hk⟩
    rw [wp_ret]; imodintro
    iapply Hk
    · ipureintro; rfl
    · iexact H
  | succ n ih =>
    intro hn a ha kp cnt o hcnt K
    have hb : 127 - n < 128 := by omega
    have ha' : a = blkW ⟨127 - n, hb⟩ := by rw [ha]; show _ = BitVec.ofNat 32 (127 - n); congr 1; omega
    subst ha'
    rw [spec_apply]
    show _ ⊢ wp frame (wpE (defs₀ (F := F)) trips (c : Thread nD τ) (some (n + 1))) E
      (cc0_while1 i arg2 harg2 C.v1 C.v3 C.v5 C.v7 C.v14 arg3 harg3 spots lanes arg4 harg4 (blkW ⟨127 - n, hb⟩) kp cnt) K
    rw [cc0_while1_eq_skeleton]; unfold cc0_while1_skel
    dsimp only
    by_cases hs : Scalar.cmpi .slt cnt 256#32 = 1#1
    · have ht : Scalar.andi (Scalar.cmpi .slt (blkW ⟨127 - n, hb⟩) 128#32) (Scalar.cmpi .slt cnt 256#32) = 1#1 :=
        (test_at _ _).mpr ⟨(blk_slt (127 - n) (by omega)).mpr hb, hs⟩
      have hc : cnt.toNat < 256 := slt_room cnt hcnt hs
      have hl : C.loop (n + 1) kp cnt o = C.loop n (C.s8 ⟨127 - n, hb⟩ kp cnt o).kp (C.s8 ⟨127 - n, hb⟩ kp cnt o).cnt (C.s8 ⟨127 - n, hb⟩ kp cnt o).o := by
        rw [Ctx.loop, dif_pos ⟨hb, hs⟩]
      rw [if_pos ht, hl]
      generalize hbb : (⟨127 - n, hb⟩ : Fin 128) = b at *
      iintro ⟨⟨H2, H3, H4⟩, Hk⟩
      rw [wp_bind]
      iapply (part1_ok c (some (n + 1)) E arg2 harg2 arg3 harg3 arg4 harg4 C b kp cnt o i)
      isplitl [H2]; · iexact H2
      isplitl [H3]; · iexact H3
      isplitl [H4]; · iexact H4
      iintro %r %o' %hr H2 H3 H4
      obtain ⟨hr, ho⟩ := hr
      subst hr; rw [ho]; clear ho
      try dsimp only
      rw [wp_bind]
      iapply (part2_ok c (some (n + 1)) E arg2 harg2 arg3 harg3 arg4 harg4 C b kp cnt o i)
      isplitl [H2]; · iexact H2
      isplitl [H3]; · iexact H3
      isplitl [H4]; · iexact H4
      iintro %r %o' %hr H2 H3 H4
      obtain ⟨hr, ho⟩ := hr
      subst hr; rw [ho]; clear ho
      try dsimp only
      rw [wp_bind]
      iapply (part3_ok c (some (n + 1)) E arg2 harg2 arg3 harg3 arg4 harg4 C b kp cnt o i hc (chk1_ok b))
      isplitl [H2]; · iexact H2
      isplitl [H3]; · iexact H3
      isplitl [H4]; · iexact H4
      iintro %r %o' %hr H2 H3 H4
      obtain ⟨hr, ho⟩ := hr
      subst hr; rw [ho]; clear ho
      try dsimp only
      rw [wp_bind]
      iapply (part4_ok c (some (n + 1)) E arg2 harg2 arg3 harg3 arg4 harg4 C b kp cnt o i hc (chk1_ok b))
      isplitl [H2]; · iexact H2
      isplitl [H3]; · iexact H3
      isplitl [H4]; · iexact H4
      iintro %r %o' %hr H2 H3 H4
      obtain ⟨hr, ho⟩ := hr
      subst hr; rw [ho]; clear ho
      try dsimp only
      rw [wp_bind]
      iapply (part5_ok c (some (n + 1)) E arg2 harg2 arg3 harg3 arg4 harg4 C b kp cnt o i hc (chk1_ok b))
      isplitl [H2]; · iexact H2
      isplitl [H3]; · iexact H3
      isplitl [H4]; · iexact H4
      iintro %r %o' %hr H2 H3 H4
      obtain ⟨hr, ho⟩ := hr
      subst hr; rw [ho]; clear ho
      try dsimp only
      rw [wp_bind]
      iapply (part6_ok c (some (n + 1)) E arg2 harg2 arg3 harg3 arg4 harg4 C b kp cnt o i hc (chk1_ok b))
      isplitl [H2]; · iexact H2
      isplitl [H3]; · iexact H3
      isplitl [H4]; · iexact H4
      iintro %r %o' %hr H2 H3 H4
      obtain ⟨hr, ho⟩ := hr
      subst hr; rw [ho]; clear ho
      try dsimp only
      rw [wp_bind]
      iapply (part7_ok c (some (n + 1)) E arg2 harg2 arg3 harg3 arg4 harg4 C b kp cnt o i hc (chk1_ok b))
      isplitl [H2]; · iexact H2
      isplitl [H3]; · iexact H3
      isplitl [H4]; · iexact H4
      iintro %r %o' %hr H2 H3 H4
      obtain ⟨hr, ho⟩ := hr
      subst hr; rw [ho]; clear ho
      try dsimp only
      rw [wp_bind]
      iapply (part8_ok c (some (n + 1)) E arg2 harg2 arg3 harg3 arg4 harg4 C b kp cnt o i hc (chk1_ok b))
      isplitl [H2]; · iexact H2
      isplitl [H3]; · iexact H3
      isplitl [H4]; · iexact H4
      iintro %r %o' %hr H2 H3 H4
      obtain ⟨hr, ho⟩ := hr
      subst hr; rw [ho]; clear ho
      try dsimp only
      iapply (wp_guarded c (some (n + 1)) E arg2 harg2 C arg4 harg4 _ b 7 (by omega) _ (C.s7 b kp cnt o).cnt (off24_eq b) rfl _ _ k0_pay9 (fun v => recast v))
      isplitl [H2]; · iexact H2
      isplitl [H4]; · iexact H4
      iintro H2 H4
      have hnext : Scalar.addi (blkW b) 1#32 = BitVec.ofNat 32 (128 - n) := by
        rw [← hbb]; exact (blk_next (127 - n) hb).trans (congrArg _ (by omega))
      rw [hnext]
      unfold Prog.lift
      iapply (wp_call_spec trips (c : Thread nD τ) (some (n + 1)) E
        (spec c arg2 harg2 arg3 harg3 arg4 harg4 C n (C.s8 b kp cnt o).kp (C.s8 b kp cnt o).cnt (C.s8 b kp cnt o).o) n
        (fun u hu => by cases hu; exact Nat.lt_succ_self n)
        (ih (by omega) _ rfl _ _ _ (lt_trans (cnt8_lt b C kp cnt o hc) (by decide))))
      rw [spec_apply]
      isplitl [H2 H3 H4]
      · isplitl [H2]; · iexact H2
        isplitl [H3]; · iexact H3
        iexact H4
      iintro %r %hr H
      rw [wp_ret]; imodintro
      iapply Hk
      · ipureintro; exact hr
      · iexact H
    · have ht : ¬ (Scalar.andi (Scalar.cmpi .slt (blkW ⟨127 - n, hb⟩) 128#32) (Scalar.cmpi .slt cnt 256#32) = 1#1) := fun h =>
        hs ((test_at _ _).mp h).2
      have hl : C.loop (n + 1) kp cnt o = (cnt, o) := by rw [Ctx.loop, dif_neg (fun h => hs h.2)]
      rw [if_neg ht, hl, Prog.pure_eq_ret]
      iintro ⟨H, Hk⟩
      rw [wp_ret]; imodintro
      iapply Hk
      · ipureintro; rfl
      · iexact H

end

/-- A row of the corner table. -/
def lineOf (x0 : Vec F S1x8x1024 .f32) (k : Fin 8) : Vec F S1x1x1024 .f32 := fun i => x0 (ix3 0 k (i 2))

/-- What the loop reads, from the point's three input blocks. -/
def ctxOf (x0 : Vec F S1x8x1024 .f32) (x1 : Vec F S1x1024x8 .f32) (x2 : Vec F S1x1x1024 .f32) : Ctx F where
  v1 := k0_pay1 (lineOf x0 0)
  v3 := k0_pay2 (lineOf x0 1)
  v5 := k0_pay3 (lineOf x0 2)
  v7 := k0_pay4 (lineOf x0 3)
  v14 := k0_pay5 (lineOf x0 0) (lineOf x0 1) (lineOf x0 2) (lineOf x0 3)
  x2 := x1
  x3 := x2

/-- What a point leaves: the output rows and the clamped count. -/
def outOf (x0 : Vec F S1x8x1024 .f32) (x1 : Vec F S1x1024x8 .f32) (x2 : Vec F S1x1x1024 .f32) : Vec F S1x256x8 .f32 :=
  ((ctxOf x0 x1 x2).loop 128 k0_pay7 0#32 k0_pay6).2
def validOf (x0 : Vec F S1x8x1024 .f32) (x1 : Vec F S1x1024x8 .f32) (x2 : Vec F S1x1x1024 .f32) : Vec F S1x1x1 .i32 :=
  fun _ => Scalar.minsi ((ctxOf x0 x1 x2).loop 128 k0_pay7 0#32 k0_pay6).1 256#32

theorem line_at (x0 : Vec F S1x8x1024 .f32) (k : Fin 8) {off : Fin 3 → ℕ} (e : off = ![0, k.val, 0])
    (inb : ∀ a, off a + S1x1x1024.size a ≤ S1x8x1024.size a)
    (x : (Rect.unit (s := S1x8x1024) off S1x1x1024.size inb).shape.Idx) :
    x0 ((Rect.unit (s := S1x8x1024) off S1x1x1024.size inb).toLoadRect.idx x) = lineOf x0 k x := by
  subst e
  unfold lineOf
  congr 1
  funext a
  fin_cases a
  · have h0 : (x 0).val < 1 := (x 0).isLt
    exact Fin.ext (show 0 + 1 * (x 0).val = 0 by omega)
  · have h0 : (x 1).val < 1 := (x 1).isLt
    exact Fin.ext (show k.val + 1 * (x 1).val = k.val by omega)
  · exact Fin.ext (show 0 + 1 * (x 2).val = (x 2).val by omega)

/-- Overlaying everything replaces everything. -/
theorem overlay_all {s : Shape} {α : Type} (off : Fin s.rank → ℕ) (h0 : ∀ a, off a = 0) (inb : ∀ a, off a + s.size a ≤ s.size a)
    (X w : s.Idx → α) : (Rect.unit (s := s) off s.size inb).overlay X w = w := by
  funext j
  have : j = (Rect.unit (s := s) off s.size inb).emb j := funext fun a => Fin.ext (by
    show (j a).val = off a + 1 * (j a).val
    rw [h0 a]; omega)
  conv_lhs => rw [this]
  exact Rect.overlay_emb _ _ _ _

theorem has_of_owns (c : Dev nD) {sp : Space} {s : Shape} {e : EltTy} (m : Memref sig .tc sp s e) (h : m.IsWhole) (X : s.Idx → Elt F e) :
    (owns (c : Thread nD τ) m fullShare X : sProp 𝕄) ⊢ has c m h X := by
  unfold owns has
  iintro ⟨%f, %hf, H⟩
  obtain rfl := h.eq_unread hf
  iexact H

theorem owns_of_has (c : Dev nD) {sp : Space} {s : Shape} {e : EltTy} (m : Memref sig .tc sp s e) (h : m.IsWhole) (X : s.Idx → Elt F e) :
    has c m h X ⊢ (owns (c : Thread nD τ) m fullShare X : sProp 𝕄) := by
  unfold owns has
  iintro H
  iexists _
  isplitr
  · ipureintro; exact h.read_unread X
  iexact H

/-- A word that is read and not used. -/
theorem wp_peek (c : Dev nD) (bd : Option ℕ) (E : Set ℕ) {s : Shape} {e : EltTy} (m : Memref sig .tc .smem s e) (h : m.IsWhole) (X : s.Idx → Elt F e)
    (r : Rect s) (h1 : r.shape.numel = 1) (hp : e.packing = 1) (Q : Elt F e → sProp 𝕄) :
    iprop(has c m h X ∗ (∀ v, has c m h X -∗ Q v))
      ⊢ wp frame (wpE (defs₀ (F := F)) trips (c : Thread nD τ) bd) E (smemLoad m r h1 hp) Q := by
  unfold has smemLoad smemLoadElt
  iintro ⟨H, Hk⟩
  iapply (wp_load trips (c : Thread nD τ) bd E (m := m) (S := m.view.set) (View.setOn_subset_set _ _)) $$ H
  iintro H
  rw [wp_ret]; imodintro
  iapply Hk; iexact H

/-- The body, on any whole buffers. -/
theorem body_ok (c : Dev nD) (E : Set ℕ) (i : grid0.Coords) (arg1 : Memref sig .tc .vmem S1x8x1024 .f32) (harg1 : arg1.IsWhole)
    (arg2 : Memref sig .tc .vmem S1x1024x8 .f32) (harg2 : arg2.IsWhole) (arg3 : Memref sig .tc .smem S1x1x1024 .f32) (harg3 : arg3.IsWhole)
    (arg4 : Memref sig .tc .vmem S1x256x8 .f32) (harg4 : arg4.IsWhole) (arg5 : Memref sig .tc .smem S1x1x1 .i32) (harg5 : arg5.IsWhole)
    (x0 : Vec F S1x8x1024 .f32) (x1 : Vec F S1x1024x8 .f32) (x2 : Vec F S1x1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outOf x0 x1 x2) ∗ owns (c : Thread nD τ) arg5 fullShare (validOf x0 x1 x2)) -∗ K ⟨⟩))
      ⊢ wp frame (wpE (defs₀ (F := F)) trips (c : Thread nD τ) none) E
          (cc0__nms_body i arg1 harg1 arg2 harg2 arg3 harg3 arg4 harg4 arg5 harg5) K := by
  rw [cc0__nms_body_eq_skeleton]; unfold cc0__nms_body_skel
  iintro ⟨H1, H2, H3, ⟨%d4, H4⟩, ⟨%d5, H5⟩, Hk⟩
  ihave H1 := (has_of_owns c arg1 harg1 x0) $$ H1
  ihave H2 := (has_of_owns c arg2 harg2 x1) $$ H2
  ihave H3 := (has_of_owns c arg3 harg3 x2) $$ H3
  ihave H4 := (has_of_owns c arg4 harg4 d4) $$ H4
  ihave H5 := (has_of_owns c arg5 harg5 d5) $$ H5
  simp only [wp_bind]
  iapply (wp_read c none E arg1 harg1 x0 _ _ (lineOf x0 0) (fun x => line_at x0 0 rfl _ x))
  isplitl [H1]; · iexact H1
  iintro H1
  iapply (wp_read c none E arg1 harg1 x0 _ _ (lineOf x0 1) (fun x => line_at x0 1 rfl _ x))
  isplitl [H1]; · iexact H1
  iintro H1
  iapply (wp_read c none E arg1 harg1 x0 _ _ (lineOf x0 2) (fun x => line_at x0 2 rfl _ x))
  isplitl [H1]; · iexact H1
  iintro H1
  iapply (wp_read c none E arg1 harg1 x0 _ _ (lineOf x0 3) (fun x => line_at x0 3 rfl _ x))
  isplitl [H1]; · iexact H1
  iintro H1
  iapply (wp_read c none E arg4 harg4 d4 _ _ _ (fun x => rfl))
  isplitl [H4]; · iexact H4
  iintro H4
  iapply (wp_fill c none E arg4 harg4 d4)
  isplitl [H4]; · iexact H4
  iintro H4
  rw [overlay_all (s := S1x256x8) ![0, 0, 0] (fun a => by fin_cases a <;> rfl)]
  unfold Prog.lift
  iapply (wp_call_spec trips (c : Thread nD τ) none E
    (spec c arg2 harg2 arg3 harg3 arg4 harg4 (ctxOf x0 x1 x2) 128 k0_pay7 0#32 k0_pay6) 128 (fun u hu => nomatch hu)
    (spec_le c E arg2 harg2 arg3 harg3 arg4 harg4 (ctxOf x0 x1 x2) i 128 (le_refl _) _ rfl _ _ _ (by decide)))
  rw [spec_apply]
  isplitl [H2 H3 H4]
  · isplitl [H2]; · iexact H2
    isplitl [H3]; · iexact H3
    iexact H4
  iintro %r %hr ⟨H2, H3, H4⟩
  rw [wp_ret]; imodintro
  obtain ⟨r0, r1, r2⟩ := r
  dsimp only at hr ⊢
  subst hr
  iapply (wp_peek c none E arg5 harg5 d5)
  isplitl [H5]; · iexact H5
  iintro %v H5
  iapply (wp_fill c none E arg5 harg5 d5)
  isplitl [H5]; · iexact H5
  iintro H5
  rw [overlay_all (s := S1x1x1) ![0, 0, 0] (fun a => by fin_cases a <;> rfl), Prog.pure_eq_ret, wp_ret]; imodintro
  iapply Hk
  isplitl [H1]; · iapply (owns_of_has c arg1 harg1 x0); iexact H1
  isplitl [H2]; · iapply (owns_of_has c arg2 harg2 x1); iexact H2
  isplitl [H3]; · iapply (owns_of_has c arg3 harg3 x2); iexact H3
  isplitl [H4]; · iapply (owns_of_has c arg4 harg4); iexact H4
  iapply (owns_of_has c arg5 harg5); iexact H5

end Cert.KernelIdeal.Nms

end
-- ==== Proof.Launched.lean ====
/-
  The launch: what the core holds around the grid, which buffers the host lines touch, and the windows' blocks.
-/
module

public import proofs.«01_k».proof.Proof.Body

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c` holds when the grid is entered: the launch contents after the host lines that come first. -/
abbrev V0 (c : Dev nD) : Valuation τ sig (Elt F) := StableHlo.after (List.flatten [hostOps0, hostOps0_1, hostOps0_2, hostOps0_3, hostOps0_4, hostOps0_5]) (fun b => m (c, b))
/-- The same, at one of the core's buffers. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is: host lines, the grid, host lines. -/
theorem hmain (𝒱₀ : Variants) : Pipeline.HMainK (Ix := Unit) (Name := ℕ) (U := UR sig nD τ) (Lvl := ℕ) (cfgs (F := F)) 0 defs₀ 𝒱₀ m (main (F := F)) (V m)
      (fun _ => Pipeline.chain ([hostOps1].map StableHlo.seq)) :=
  Pipeline.hmain_around (cfgs (F := F)) 0 defs₀ 𝒱₀ m main [hostOps0, hostOps0_1, hostOps0_2, hostOps0_3, hostOps0_4, hostOps0_5] [hostOps1] (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

/-- The host lines after the grid touch only buffers they may touch. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- They write none of the arrays the grid moves. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The boxes are as launched when the grid is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- The class scores are as launched when the grid is entered. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The boxes are as launched at the end. -/
theorem W_main_arg0 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The class scores are as launched at the end. -/
theorem W_main_arg1 (dats : (p : Fin _) → (c : Dev nD) → Dat τ (Elt F) Unit ℕ (UR sig nD τ) ℕ ((cfgs (F := F)) p) c) (c : Dev nD) :
    Pipeline.afterTail₀ (cfgs (F := F)) dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The block of window `w` at point `t`, read off its array as the grid finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- An input window holds its block at every point, whether or not it is fetched there. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The two argument arrays end as launched, from a run of the grid. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (Pipeline.afterTail₀ (cfgs (F := F)) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(((h c).2 main_arg0 (Pipeline.mem_restRefs_of main_arg0 (by decide) (by exact (by decide : ∀ w, Pipeline.arrRef spec0 w ≠ main_arg0)))).trans (W_main_arg0 m dats c)),
      (((h c).2 main_arg1 (Pipeline.mem_restRefs_of main_arg1 (by decide) (by exact (by decide : ∀ w, Pipeline.arrRef spec0 w ≠ main_arg1)))).trans (W_main_arg1 m dats c))⟩) h

/-- Each window's buffer at point `t`, and that it is a whole one. -/
abbrev ms0_0 (t : Fin (cfg0 (F := F)).N) : Memref sig .tc .vmem S1x8x1024 .f32 := win0_0.stage ((cfg0 (F := F)).slots t 0)
abbrev hs0_0 (t : Fin (cfg0 (F := F)).N) : (ms0_0 (F := F) t).IsWhole := hstage0_0 (((cfg0 (F := F)).slots t 0).cast nbuf0_0)
abbrev ms0_1 (t : Fin (cfg0 (F := F)).N) : Memref sig .tc .vmem S1x1024x8 .f32 := win0_1.stage ((cfg0 (F := F)).slots t 1)
abbrev hs0_1 (t : Fin (cfg0 (F := F)).N) : (ms0_1 (F := F) t).IsWhole := hstage0_1 (((cfg0 (F := F)).slots t 1).cast nbuf0_1)
abbrev ms0_2 (t : Fin (cfg0 (F := F)).N) : Memref sig .tc .smem S1x1x1024 .f32 := win0_2.stage ((cfg0 (F := F)).slots t 2)
abbrev hs0_2 (t : Fin (cfg0 (F := F)).N) : (ms0_2 (F := F) t).IsWhole := hstage0_2 (((cfg0 (F := F)).slots t 2).cast nbuf0_2)
abbrev ms0_3 (t : Fin (cfg0 (F := F)).N) : Memref sig .tc .vmem S1x256x8 .f32 := win0_3.stage ((cfg0 (F := F)).slots t 3)
abbrev hs0_3 (t : Fin (cfg0 (F := F)).N) : (ms0_3 (F := F) t).IsWhole := hstage0_3 (((cfg0 (F := F)).slots t 3).cast nbuf0_3)
abbrev ms0_4 (t : Fin (cfg0 (F := F)).N) : Memref sig .tc .smem S1x1x1 .i32 := win0_4.stage ((cfg0 (F := F)).slots t 4)
abbrev hs0_4 (t : Fin (cfg0 (F := F)).N) : (ms0_4 (F := F) t).IsWhole := hstage0_4 (((cfg0 (F := F)).slots t 4).cast nbuf0_4)

end Cert.KernelIdeal.Nms

end
-- ==== Proof.Ran.lean ====
/-
  The run: each grid point's outputs, the body's triple at a point, the run of the whole program and its frame.
-/
module

public import proofs.«01_k».proof.Proof.Launched
public import Idealize.ShloMosaic.Lib.Claim

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output rows and the count that point `t` leaves. -/
def outAt (c : Dev nD) (t : Fin (cfg0 (F := F)).N) : Vec F S1x256x8 .f32 := outOf (iblk m c 0 t) (iblk m c 1 t) (iblk m c 2 t)
def validAt (c : Dev nD) (t : Fin (cfg0 (F := F)).N) : Vec F S1x1x1 .i32 := validOf (iblk m c 0 t) (iblk m c 1 t) (iblk m c 2 t)

/-- What the grid works on: the arrays as it finds them, each input window left at its block, each output window at the
    point's result. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨4, _⟩ => validAt m c t
  Φ _ := Pipeline.ΦA spec0 c
  q _ := fullShare
  owed _ := 0

/-- The arrays are as the grid finds them. -/
theorem A_eq (c : Dev nD) (w : Fin (cfg0 (F := F)).W) : (dats m 0 c).A w = V m c (Pipeline.arrRef spec0 w) := by
  dsimp only [dats]

/-- What each window holds after a point. -/
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = outAt m c t := by dsimp only [dats]; rfl
theorem after0_4 (c : Dev nD) (t : Fin (cfg0 (F := F)).N) : (dats m 0 c).after 4 t = validAt m c t := by dsimp only [dats]; rfl

/-- What each input window holds before it. -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d

/-- What the body has at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it hands back. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body does that. -/
theorem sound_body (c : Dev nD) (t : Fin (cfg0 (F := F)).N) :
    bodyPre m c t ⊢ wp frame (wpE (defs₀ (F := F)) trips c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outAt validAt
  iintro ⟨HΦ, Ho, ⟨%d0, H0⟩, ⟨%d1, H1⟩, ⟨%d2, H2⟩, ⟨%d3, H3⟩, ⟨%d4, H4⟩⟩
  iapply (body_ok c Set.univ (grid0.coords t) _ (hs0_0 t) _ (hs0_1 t) _ (hs0_2 t) _ (hs0_3 t) _ (hs0_4 t) (iblk m c 0 t) (iblk m c 1 t) (iblk m c 2 t))
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body the grid calls is the printed one. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- So it meets what the grid asks of it. -/
theorem body_obligation (c : Dev nD) : BodyObligation (dats (F := F) m 0 c) (defs₀ (F := F)) trips () Set.univ := fun t => by
  rw [bigSep_W0, bigSep_W0, defs₀_row]
  exact triple_restated (sound_body m c t) rfl .rfl fun _ => .rfl

set_option backward.isDefEq.respectTransparency.types false in
set_option maxHeartbeats 800000 in
/-- The whole run, and every counter back at zero. -/
theorem run_main_quiescent : θ_run defs (onTc (τ := τ) (main (F := F))) (s₀ m ρ) (fun r => (Pipeline.FramePost (cfgs (F := F)) (dats m) 0 (Pipeline.afterTail₀ (cfgs (F := F)) (dats m) 0 (V0 m) [hostOps1])) r ∧ r.2.sem = fun _ => 0) :=
  Pipeline.θ_run_frame_around (Q' := _) (cfgs (F := F)) (dats m) (0 : Fin 1) launch0 defs₀ trips m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m trips) (hA := A_eq m) (hΦ := fun _ _ => rfl)

/-- The whole run. -/
theorem run_main : θ_run defs (onTc (τ := τ) (main (F := F))) (s₀ m ρ) (Pipeline.FramePost (cfgs (F := F)) (dats m) 0 (Pipeline.afterTail₀ (cfgs (F := F)) (dats m) 0 (V0 m) [hostOps1])) :=
  (θ_run defs _ _).mono (fun _ h => h.1) (run_main_quiescent m ρ)

/-- The argument arrays end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the argument arrays end as launched and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Nms

end
-- ==== Proof.RefRan.lean ====
/-
  The reference's run: its loop's entry and exit contents, and its arguments unchanged.
-/
module

public import proofs.«01_k».proof.Proof.Gen.ReferenceIdeal.Run
public import Idealize.ShloMosaic.Lib.Claim
public import Idealize.ShloMosaic.Lib.Quiescent

@[expose] public section

set_option maxRecDepth 16384

noncomputable section

namespace Cert.ReferenceIdeal.Nms

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

variable (m : (ℓ : Loc nD τ sig) → Buf (Elt F) ℓ) (ρ : Dev nD → PrngReg)

/-- A buffer that neither a trip nor the loop's test writes is, at every trip, as it was at the loop's entry. -/
theorem atK_keep (r : Ref sig .tc) (h1 : r ∉ condOps_W) (h2 : r ∉ while0Ops0_W) (c : Dev nD) :
    ∀ k, atK m k c (Proc.devRef .tc r) = entryContents preI m c (Proc.devRef .tc r)
  | 0 => rfl
  | k + 1 => ((after_of_writes_sub while0Ops0 _ while0Ops0_writes h2).trans
      (after_of_writes_sub condOps _ condOps_writes h1)).trans (atK_keep r h1 h2 c k)

/-- A buffer that the lines before the loop do not write enters the loop as launched. -/
theorem entry_keep (r : Ref sig .tc) (h0 : r ∉ hostOps0_W) (h1 : r ∉ hostOps0_1_W) (h2 : r ∉ hostOps0_2_W) (c : Dev nD) :
    entryContents preI m c (Proc.devRef .tc r) = m ((c.tc : Thread nD τ).loc r) :=
  ((after_of_writes_sub hostOps0_2 _ hostOps0_2_writes h2).trans
    (after_of_writes_sub hostOps0_1 _ hostOps0_1_writes h1)).trans (after_of_writes_sub hostOps0 _ hostOps0_writes h0)

/-- The contents when the loop has ended. -/
def exitV (c : Dev nD) : Valuation τ sig (Elt F) := after condOps (atK m 1024 c)

/-- The contents at the end. -/
def endV (c : Dev nD) : Valuation τ sig (Elt F) := afterL postI (exitV m c)

/-! What each stretch after the loop writes. -/

abbrev post3_W : List (Ref sig .tc) := [main_c_12, main_v72, main_v73]
theorem post3_writes : (hostOps0_3 : List (HloOp τ sig (Elt F))).Forall fun op => op.writes ⊆ (post3_W.map (Proc.devRef (τ := τ) .tc)).toFinset :=
  forall_writes_sub_of_map rfl
abbrev post4_W : List (Ref sig .tc) := [main_call1_v0, main_call1_v1, main_v74]
theorem post4_writes : (hostOps0_4 : List (HloOp τ sig (Elt F))).Forall fun op => op.writes ⊆ (post4_W.map (Proc.devRef (τ := τ) .tc)).toFinset :=
  forall_writes_sub_of_map rfl
abbrev post5_W : List (Ref sig .tc) := [main_call2_v0, main_call2_v1_0, main_v75]
theorem post5_writes : (hostOps0_5 : List (HloOp τ sig (Elt F))).Forall fun op => op.writes ⊆ (post5_W.map (Proc.devRef (τ := τ) .tc)).toFinset :=
  forall_writes_sub_of_map rfl
abbrev post6_W : List (Ref sig .tc) := [main_v76, main_c_13, main_v77, main_v78, main_c_14, main_v79, main_v80, main_v81, main_v82, main_v83, main_v84, main_c_15, main_v85, main_v86, main_c_16, main_v87, main_v88, main_v89, main_v90, main_v91, main_cst_17]
theorem post6_writes : (hostOps0_6 : List (HloOp τ sig (Elt F))).Forall fun op => op.writes ⊆ (post6_W.map (Proc.devRef (τ := τ) .tc)).toFinset :=
  forall_writes_sub_of_map rfl
abbrev post7_W : List (Ref sig .tc) := [main_call3_v0, main_call3_v1, main_call3_v2, main_v92]
theorem post7_writes : (hostOps0_7 : List (HloOp τ sig (Elt F))).Forall fun op => op.writes ⊆ (post7_W.map (Proc.devRef (τ := τ) .tc)).toFinset :=
  forall_writes_sub_of_map rfl
abbrev post8_W : List (Ref sig .tc) := [main_c_18, main_v93, main_v94, main_c_19, main_v95, main_v96, main_v97, main_v98, main_v99, main_cst_20]
theorem post8_writes : (hostOps0_8 : List (HloOp τ sig (Elt F))).Forall fun op => op.writes ⊆ (post8_W.map (Proc.devRef (τ := τ) .tc)).toFinset :=
  forall_writes_sub_of_map rfl
abbrev post9_W : List (Ref sig .tc) := [main_call4_v0, main_call4_v1, main_v100]
theorem post9_writes : (hostOps0_9 : List (HloOp τ sig (Elt F))).Forall fun op => op.writes ⊆ (post9_W.map (Proc.devRef (τ := τ) .tc)).toFinset :=
  forall_writes_sub_of_map rfl
abbrev post10_W : List (Ref sig .tc) := [main_c_21, main_v101, main_v102, main_c_22, main_v103, main_v104, main_v105, main_v106, main_v107, main_c_23]
theorem post10_writes : (hostOps0_10 : List (HloOp τ sig (Elt F))).Forall fun op => op.writes ⊆ (post10_W.map (Proc.devRef (τ := τ) .tc)).toFinset :=
  forall_writes_sub_of_map rfl
abbrev post11_W : List (Ref sig .tc) := [main_call5_v0, main_call5_v1, main_v108]
theorem post11_writes : (hostOps0_11 : List (HloOp τ sig (Elt F))).Forall fun op => op.writes ⊆ (post11_W.map (Proc.devRef (τ := τ) .tc)).toFinset :=
  forall_writes_sub_of_map rfl
abbrev post12_W : List (Ref sig .tc) := [main_v109, main_v110, main_v111, main_v112, main_v113, main_c_24, main_v114, main_c_25, main_v115, main_v116]
theorem post12_writes : (hostOps0_12 : List (HloOp τ sig (Elt F))).Forall fun op => op.writes ⊆ (post12_W.map (Proc.devRef (τ := τ) .tc)).toFinset :=
  forall_writes_sub_of_map rfl

/-- A buffer that no line after the loop writes ends as the loop left it. -/
theorem post_keep (V : Valuation τ sig (Elt F)) (r : Ref sig .tc)
    (h3 : r ∉ post3_W) (h4 : r ∉ post4_W) (h5 : r ∉ post5_W) (h6 : r ∉ post6_W) (h7 : r ∉ post7_W) (h8 : r ∉ post8_W) (h9 : r ∉ post9_W) (h10 : r ∉ post10_W) (h11 : r ∉ post11_W) (h12 : r ∉ post12_W) :
    afterL postI V (Proc.devRef .tc r) = V (Proc.devRef .tc r) :=
  (after_of_writes_sub hostOps0_12 _ post12_writes h12).trans
    ((after_of_writes_sub hostOps0_11 _ post11_writes h11).trans
    ((after_of_writes_sub hostOps0_10 _ post10_writes h10).trans
    ((after_of_writes_sub hostOps0_9 _ post9_writes h9).trans
    ((after_of_writes_sub hostOps0_8 _ post8_writes h8).trans
    ((after_of_writes_sub hostOps0_7 _ post7_writes h7).trans
    ((after_of_writes_sub hostOps0_6 _ post6_writes h6).trans
    ((after_of_writes_sub hostOps0_5 _ post5_writes h5).trans
    ((after_of_writes_sub hostOps0_4 _ post4_writes h4).trans (after_of_writes_sub hostOps0_3 _ post3_writes h3)))))))))

/-- The run: the two results as the end contents have them, and the arguments as launched. -/
theorem run : θ_run (defs (F := F)) (onTc (τ := τ) (main (F := F))) ⟨m, fun _ => 0, ρ⟩ (fun r => ∀ c : Dev nD,
      r.2.mem ((c.tc : Thread nD τ).loc main_v112) = endV m c (Proc.devRef .tc main_v112)
      ∧ r.2.mem ((c.tc : Thread nD τ).loc main_v116) = endV m c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c main_v112 rfl, h c main_v116 rfl,
    ((h c main_arg0 rfl).trans ((post_keep _ main_arg0 (by decide) (by decide) (by decide) (by decide) (by decide) (by decide) (by decide) (by decide) (by decide) (by decide)).trans (after_of_writes_sub condOps _ condOps_writes (by decide)))).trans
      ((atK_keep m main_arg0 (by decide) (by decide) c 1024).trans (entry_keep m main_arg0 (by decide) (by decide) (by decide) c)),
    ((h c main_arg1 rfl).trans ((post_keep _ main_arg1 (by decide) (by decide) (by decide) (by decide) (by decide) (by decide) (by decide) (by decide) (by decide) (by decide)).trans (after_of_writes_sub condOps _ condOps_writes (by decide)))).trans
      ((atK_keep m main_arg1 (by decide) (by decide) c 1024).trans (entry_keep m main_arg1 (by decide) (by decide) (by decide) c))⟩)
    (run_fold m ρ)

/-- The frame. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2, sem_eq_zero_of_no_sems (by decide) r.2⟩) (run m ρ)

end Cert.ReferenceIdeal.Nms

end
-- ==== Proof.Entry.lean ====
module

public import proofs.«01_k».proof.Proof.Launched
public import Idealize.ShloMosaic.Lib.Claim
public import Idealize.ShloMosaic.Lib.Pointwise
public import Idealize.ShloMosaic.Lib.WordCmp
public import Idealize.ShloMosaic.Lib.ReduceAll

/-! # What the kernel's host program hands to the region -/

@[expose] public section

set_option maxRecDepth 16384

noncomputable section

namespace Cert.KernelIdeal.Nms

open Cert.KernelIdeal Cert.KernelIdeal.Gen
open Idealize.ShloMosaic Idealize.ShloMosaic.TcCoe
open Idealize.ShloMosaic.StableHlo

/-- The largest class score of every proposal. -/
def best (x1 : FVec Ideal S4x20000x8 .f32) : FVec Ideal S4x20000 .f32 :=
  Host.reduce FloatOps.maximumf x1 (constant S_ .f32 0xFF800000#32) reducesTo_S4x20000x8_S4x20000_d2 h_S_

/-- The class that has it. -/
def cls (x1 : FVec Ideal S4x20000x8 .f32) : IVec S4x20000 32 := fun j =>
  (Host.argReduce reducer_argmax_f32_i32 x1 (iotaInDim S4x20000x8 32 2) (constant S_ .f32 0xFF800000#32)
    (constantI S_ 32 0#32) reducesTo_S4x20000x8_S4x20000_d2 h_S_ j).2

/-- The 1024 largest of every image's 20000 numbers, and where they are. -/
def topV (x : FVec Ideal S4x20000 .f32) : FVec Ideal S4x1024 .f32 :=
  (Host.topK S4x1024 1 (FloatOps.cmpfTotal .gt) x sliceFits_S4x20000_S4x1024).1
def topI (x : FVec Ideal S4x20000 .f32) : IVec S4x1024 32 :=
  (Host.topK S4x1024 1 (FloatOps.cmpfTotal .gt) x sliceFits_S4x20000_S4x1024).2
/-- Words as numbers. -/
def toF (x : IVec S4x20000 32) : FVec Ideal S4x20000 .f32 := sitofp .f32 x

/-- The 1024 best scores of every image. -/
def vals (x1 : FVec Ideal S4x20000x8 .f32) : FVec Ideal S4x1024 .f32 := topV (best x1)

/-- The proposals that have them. -/
def inds (x1 : FVec Ideal S4x20000x8 .f32) : IVec S4x1024 32 := topI (best x1)

/-- The proposals as a column of start indices. -/
def starts (x1 : FVec Ideal S4x20000x8 .f32) : IVec S4x1024x1 32 :=
  broadcastInDim S4x1024x1 ![0, 1] bcast_S4x1024_S4x1024x1_0_1 (inds x1)

/-- Their boxes. -/
def boxes (x0 : FVec Ideal S4x20000x4 .f32) (x1 : FVec Ideal S4x20000x8 .f32) : FVec Ideal S4x1024x4 .f32 :=
  Host.gather gather_S4x20000x4_S4x1024x1_S4x1024x4_2_1_0_0_1_2_114 x0 (starts x1)

/-- Their classes, as numbers. -/
def labs (x1 : FVec Ideal S4x20000x8 .f32) : FVec Ideal S4x1024 .f32 :=
  Host.gather gather_S4x20000_S4x1024x1_S4x1024_n_1_0_0_1_2_11 (toF (cls x1)) (starts x1)

/-- A selected proposal is one of the 20000. -/
theorem inds_lt (x1 : FVec Ideal S4x20000x8 .f32) (j : S4x1024.Idx) : ∃ k : Fin 20000, inds x1 j = BitVec.ofNat 32 k.val :=
  ⟨_, rfl⟩

/-- A word below 20000 is not negative. -/
theorem slt_zero (k : Fin 20000) : IntOp.cmpi .slt (BitVec.ofNat 32 k.val) 0#32 = 0#1 := by
  have hk := k.isLt
  have h : IntOp.cmpi .slt (BitVec.ofNat 32 k.val) (BitVec.ofNat 32 0) = _ := WordCmp.cmpi_slt_ofNat (by omega) (by omega)
  exact h.trans (by simp)

/-- Counting from the end is never needed for a selected proposal. -/
theorem wrap_eq (k : Fin 20000) :
    Scalar.select (IntOp.cmpi .slt (BitVec.ofNat 32 k.val) 0#32) (IntOp.addi (BitVec.ofNat 32 k.val) 20000#32) (BitVec.ofNat 32 k.val)
      = BitVec.ofNat 32 k.val := by
  rw [slt_zero]
  rfl

/-- And it is in range. -/
theorem range_eq (k : Fin 20000) :
    IntOp.andi (IntOp.cmpi .sge (BitVec.ofNat 32 k.val) 0#32) (IntOp.cmpi .sle (BitVec.ofNat 32 k.val) 19999#32) = 1#1 := by
  have hk := k.isLt
  have h1 : IntOp.cmpi .sge (BitVec.ofNat 32 k.val) (BitVec.ofNat 32 0) = _ := WordCmp.cmpi_sge_ofNat (by omega) (by omega)
  have h2 : IntOp.cmpi .sle (BitVec.ofNat 32 k.val) (BitVec.ofNat 32 19999) = _ := WordCmp.cmpi_sle_ofNat (by omega) (by omega)
  have h3 : decide (k.val ≤ 19999) = true := decide_eq_true (by omega)
  have h4 : decide (0 ≤ k.val) = true := decide_eq_true (by omega)
  rw [show (0#32) = BitVec.ofNat 32 0 from rfl, h1, h2, h3, h4]
  rfl

/-- A column of start indices with the negative ones counted from the end. -/
def wrap3 (i : IVec S4x1024x1 32) : IVec S4x1024x1 32 :=
  select (cmpi .slt i (broadcastInDim S4x1024x1 ![] bcast_S_S4x1024x1 (constantI S_ 32 0#32)))
    (addi i (broadcastInDim S4x1024x1 ![] bcast_S_S4x1024x1 (constantI S_ 32 20000#32))) i

/-- The same before it is made a column. -/
def wrap2 (i : IVec S4x1024 32) : IVec S4x1024 32 :=
  select (cmpi .slt i (broadcastInDim S4x1024 ![] bcast_S_S4x1024 (constantI S_ 32 0#32)))
    (addi i (broadcastInDim S4x1024 ![] bcast_S_S4x1024 (constantI S_ 32 20000#32))) i

/-- Which rows have all their start indices in range. -/
def mask (i : IVec S4x1024x1 32) : IVec S4x1024 1 :=
  Host.reduce IntOp.andi (andi (cmpi .sge i (broadcastInDim S4x1024x1 ![] bcast_S_S4x1024x1 (constantI S_ 32 0#32)))
    (cmpi .sle i (broadcastInDim S4x1024x1 ![0, 1, 2] bcast_S1x1x1_S4x1024x1_0_1_2
      (broadcastInDim S1x1x1 ![2] bcast_S1_S1x1x1_2 (constantI S1 32 19999#32)))))
    (constantI S_ 1 1#1) reducesTo_S4x1024x1_S4x1024_d2 h_S_

theorem wrap3_starts (x1 : FVec Ideal S4x20000x8 .f32) : wrap3 (starts x1) = starts x1 := by
  funext j
  obtain ⟨k, hk⟩ := inds_lt x1 (ix2 (j 0) (j 1))
  have e : starts x1 j = BitVec.ofNat 32 k.val := (congrArg (inds x1) (by funext a; fin_cases a <;> rfl)).trans hk
  show Scalar.select (IntOp.cmpi .slt (starts x1 j) 0#32) (IntOp.addi (starts x1 j) 20000#32) (starts x1 j) = starts x1 j
  rw [e, wrap_eq]

theorem wrap2_inds (x1 : FVec Ideal S4x20000x8 .f32) : wrap2 (inds x1) = inds x1 := by
  funext j
  obtain ⟨k, hk⟩ := inds_lt x1 j
  show Scalar.select (IntOp.cmpi .slt (inds x1 j) 0#32) (IntOp.addi (inds x1 j) 20000#32) (inds x1 j) = inds x1 j
  rw [hk, wrap_eq]

theorem mask_starts (x1 : FVec Ideal S4x20000x8 .f32) (j) : mask (starts x1) j = 1#1 := by
  refine Host.reduce_andi_one _ _ _ _ j rfl fun i => ?_
  obtain ⟨k, hk⟩ := inds_lt x1 (ix2 (i 0) (i 1))
  have e : starts x1 i = BitVec.ofNat 32 k.val := (congrArg (inds x1) (by funext a; fin_cases a <;> rfl)).trans hk
  show IntOp.andi (IntOp.cmpi .sge (starts x1 i) 0#32) (IntOp.cmpi .sle (starts x1 i) 19999#32) = 1#1
  rw [e, range_eq]

theorem cast_inds (x1 : FVec Ideal S4x20000x8 .f32) : (shapeCast S4x1024x1 (inds x1) shapeCasts_S4x1024_S4x1024x1 : IVec S4x1024x1 32) = starts x1 := by
  unfold starts
  funext j
  pointwise

/-- The rows the region is given: box, score, label, two zeros. -/
def rows (x0 : FVec Ideal S4x20000x4 .f32) (x1 : FVec Ideal S4x20000x8 .f32) : FVec Ideal S4x1024x8 .f32 :=
  concatenate S4x1024x8 2 [⟨S4x1024x4, boxes x0 x1⟩, ⟨S4x1024x1, broadcastInDim S4x1024x1 ![0, 1] bcast_S4x1024_S4x1024x1_0_1 (vals x1)⟩,
    ⟨S4x1024x1, broadcastInDim S4x1024x1 ![0, 1] bcast_S4x1024_S4x1024x1_0_1 (labs x1)⟩,
    ⟨S4x1024x2, broadcastInDim S4x1024x2 ![] bcast_S_S4x1024x2 (constant S_ .f32 0x00000000#32)⟩]
    concatenates_S4x1024x4_S4x1024x1_S4x1024x1_S4x1024x2_S4x1024x8_d2

variable (W : Valuation τ sig (Elt Ideal))

theorem at0_0 : after hostOps0 W (Proc.devRef .tc main_v0) = best (W (Proc.devRef .tc main_arg1)) := by
  after_results
  rfl
theorem at0_1 : after hostOps0_1 W (Proc.devRef .tc main_v1) = cls (W (Proc.devRef .tc main_arg1)) := by
  after_results
  rfl

theorem at0_2a : after hostOps0_2 W (Proc.devRef .tc main_v2) = toF (W (Proc.devRef .tc main_v1)) := by
  after_results
  rfl
theorem at0_2b : after hostOps0_2 W (Proc.devRef .tc main_values) = topV (W (Proc.devRef .tc main_v0)) := by
  after_results
  rfl
theorem at0_2c : after hostOps0_2 W (Proc.devRef .tc main_indices) = topI (W (Proc.devRef .tc main_v0)) := by
  after_results
  rfl
theorem at0_2d : after hostOps0_2 W (Proc.devRef .tc main_v3)
    = broadcastInDim S4x1024x1 ![0, 1] bcast_S4x1024_S4x1024x1_0_1 (topI (W (Proc.devRef .tc main_v0))) := by
  after_results
  rfl
theorem at0_3 : after hostOps0_3 W (Proc.devRef .tc main_v4)
    = select (broadcastInDim S4x1024x4 ![0, 1] bcast_S4x1024_S4x1024x4_0_1 (mask (wrap3 (W (Proc.devRef .tc main_v3)))))
      (Host.gather gather_S4x20000x4_S4x1024x1_S4x1024x4_2_1_0_0_1_2_114 (W (Proc.devRef .tc main_arg0)) (wrap3 (W (Proc.devRef .tc main_v3))))
      (broadcastInDim S4x1024x4 ![] bcast_S_S4x1024x4 (constant (F := Ideal) S_ .f32 0x7FC00000#32)) := by
  after_results
  rfl
theorem at0_4 : after hostOps0_4 W (Proc.devRef .tc main_v5)
    = select (mask (shapeCast S4x1024x1 (wrap2 (W (Proc.devRef .tc main_indices))) shapeCasts_S4x1024_S4x1024x1))
      (Host.gather gather_S4x20000_S4x1024x1_S4x1024_n_1_0_0_1_2_11 (W (Proc.devRef .tc main_v2))
        (shapeCast S4x1024x1 (wrap2 (W (Proc.devRef .tc main_indices))) shapeCasts_S4x1024_S4x1024x1))
      (broadcastInDim S4x1024 ![] bcast_S_S4x1024 (constant (F := Ideal) S_ .f32 0x7FC00000#32)) := by
  after_results
  rfl

theorem at0_5a : after hostOps0_5 W (Proc.devRef .tc main_v9)
    = concatenate S4x1024x8 2 [⟨S4x1024x4, (W (Proc.devRef .tc main_v4) : FVec Ideal S4x1024x4 .f32)⟩,
      ⟨S4x1024x1, broadcastInDim S4x1024x1 ![0, 1] bcast_S4x1024_S4x1024x1_0_1 (W (Proc.devRef .tc main_values) : FVec Ideal S4x1024 .f32)⟩,
      ⟨S4x1024x1, broadcastInDim S4x1024x1 ![0, 1] bcast_S4x1024_S4x1024x1_0_1 (W (Proc.devRef .tc main_v5) : FVec Ideal S4x1024 .f32)⟩,
      ⟨S4x1024x2, broadcastInDim S4x1024x2 ![] bcast_S_S4x1024x2 (constant (F := Ideal) S_ .f32 0x00000000#32)⟩]
      concatenates_S4x1024x4_S4x1024x1_S4x1024x1_S4x1024x2_S4x1024x8_d2 := by
  after_results
  rfl
theorem at0_5b : after hostOps0_5 W (Proc.devRef .tc main_v10)
    = transpose S4x8x1024 [0, 2, 1] (after hostOps0_5 W (Proc.devRef .tc main_v9)) transposes_S4x1024x8_S4x8x1024_0_2_1 := by
  rw [at0_5a]
  after_results
  rfl
theorem at0_5c : after hostOps0_5 W (Proc.devRef .tc main_v11)
    = broadcastInDim S4x1x1024 ![0, 2] bcast_S4x1024_S4x1x1024_0_2 (W (Proc.devRef .tc main_values)) := by
  after_results

/-! What the later stretches leave alone. -/

theorem keep0_a0 : after hostOps0 W (Proc.devRef .tc main_arg0) = W (Proc.devRef .tc main_arg0) := by after_results
theorem keep0_a1 : after hostOps0 W (Proc.devRef .tc main_arg1) = W (Proc.devRef .tc main_arg1) := by after_results
theorem keep1_a0 : after hostOps0_1 W (Proc.devRef .tc main_arg0) = W (Proc.devRef .tc main_arg0) := by after_results
theorem keep1_v0 : after hostOps0_1 W (Proc.devRef .tc main_v0) = W (Proc.devRef .tc main_v0) := by after_results
theorem keep2_a0 : after hostOps0_2 W (Proc.devRef .tc main_arg0) = W (Proc.devRef .tc main_arg0) := by after_results
theorem keep3_v2 : after hostOps0_3 W (Proc.devRef .tc main_v2) = W (Proc.devRef .tc main_v2) := by after_results
theorem keep3_vals : after hostOps0_3 W (Proc.devRef .tc main_values) = W (Proc.devRef .tc main_values) := by after_results
theorem keep3_inds : after hostOps0_3 W (Proc.devRef .tc main_indices) = W (Proc.devRef .tc main_indices) := by after_results
theorem keep4_v4 : after hostOps0_4 W (Proc.devRef .tc main_v4) = W (Proc.devRef .tc main_v4) := by after_results
theorem keep4_vals : after hostOps0_4 W (Proc.devRef .tc main_values) = W (Proc.devRef .tc main_values) := by after_results

theorem select_ones {α : Type} {s : Shape} (c : IVec s 1) (h : ∀ j, c j = 1#1) (x y : s.Idx → α) : select c x y = x := by
  funext j
  show (if c j = 1 then x j else y j) = x j
  rw [h]
  rfl

variable (m : (ℓ : Loc nD τ sig) → Buf (Elt Ideal) ℓ) (c : Dev nD)

/-- The contents after the first four stretches, from the launch. -/
theorem entry_vals : after hostOps0_4 (after hostOps0_3 (after hostOps0_2 (after hostOps0_1 (after hostOps0 W)))) (Proc.devRef .tc main_values)
    = vals (W (Proc.devRef .tc main_arg1)) := by
  rw [keep4_vals, keep3_vals, at0_2b, keep1_v0, at0_0]
  rfl
theorem entry_boxes : after hostOps0_4 (after hostOps0_3 (after hostOps0_2 (after hostOps0_1 (after hostOps0 W)))) (Proc.devRef .tc main_v4)
    = boxes (W (Proc.devRef .tc main_arg0)) (W (Proc.devRef .tc main_arg1)) := by
  rw [keep4_v4, at0_3, at0_2d, keep1_v0, at0_0, keep2_a0, keep1_a0, keep0_a0]
  have e := wrap3_starts (W (Proc.devRef .tc main_arg1))
  unfold starts inds at e
  rw [e]
  exact select_ones _ (fun j => mask_starts (W (Proc.devRef .tc main_arg1)) _) _ _
theorem entry_labs : after hostOps0_4 (after hostOps0_3 (after hostOps0_2 (after hostOps0_1 (after hostOps0 W)))) (Proc.devRef .tc main_v5)
    = labs (W (Proc.devRef .tc main_arg1)) := by
  rw [at0_4, keep3_inds, keep3_v2, at0_2a, at0_2c, keep1_v0, at0_0, at0_1, keep0_a1]
  have e := wrap2_inds (W (Proc.devRef .tc main_arg1))
  unfold inds at e
  rw [e]
  have e2 := cast_inds (W (Proc.devRef .tc main_arg1))
  unfold inds at e2
  rw [e2]
  exact select_ones _ (fun j => mask_starts (W (Proc.devRef .tc main_arg1)) _) _ _

theorem V_after (b : Ref sig .tc) : V m c b = after hostOps0_5 (after hostOps0_4 (after hostOps0_3 (after hostOps0_2 (after hostOps0_1
    (after hostOps0 (fun b => m (c, b))))))) (Proc.devRef .tc b) := by
  show after (List.flatten _) _ _ = _
  simp only [List.flatten_cons, List.flatten_nil, List.append_nil, after_append]
theorem V_v9 : V m c main_v9 = rows (m (c, Proc.devRef .tc main_arg0)) (m (c, Proc.devRef .tc main_arg1)) := by
  rw [V_after]
  rw [at0_5a, entry_vals, entry_boxes, entry_labs]
  rfl
theorem V_v10 : V m c main_v10 = transpose S4x8x1024 [0, 2, 1] (rows (m (c, Proc.devRef .tc main_arg0)) (m (c, Proc.devRef .tc main_arg1))) transposes_S4x1024x8_S4x8x1024_0_2_1 := by
  rw [V_after]
  rw [at0_5b, at0_5a, entry_vals, entry_boxes, entry_labs]
  rfl
theorem V_v11 : V m c main_v11 = broadcastInDim S4x1x1024 ![0, 2] bcast_S4x1024_S4x1x1024_0_2 (vals (m (c, Proc.devRef .tc main_arg1))) := by
  rw [V_after]
  rw [at0_5c, entry_vals]

end Cert.KernelIdeal.Nms
-- ==== Proof.Greedy.lean ====
/-
  Greedy suppression as mathematics: boxes, their overlap, which candidates are kept, and in which output row a kept
  candidate lands. Neither program is mentioned here.
-/
module

public import Idealize.ShloMosaic.Lib.Pointwise
public import Idealize.ShloMosaic.Lib.IdealHost

@[expose] public section

noncomputable section

namespace Cert.Nms

open Idealize.ShloMosaic

section Boxes

/-- The area of a box given by its corners `(x₀, y₀, x₁, y₁)`. -/
def area (a : Fin 4 → EReal) : EReal := max (a 2 - a 0) 0 * max (a 3 - a 1) 0
/-- The area two boxes share. -/
def inter (a b : Fin 4 → EReal) : EReal :=
  max (min (a 2) (b 2) - max (a 0) (b 0)) 0 * max (min (a 3) (b 3) - max (a 1) (b 1)) 0
/-- Shared area over joint area. -/
def iou (a b : Fin 4 → EReal) : EReal :=
  Ideal.div (inter a b) (max (area a + area b - inter a b) (Ideal.ofBits .f32 0x322BCC77#32))
/-- Two boxes overlap too much. -/
def Hits (a b : Fin 4 → EReal) : Prop := Ideal.ofBits .f32 0x3F333333#32 < iou a b

theorem inter_comm (a b : Fin 4 → EReal) : inter a b = inter b a := by
  unfold inter
  rw [min_comm (a 2), max_comm (a 0), min_comm (a 3), max_comm (a 1)]

theorem hits_comm (a b : Fin 4 → EReal) : Hits a b ↔ Hits b a := by
  unfold Hits iou
  rw [inter_comm a b, add_comm (area a)]

/-- A score is large enough. -/
def Good (s : EReal) : Prop := Ideal.ofBits .f32 0x3DCCCCCD#32 < s

end Boxes

section Greedy
open Classical

variable (V : ℕ → Prop) (M : ℕ → ℕ → Prop)

/-- The kept candidates among the first `i`. -/
def keptSet : ℕ → Finset ℕ
  | 0 => ∅
  | i + 1 => if V i ∧ ∀ j, j ∈ keptSet i → ¬ M j i then insert i (keptSet i) else keptSet i

/-- Candidate `i` is kept: it is valid and no earlier kept candidate overlaps it. -/
def Kept (i : ℕ) : Prop := V i ∧ ∀ j, j ∈ keptSet V M i → ¬ M j i

theorem keptSet_pos {i : ℕ} (h : Kept V M i) : keptSet V M (i + 1) = insert i (keptSet V M i) := by
  unfold Kept at h
  rw [keptSet, if_pos h]
theorem keptSet_neg {i : ℕ} (h : ¬ Kept V M i) : keptSet V M (i + 1) = keptSet V M i := by
  unfold Kept at h
  rw [keptSet, if_neg h]

/-- How many of the first `i` candidates are kept. -/
def rank (i : ℕ) : ℕ := (keptSet V M i).card

theorem mem_keptSet (i j : ℕ) : j ∈ keptSet V M i ↔ j < i ∧ Kept V M j := by
  induction i with
  | zero => simp [keptSet]
  | succ i ih =>
    by_cases h : Kept V M i
    · rw [keptSet_pos V M h, Finset.mem_insert, ih]
      constructor
      · rintro (rfl | ⟨h1, h2⟩)
        · exact ⟨by omega, h⟩
        · exact ⟨by omega, h2⟩
      · rintro ⟨h1, h2⟩
        rcases Nat.lt_succ_iff_lt_or_eq.1 h1 with h3 | h3
        · exact .inr ⟨h3, h2⟩
        · exact .inl h3
    · rw [keptSet_neg V M h, ih]
      constructor
      · rintro ⟨h1, h2⟩; exact ⟨by omega, h2⟩
      · rintro ⟨h1, h2⟩
        rcases Nat.lt_succ_iff_lt_or_eq.1 h1 with h3 | h3
        · exact ⟨h3, h2⟩
        · exact absurd (h3 ▸ h2) h

theorem kept_iff (i : ℕ) : Kept V M i ↔ V i ∧ ∀ j, j < i → Kept V M j → ¬ M j i :=
  and_congr Iff.rfl ⟨fun h j h1 h2 => h j ((mem_keptSet V M i j).2 ⟨h1, h2⟩), fun h j hj =>
    h j ((mem_keptSet V M i j).1 hj).1 ((mem_keptSet V M i j).1 hj).2⟩

theorem rank_succ_of_kept {i : ℕ} (h : Kept V M i) : rank V M (i + 1) = rank V M i + 1 := by
  unfold rank
  rw [keptSet_pos V M h, Finset.card_insert_of_notMem fun hm => absurd ((mem_keptSet V M i i).1 hm).1 (lt_irrefl i)]

theorem rank_succ_of_not {i : ℕ} (h : ¬ Kept V M i) : rank V M (i + 1) = rank V M i := by
  unfold rank
  rw [keptSet_neg V M h]

theorem rank_mono {i j : ℕ} (h : i ≤ j) : rank V M i ≤ rank V M j :=
  Finset.card_le_card fun x hx => (mem_keptSet V M j x).2
    ⟨lt_of_lt_of_le ((mem_keptSet V M i x).1 hx).1 h, ((mem_keptSet V M i x).1 hx).2⟩

theorem rank_le (i : ℕ) : rank V M i ≤ i := by
  refine (Finset.card_le_card fun x hx => ?_).trans (Finset.card_range i).le
  exact Finset.mem_range.2 ((mem_keptSet V M i x).1 hx).1

theorem rank_lt_of_kept {i j : ℕ} (h : Kept V M i) (hij : i < j) : rank V M i < rank V M j :=
  lt_of_lt_of_le (by rw [rank_succ_of_kept V M h]; exact Nat.lt_succ_self _) (rank_mono V M hij)

theorem kept_unique {i j : ℕ} (hi : Kept V M i) (hj : Kept V M j) (h : rank V M i = rank V M j) : i = j := by
  rcases lt_trichotomy i j with h1 | h1 | h1
  · exact absurd h (rank_lt_of_kept V M hi h1).ne
  · exact h1
  · exact absurd h (rank_lt_of_kept V M hj h1).ne'

/-- Every number below the count is the rank of a kept candidate. -/
theorem exists_of_lt_rank (n r : ℕ) (h : r < rank V M n) : ∃ i, i < n ∧ Kept V M i ∧ rank V M i = r := by
  induction n with
  | zero => exact absurd h (by simp [rank, keptSet])
  | succ n ih =>
    by_cases hk : Kept V M n
    · rw [rank_succ_of_kept V M hk] at h
      rcases Nat.lt_succ_iff_lt_or_eq.1 h with h1 | h1
      · obtain ⟨i, h2, h3⟩ := ih h1; exact ⟨i, by omega, h3⟩
      · exact ⟨n, by omega, hk, h1.symm⟩
    · rw [rank_succ_of_not V M hk] at h
      obtain ⟨i, h2, h3⟩ := ih h; exact ⟨i, by omega, h3⟩

/-- Row `r` of the output after the first `n` candidates: the kept candidate of that rank, or zero if there is none. -/
def RowIs (n r : ℕ) (row : ℕ → EReal) (v : EReal) : Prop :=
  (∀ i, i < n → Kept V M i → rank V M i = r → v = row i) ∧ ((∀ i, i < n → Kept V M i → rank V M i ≠ r) → v = 0)

theorem rowIs_unique {n r : ℕ} {row : ℕ → EReal} {v w : EReal} (hv : RowIs V M n r row v) (hw : RowIs V M n r row w) : v = w := by
  by_cases h : ∃ i, i < n ∧ Kept V M i ∧ rank V M i = r
  · obtain ⟨i, h1, h2, h3⟩ := h
    rw [hv.1 i h1 h2 h3, hw.1 i h1 h2 h3]
  · have h' : ∀ i, i < n → Kept V M i → rank V M i ≠ r := fun i h1 h2 h3 => h ⟨i, h1, h2, h3⟩
    rw [hv.2 h', hw.2 h']

/-- Once row `r` is filled, further candidates leave it alone. -/
theorem rowIs_of_le {n n' r : ℕ} {row : ℕ → EReal} {v : EReal} (h : RowIs V M n r row v) (hn : n ≤ n') (hr : r < rank V M n) :
    RowIs V M n' r row v := by
  obtain ⟨i, h1, h2, h3⟩ := exists_of_lt_rank V M n r hr
  refine ⟨fun j _ hj hjr => ?_, fun h' => absurd h3 (h' i (by omega) h2)⟩
  rw [kept_unique V M hj h2 (hjr.trans h3.symm)]
  exact h.1 i h1 h2 h3

end Greedy

/-- The candidates of one batch: corners, score and label. -/
structure Cands where
  box : Fin 1024 → Fin 4 → EReal
  sc : Fin 1024 → EReal
  lab : Fin 1024 → EReal

namespace Cands
variable (D : Cands)

/-- Candidate `i` exists and its score is large enough. -/
def Valid (i : ℕ) : Prop := ∃ h : i < 1024, Good (D.sc ⟨i, h⟩)
/-- Candidates `j` and `i` overlap too much. -/
def Over (j i : ℕ) : Prop := ∃ (hj : j < 1024) (hi : i < 1024), Hits (D.box ⟨j, hj⟩) (D.box ⟨i, hi⟩)

theorem valid_iff (i : Fin 1024) : D.Valid i.val ↔ Good (D.sc i) := ⟨fun ⟨_, h⟩ => h, fun h => ⟨i.isLt, h⟩⟩
theorem over_iff (j i : Fin 1024) : D.Over j.val i.val ↔ Hits (D.box j) (D.box i) :=
  ⟨fun ⟨_, _, h⟩ => h, fun h => ⟨j.isLt, i.isLt, h⟩⟩
theorem over_comm (j i : ℕ) : D.Over j i ↔ D.Over i j :=
  ⟨fun ⟨h1, h2, h⟩ => ⟨h2, h1, (hits_comm _ _).1 h⟩, fun ⟨h1, h2, h⟩ => ⟨h2, h1, (hits_comm _ _).1 h⟩⟩

/-- Candidate `i` is kept, and how many are kept before it. -/
abbrev Kept (i : ℕ) : Prop := Cert.Nms.Kept D.Valid D.Over i
abbrev rank (i : ℕ) : ℕ := Cert.Nms.rank D.Valid D.Over i

/-- Column `c` of candidate `i`'s result row: corners, score, label. -/
def row (c : Fin 6) (i : ℕ) : EReal :=
  if h : i < 1024 then
    if hc : c.val < 4 then D.box ⟨i, h⟩ ⟨c.val, hc⟩ else if c.val = 4 then D.sc ⟨i, h⟩ else D.lab ⟨i, h⟩
  else 0

end Cands

end Cert.Nms

end
-- ==== Proof.Block.lean ====
/-
  What one block of the kernel's loop decides, in terms of greedy suppression.
-/
module

public import proofs.«01_k».proof.Proof.Model
public import proofs.«01_k».proof.Proof.Greedy
public import Idealize.ShloMosaic.Lib.WordCmp

@[expose] public section

set_option maxRecDepth 16384

noncomputable section

namespace Cert.KernelIdeal.Nms

open Idealize.ShloMosaic Idealize.ShloMosaic.TcCoe
open Cert.KernelIdeal Cert.KernelIdeal.Gen
open Cert.Nms

open Classical in
/-- A condition as the number one or zero. -/
def flag (p : Prop) : EReal := if p then 1 else 0

theorem flag_mul_le {p q : Prop} : flag p * flag q ≤ 0 ↔ ¬ (p ∧ q) := by
  by_cases hp : p <;> by_cases hq : q <;> simp [flag, hp, hq]

theorem flag_congr {p q : Prop} (h : p ↔ q) : flag p = flag q := by rw [propext h]

/-- A comparison's bit, widened and read as a number. -/
theorem flag_of_bit (p : Prop) [Decidable p] :
    (FloatOps.sitofp (F := Ideal) .f32 (BitVec.setWidth 32 (BitVec.ofBool (decide p)) : BitVec 32)) = flag p := by
  by_cases hp : p
  · simp only [hp, decide_true, flag, if_true]
    change (((BitVec.setWidth 32 (BitVec.ofBool true)).toInt : ℝ) : EReal) = 1
    rw [show (BitVec.setWidth 32 (BitVec.ofBool true)).toInt = 1 by decide]; simp
  · simp only [hp, decide_false, flag, if_false]
    change (((BitVec.setWidth 32 (BitVec.ofBool false)).toInt : ℝ) : EReal) = 0
    rw [show (BitVec.setWidth 32 (BitVec.ofBool false)).toInt = 0 by decide]; simp

theorem ofBits_low : Ideal.ofBits .f32 0xFF800000#32 = ⊥ := by simp [Ideal.ofBits, Ideal.ieee]

theorem fold_le_zero {n : ℕ} (f : Fin n → EReal) :
    Finset.univ.fold max (Ideal.ofBits .f32 0xFF800000#32) f ≤ 0 ↔ ∀ j, f j ≤ 0 := by
  rw [Finset.fold_max_le, ofBits_low]
  exact ⟨fun h j => h.2 j (Finset.mem_univ _), fun h => ⟨bot_le, fun j _ => h j⟩⟩

/-- The corners at row `k` of a block's table. -/
def corners (x : Vec Ideal S1x8x8 .f32) (k : Fin 8) (c : Fin 4) : EReal := x (ix3 0 k ⟨c.val, by omega⟩)

section
variable (v1 v3 v5 v7 v14 kp : FVec Ideal S1x1024 .f32) (x : Vec Ideal S1x8x8 .f32)
variable (bx : Fin 1024 → Fin 4 → EReal)

/-- Whether an earlier kept candidate overlaps position `k`: the largest product of an overlap flag and a keep flag. -/
theorem pre_at (h1 : ∀ j, v1 (ix2 0 j) = bx j 0) (h3 : ∀ j, v3 (ix2 0 j) = bx j 1) (h5 : ∀ j, v5 (ix2 0 j) = bx j 2)
    (h7 : ∀ j, v7 (ix2 0 j) = bx j 3) (h14 : ∀ j, v14 (ix2 0 j) = area (bx j)) (k : ℕ) (hk : k < 8) :
    preAt (F := Ideal) (k0_pay16 (F := Ideal) v1 v3 v5 v7 v14 kp x) k hk
      = Finset.univ.fold max (Ideal.ofBits .f32 0xFF800000#32) fun j : Fin 1024 => flag (Hits (corners x ⟨k, hk⟩) (bx j)) * kp (ix2 0 j) := by
  interval_cases k <;>
  · pointwise [preAt, k0_pay16, k0_pay10, k0_pay11, k0_pay12, k0_pay13, k0_pay14, k0_pay15]
    refine congrArg (fun f => Finset.fold max (Ideal.ofBits .f32 0xFF800000#32) f Finset.univ) (funext fun j => ?_)
    refine congrArg₂ (· * ·) ((flag_of_bit _).trans (flag_congr ?_)) rfl
    simp only [Hits, iou, inter, ← h1, ← h3, ← h5, ← h7, ← h14]
    exact Iff.rfl

/-- The overlap flag of two members of the block. -/
theorem msk_at (a k : Fin 8) :
    k0_pay17 (F := Ideal) (k0_pay10 x) (k0_pay11 x) (k0_pay12 x) (k0_pay13 x) (k0_pay14 x) (k0_pay15 x) (ix2 a k)
      = flag (Hits (corners x a) (corners x k)) := by
  pointwise [k0_pay17, k0_pay10, k0_pay11, k0_pay12, k0_pay13, k0_pay14, k0_pay15]
  exact flag_of_bit _

end

theorem sup_at (kc : FVec Ideal S8x1 .f32) (m : FVec Ideal S8x8 .f32) (k : ℕ) (hk : k < 8) :
    supAt (F := Ideal) kc m k hk ≤ 0 ↔ ∀ a : Fin 8, kc (ix2 a 0) * m (ix2 a ⟨k, hk⟩) ≤ 0 := by
  interval_cases k <;>
  · pointwise [supAt]
    rw [Finset.fold_max_le, ofBits_low]
    exact ⟨fun h a => h.2 (a, 0) (Finset.mem_univ _), fun h => ⟨bot_le, fun a _ => h a.1⟩⟩

/-- A grid point's data are the candidates `D`. -/
structure Ctx.Of (C : Ctx Ideal) (D : Cands) : Prop where
  c1 : ∀ j, C.v1 (ix2 0 j) = D.box j 0
  c3 : ∀ j, C.v3 (ix2 0 j) = D.box j 1
  c5 : ∀ j, C.v5 (ix2 0 j) = D.box j 2
  c7 : ∀ j, C.v7 (ix2 0 j) = D.box j 3
  c14 : ∀ j, C.v14 (ix2 0 j) = area (D.box j)
  rows : ∀ (j : Fin 1024) (c : Fin 6), C.x2 (ix3 0 j ⟨c.val, by omega⟩) = D.row c j.val
  score : ∀ j, C.x3 (ix3 0 0 j) = D.sc j

/-- The state before position `k` of block `b`: everything before candidate `8 * b + k` is decided. -/
structure Inv (D : Cands) (b : Fin 128) (k : ℕ) (s : St Ideal) : Prop where
  kc : ∀ a : Fin 8, s.kc (ix2 a 0) = flag (a.val < k ∧ D.Kept (8 * b.val + a.val))
  kp : ∀ j : Fin 1024, s.kp (ix2 0 j) = flag (j.val < 8 * b.val + k ∧ D.Kept j.val)
  cnt : s.cnt = BitVec.ofNat 32 (D.rank (8 * b.val + k))
  o : ∀ (r : Fin 256) (c : Fin 6), RowIs D.Valid D.Over (8 * b.val + k) r.val (D.row c) (s.o (ix3 0 r ⟨c.val, by omega⟩))

theorem cmp_le_zero (x : EReal) : Ideal.cmp .ole x 0 = 1#1 ↔ x ≤ 0 := by
  unfold Ideal.cmp
  by_cases h : x ≤ 0 <;> simp [h]

theorem cmp_gt (x y : EReal) : Ideal.cmp .ogt x y = 1#1 ↔ y < x := by
  unfold Ideal.cmp
  by_cases h : y < x <;> simp [h]

theorem ofBool_iff (b : Bool) : BitVec.ofBool b = 1#1 ↔ b = true := by revert b; decide

theorem andi_iff (a b : BitVec 1) : Scalar.andi a b = 1#1 ↔ a = 1#1 ∧ b = 1#1 := by
  revert a b; decide

theorem select_iff {α : Type} {c : BitVec 1} {p : Prop} [Decidable p] (h : c = 1#1 ↔ p) (a b : α) :
    Scalar.select c a b = if p then a else b := by
  unfold Scalar.select
  by_cases hp : p
  · rw [if_pos hp]; exact if_pos (h.2 hp)
  · rw [if_neg hp]; exact if_neg fun e => hp (h.1 e)

theorem word_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · intro h; rw [h]

theorem word_cand (b : Fin 128) (k : ℕ) (hk : k < 8) : Scalar.addi (base b) (BitVec.ofNat 32 k) = BitVec.ofNat 32 (8 * b.val + k) := by
  have hb := b.isLt
  show BitVec.ofNat 32 b.val * 8#32 + BitVec.ofNat 32 k = _
  apply BitVec.eq_of_toNat_eq
  rw [BitVec.toNat_add, BitVec.toNat_mul, BitVec.toNat_ofNat, BitVec.toNat_ofNat, BitVec.toNat_ofNat, BitVec.toNat_ofNat]
  omega

theorem kc_at (t : BitVec 1) (k : ℕ) (hk : k < 8) (kc : FVec Ideal S8x1 .f32) (a : Fin 8) :
    kcNext k t kc (ix2 a 0) = if a.val = k ∧ t = 1#1 then 1 else kc (ix2 a 0) := by
  pointwise [kcNext]
  refine select_iff ((andi_iff _ _).trans (and_congr_left' ?_)) _ _
  rw [IntOp.cmpi_eq, word_eq_iff (by omega) (by omega)]

theorem kp_at (t : BitVec 1) (b : Fin 128) (k : ℕ) (hk : k < 8) (kp : FVec Ideal S1x1024 .f32) (a : Fin 1024) :
    kpNext b k t kp (ix2 0 a) = if a.val = 8 * b.val + k ∧ t = 1#1 then 1 else kp (ix2 0 a) := by
  have hb := b.isLt
  pointwise [kpNext, kpSel]
  refine select_iff ((andi_iff _ _).trans (and_congr_left' ?_)) _ _
  rw [IntOp.cmpi_eq, word_cand b k hk, word_eq_iff (by omega) (by omega)]

/-- A flag array after one more candidate is decided. -/
theorem flag_next (p : ℕ) (K : ℕ → Prop) (j : ℕ) (t : BitVec 1) (q : Prop) [Decidable q] (hq : q ↔ j = p ∧ t = 1#1) (ht : t = 1#1 ↔ K p) :
    (if q then (1 : EReal) else flag (j < p ∧ K j)) = flag (j < p + 1 ∧ K j) := by
  by_cases h : q
  · obtain ⟨h1, h2⟩ := hq.1 h
    subst h1
    rw [if_pos h, flag, if_pos ⟨by omega, ht.1 h2⟩]
  · rw [if_neg h]
    refine flag_congr ⟨fun h' => ⟨by omega, h'.2⟩, fun h' => ⟨?_, h'.2⟩⟩
    rcases Nat.lt_succ_iff_lt_or_eq.1 h'.1 with h3 | h3
    · exact h3
    · subst h3
      exact absurd (hq.2 ⟨rfl, ht.2 h'.2⟩) h

section
variable (C : Ctx Ideal) (D : Cands) (hC : C.Of D) (b : Fin 128)
include hC

theorem corners_cols (k : Fin 8) : corners (C.cols b) k = D.box (cand b k.val k.isLt) := by
  funext c
  have h := hC.rows (cand b k.val k.isLt) ⟨c.val, by omega⟩
  have hr : D.row ⟨c.val, by omega⟩ (cand b k.val k.isLt).val = D.box (cand b k.val k.isLt) c := by
    unfold Cands.row
    rw [dif_pos (cand b k.val k.isLt).isLt, dif_pos c.isLt]
  exact h.trans hr

variable (kp : FVec Ideal S1x1024 .f32) (hkp : ∀ j : Fin 1024, kp (ix2 0 j) = flag (j.val < 8 * b.val ∧ D.Kept j.val))
include hkp

theorem pB_iff (k : ℕ) (hk : k < 8) :
    pB (C.pre b kp) k hk = 1#1 ↔ ∀ j, j < 8 * b.val → D.Kept j → ¬ D.Over j (8 * b.val + k) := by
  have e : pB (C.pre b kp) k hk = Ideal.cmp .ole (preAt (C.pre b kp) k hk) 0 := by
    show Ideal.cmp .ole _ (Ideal.ofBits .f32 0x00000000#32) = _
    rw [Ideal.ofBits_zero_f32]
  rw [e, cmp_le_zero, Ctx.pre, pre_at _ _ _ _ _ _ _ D.box hC.c1 hC.c3 hC.c5 hC.c7 hC.c14, fold_le_zero]
  rw [corners_cols C D hC b ⟨k, hk⟩]
  constructor
  · intro h j hj hK hO
    have hj' : j < 1024 := by have := b.isLt; omega
    have := h ⟨j, hj'⟩
    rw [hkp, flag_mul_le] at this
    exact this ⟨(D.over_iff (cand b k hk) ⟨j, hj'⟩).1 ((D.over_comm _ _).1 hO), hj, hK⟩
  · intro h j
    rw [hkp, flag_mul_le]
    rintro ⟨h1, h2, h3⟩
    exact h j.val h2 h3 ((D.over_comm _ _).1 ((D.over_iff (cand b k hk) j).2 h1))

theorem kB_iff (k : ℕ) (hk : k < 8) (s : St Ideal) (hs : Inv D b k s) :
    C.kB b (C.pre b kp) k hk s = 1#1 ↔ D.Kept (8 * b.val + k) := by
  have hi : iB s.kc (C.msk b) k hk = 1#1 ↔ ∀ a : Fin 8, a.val < k → D.Kept (8 * b.val + a.val) → ¬ D.Over (8 * b.val + a.val) (8 * b.val + k) := by
    have e : iB s.kc (C.msk b) k hk = Ideal.cmp .ole (supAt s.kc (C.msk b) k hk) 0 := by
      show Ideal.cmp .ole _ (Ideal.ofBits .f32 0x00000000#32) = _
      rw [Ideal.ofBits_zero_f32]
    rw [e, cmp_le_zero, sup_at]
    refine forall_congr' fun a => ?_
    rw [hs.kc, Ctx.msk, msk_at, flag_mul_le, corners_cols C D hC b a, corners_cols C D hC b ⟨k, hk⟩]
    have := D.over_iff (cand b a.val a.isLt) (cand b k hk)
    constructor
    · exact fun h h1 h2 h3 => h ⟨⟨h1, h2⟩, this.1 h3⟩
    · exact fun h ⟨⟨h1, h2⟩, h3⟩ => h h1 h2 (this.2 h3)
  have hs' : sB (C.sco b k hk) = 1#1 ↔ D.Valid (8 * b.val + k) := by
    have e : sB (C.sco b k hk) = Ideal.cmp .ogt (D.sc (cand b k hk)) (Ideal.ofBits .f32 0x3DCCCCCD#32) := by
      rw [← hC.score]; rfl
    rw [e, cmp_gt]
    exact (D.valid_iff (cand b k hk)).symm
  rw [Ctx.kB, andi_iff, andi_iff, pB_iff C D hC b kp hkp k hk, hi, hs', show D.Kept (8 * b.val + k) ↔ _ from kept_iff _ _ _]
  constructor
  · rintro ⟨⟨h1, h2⟩, h3⟩
    refine ⟨h3, fun j hj hK => ?_⟩
    by_cases hjb : j < 8 * b.val
    · exact h1 j hjb hK
    · have := h2 ⟨j - 8 * b.val, by omega⟩ (by show j - 8 * b.val < k; omega)
      rw [show 8 * b.val + (⟨j - 8 * b.val, by omega⟩ : Fin 8).val = j by show 8 * b.val + (j - 8 * b.val) = j; omega] at this
      exact this hK
  · rintro ⟨h1, h2⟩
    exact ⟨⟨fun j hj hK => h2 j (by omega) hK, fun a ha hK => h2 _ (by omega) hK⟩, h1⟩

open Classical in
/-- One decision keeps the invariant. -/
theorem step_inv (k : ℕ) (hk : k < 8) (s : St Ideal) (hs : Inv D b k s) :
    Inv D b (k + 1) (C.step b (C.pre b kp) k hk s) := by
  have ht := kB_iff C D hC b kp hkp k hk s hs
  have hb := b.isLt
  have hr : D.rank (8 * b.val + k) ≤ 8 * b.val + k := rank_le _ _ _
  have hcnt : s.cnt.toNat = D.rank (8 * b.val + k) := by
    rw [hs.cnt, BitVec.toNat_ofNat, Nat.mod_eq_of_lt (by omega)]
  have hrow : ∀ c : Fin 6, C.row b k hk (ix3 0 0 ⟨c.val, by omega⟩) = D.row c (8 * b.val + k) := fun c => hC.rows (cand b k hk) c
  refine ⟨fun a => ?_, fun j => ?_, ?_, fun r c => ?_⟩
  · refine (kc_at _ k hk s.kc a).trans ?_
    rw [hs.kc]
    exact flag_next k (fun i => D.Kept (8 * b.val + i)) a.val _ _ Iff.rfl ht
  · refine (kp_at _ b k hk s.kp j).trans ?_
    rw [hs.kp]
    exact flag_next (8 * b.val + k) D.Kept j.val _ _ Iff.rfl ht
  · show Scalar.addi s.cnt (Scalar.extui (C.kB b (C.pre b kp) k hk s)) = BitVec.ofNat 32 (D.rank (8 * b.val + k + 1))
    rw [hs.cnt]
    rcases BitVec.eq_zero_or_eq_one (C.kB b (C.pre b kp) k hk s) with h0 | h1
    · have hn : ¬ D.Kept (8 * b.val + k) := fun hK => by rw [← ht, h0] at hK; exact absurd hK (by decide)
      rw [h0, show D.rank (8 * b.val + k + 1) = D.rank (8 * b.val + k) from rank_succ_of_not _ _ hn]
      exact BitVec.add_zero _
    · rw [h1, show D.rank (8 * b.val + k + 1) = D.rank (8 * b.val + k) + 1 from rank_succ_of_kept _ _ (ht.1 h1), BitVec.ofNat_add]
      rfl
  · have e : (C.step b (C.pre b kp) k hk s).o (ix3 0 r ⟨c.val, by omega⟩)
        = if D.Kept (8 * b.val + k) ∧ r.val = D.rank (8 * b.val + k) then D.row c (8 * b.val + k) else s.o (ix3 0 r ⟨c.val, by omega⟩) := by
      show (if room (C.kB b (C.pre b kp) k hk s) s.cnt = 1#1 ∧ r.val = s.cnt.toNat then C.row b k hk (ix3 0 0 ⟨c.val, _⟩) else _) = _
      rw [hrow c, hcnt]
      refine if_congr (and_congr_left fun hrr => ?_) rfl rfl
      rw [Scalar.guard_iff, andi_iff, ht]
      refine and_iff_left ?_
      rw [hs.cnt, ← hrr]
      exact (WordCmp.cmpi_slt_ofNat_eq_one_iff (by omega) (by decide)).2 r.isLt
    rw [e]
    by_cases hK : D.Kept (8 * b.val + k) ∧ r.val = D.rank (8 * b.val + k)
    · rw [if_pos hK]
      refine ⟨fun i _ hi hir => ?_, fun h => absurd hK.2.symm (h _ (by omega) hK.1)⟩
      rw [kept_unique _ _ hi hK.1 (hir.trans hK.2)]
    · rw [if_neg hK]
      refine ⟨fun i hi hKi hir => ?_, fun h => (hs.o r c).2 fun i hi => h i (by omega)⟩
      rcases Nat.lt_succ_iff_lt_or_eq.1 hi with h3 | h3
      · exact (hs.o r c).1 i h3 hKi hir
      · have h3' : i = 8 * b.val + k := h3
        subst h3'
        exact absurd ⟨hKi, hir.symm⟩ hK

end

section
variable (C : Ctx Ideal) (D : Cands) (hC : C.Of D)
include hC

/-- A whole block decides its eight candidates. -/
theorem block_inv (b : Fin 128) (kp : FVec Ideal S1x1024 .f32) (cnt : BitVec 32) (o : Vec Ideal S1x256x8 .f32)
    (h : Inv D b 0 (start kp cnt o)) : Inv D b 8 (C.s8 b kp cnt o) := by
  have st := step_inv C D hC b kp h.kp
  exact st 7 _ _ (st 6 _ _ (st 5 _ _ (st 4 _ _ (st 3 _ _ (st 2 _ _ (st 1 _ _ (st 0 _ _ h)))))))

/-- What the loop holds between blocks: everything before candidate `p` is decided. -/
structure Dec (D : Cands) (p : ℕ) (kp : FVec Ideal S1x1024 .f32) (cnt : BitVec 32) (o : Vec Ideal S1x256x8 .f32) : Prop where
  kp : ∀ j : Fin 1024, kp (ix2 0 j) = flag (j.val < p ∧ D.Kept j.val)
  cnt : cnt = BitVec.ofNat 32 (D.rank p)
  o : ∀ (r : Fin 256) (c : Fin 6), RowIs D.Valid D.Over p r.val (D.row c) (o (ix3 0 r ⟨c.val, by omega⟩))

omit hC in
/-- Once the output is full, the remaining candidates change nothing. -/
theorem dec_end (p : ℕ) (hp : p ≤ 1024) (kp : FVec Ideal S1x1024 .f32) (cnt : BitVec 32) (o : Vec Ideal S1x256x8 .f32)
    (h : Dec D p kp cnt o) (hend : p = 1024 ∨ 256 ≤ D.rank p) :
    Scalar.minsi cnt 256#32 = BitVec.ofNat 32 (min (D.rank 1024) 256)
      ∧ ∀ (r : Fin 256) (c : Fin 6), RowIs D.Valid D.Over 1024 r.val (D.row c) (o (ix3 0 r ⟨c.val, by omega⟩)) := by
  have hr : D.rank p ≤ p := rank_le _ _ _
  have hm : D.rank p ≤ D.rank 1024 := rank_mono _ _ hp
  have e : Scalar.minsi cnt 256#32 = BitVec.ofNat 32 (min (D.rank p) 256) := by
    have hs := WordCmp.cmpi_slt_ofNat_eq_one_iff (w := 32) (a := D.rank p) (b := 256) (by omega) (by decide)
    rw [h.cnt]
    show (if (BitVec.ofNat 32 (D.rank p)).slt 256#32 then _ else _) = _
    by_cases hlt : D.rank p < 256
    · have h1 := hs.2 hlt
      rw [if_pos ((ofBool_iff _).1 h1), min_eq_left (by omega)]
    · rw [if_neg fun h2 => hlt (hs.1 ((ofBool_iff _).2 h2)), min_eq_right (by omega)]
  refine ⟨e.trans (congrArg _ ?_), fun r c => ?_⟩
  · rcases hend with h1 | h1
    · rw [h1]
    · omega
  · rcases hend with h1 | h1
    · rw [← h1]; exact h.o r c
    · exact rowIs_of_le _ _ (h.o r c) hp (by have := r.isLt; show r.val < D.rank p; omega)

/-- The loop's end: the clamped count and the output rows over all candidates. -/
theorem loop_val (n : ℕ) (hn : n ≤ 128) (kp : FVec Ideal S1x1024 .f32) (cnt : BitVec 32) (o : Vec Ideal S1x256x8 .f32)
    (h : Dec D (8 * (128 - n)) kp cnt o) :
    Scalar.minsi (C.loop n kp cnt o).1 256#32 = BitVec.ofNat 32 (min (D.rank 1024) 256)
      ∧ ∀ (r : Fin 256) (c : Fin 6), RowIs D.Valid D.Over 1024 r.val (D.row c) ((C.loop n kp cnt o).2 (ix3 0 r ⟨c.val, by omega⟩)) := by
  induction n generalizing kp cnt o with
  | zero => exact dec_end D 1024 le_rfl kp cnt o h (.inl rfl)
  | succ n ih =>
    have hr : D.rank (8 * (128 - (n + 1))) ≤ 8 * (128 - (n + 1)) := rank_le _ _ _
    have hs := WordCmp.cmpi_slt_ofNat_eq_one_iff (w := 32) (a := D.rank (8 * (128 - (n + 1)))) (b := 256) (by omega) (by decide)
    have hb : 128 - (n + 1) = 127 - n := by omega
    by_cases hlt : D.rank (8 * (128 - (n + 1))) < 256
    · have hg : 127 - n < 128 ∧ Scalar.cmpi .slt cnt 256#32 = 1#1 := ⟨by omega, by rw [h.cnt]; exact hs.2 hlt⟩
      rw [Ctx.loop, dif_pos hg]
      rw [hb] at h
      have hi := block_inv C D hC ⟨127 - n, hg.1⟩ kp cnt o
        ⟨fun a => by
          rw [flag, if_neg (by omega)]
          pointwise [start, k0_pay18], h.kp, h.cnt, h.o⟩
      refine ih (by omega) _ _ _ ?_
      rw [show 128 - n = 127 - n + 1 by omega]
      exact ⟨hi.kp, hi.cnt, hi.o⟩
    · have hg : ¬ (127 - n < 128 ∧ Scalar.cmpi .slt cnt 256#32 = 1#1) := fun hg => hlt (hs.1 (by rw [← h.cnt]; exact hg.2))
      rw [Ctx.loop, dif_neg hg]
      exact dec_end D _ (by omega) kp cnt o h (.inr (by omega))

/-- The whole loop from no flags and zero rows. -/
theorem loop_result (n : ℕ) (hn : n = 128) :
    Scalar.minsi (C.loop n (k0_pay7 (F := Ideal)) 0#32 (k0_pay6 (F := Ideal))).1 256#32 = BitVec.ofNat 32 (min (D.rank 1024) 256)
      ∧ ∀ (r : Fin 256) (c : Fin 6), RowIs D.Valid D.Over 1024 r.val (D.row c) ((C.loop n (k0_pay7 (F := Ideal)) 0#32 (k0_pay6 (F := Ideal))).2 (ix3 0 r ⟨c.val, by omega⟩)) := by
  have h0 : Dec D 0 (k0_pay7 (F := Ideal)) 0#32 (k0_pay6 (F := Ideal)) := by
    refine ⟨fun j => ?_, ?_, fun r c => ⟨fun i hi => absurd hi (Nat.not_lt_zero i), fun _ => ?_⟩⟩
    · rw [flag, if_neg fun h => Nat.not_lt_zero _ h.1]
      pointwise [k0_pay7]
    · rw [show D.rank 0 = 0 from Finset.card_empty]
    · pointwise [k0_pay6]
  refine loop_val C D hC n (by omega) _ _ _ ?_
  rw [show 8 * (128 - n) = 0 by omega]
  exact h0

end

end Cert.KernelIdeal.Nms

end
-- ==== Proof.KVal.lean ====
module

public import proofs.«01_k».proof.Proof.Ran
public import proofs.«01_k».proof.Proof.Entry
public import proofs.«01_k».proof.Proof.Block
public import Idealize.ShloMosaic.Lib.Pipeline.ValueKit

/-! # What the kernel's arrays hold after the run -/

@[expose] public section

set_option maxRecDepth 16384

noncomputable section

namespace Cert.KernelIdeal.Nms

open Cert.KernelIdeal Cert.KernelIdeal.Gen Cert.Nms
open Idealize.ShloMosaic Idealize.ShloMosaic.TcCoe
open Idealize.ShloMosaic.Pipeline

/-- The candidates of image `b`. -/
def candsOf (x0 : FVec Ideal S4x20000x4 .f32) (x1 : FVec Ideal S4x20000x8 .f32) (b : Fin 4) : Cands where
  box j k := boxes x0 x1 (ix3 b j k)
  sc j := vals x1 (ix2 b j)
  lab j := labs x1 (ix2 b j)

variable (m : (ℓ : Loc nD τ sig) → Buf (Elt Ideal) ℓ) (c : Dev nD)

theorem idx : ∀ t : Fin (cfg0 (F := Ideal)).N, win0_0.index t = ![t.val, 0, 0] ∧ win0_1.index t = ![t.val, 0, 0]
    ∧ win0_2.index t = ![t.val, 0, 0] ∧ win0_3.index t = ![t.val, 0, 0] ∧ win0_4.index t = ![t.val, 0, 0] ∧ t.val < 4 :=
  (by decide +kernel : ∀ t : Fin grid0.N, _)

/-- The image a grid point works on. -/
def img (t : Fin (cfg0 (F := Ideal)).N) : Fin 4 := ⟨t.val, (idx t).2.2.2.2.2⟩

theorem iblk0 (t : Fin (cfg0 (F := Ideal)).N) (k : Fin 8) (j : Fin 1024) :
    (iblk m c 0 t : Vec Ideal S1x8x1024 .f32) (ix3 0 k j) = V m c main_v10 (ix3 (img t) k j) := by
  blk_ext [iblk, idx t, img]
theorem iblk1 (t : Fin (cfg0 (F := Ideal)).N) (j : Fin 1024) (k : Fin 8) :
    (iblk m c 1 t : Vec Ideal S1x1024x8 .f32) (ix3 0 j k) = V m c main_v9 (ix3 (img t) j k) := by
  blk_ext [iblk, idx t, img]
theorem iblk2 (t : Fin (cfg0 (F := Ideal)).N) (j : Fin 1024) :
    (iblk m c 2 t : Vec Ideal S1x1x1024 .f32) (ix3 0 0 j) = V m c main_v11 (ix3 (img t) 0 j) := by
  have e : (win0_2.blk t).view.emb (ix3 0 0 j : S1x1x1024.Idx) = (ix3 (img t) 0 j : S4x1x1024.Idx) := by blk_ext [idx t, img]
  blk_simp [iblk]
  exact congrArg (V m c main_v11) e

theorem rows_at (x0 : FVec Ideal S4x20000x4 .f32) (x1 : FVec Ideal S4x20000x8 .f32) (b : Fin 4) (j : Fin 1024) (c : Fin 6) :
    rows x0 x1 (ix3 b j ⟨c.val, by omega⟩) = (candsOf x0 x1 b).row c j.val := by
  unfold rows
  fin_cases c <;> pointwise [candsOf, Cands.row]

end Cert.KernelIdeal.Nms
-- ==== Proof.KFinal.lean ====
module

public import proofs.«01_k».proof.Proof.KVal

/-! # The kernel's two results -/

@[expose] public section

set_option maxRecDepth 16384

noncomputable section

namespace Cert.KernelIdeal.Nms

open Cert.KernelIdeal Cert.KernelIdeal.Gen Cert.Nms
open Idealize.ShloMosaic Idealize.ShloMosaic.TcCoe
open Idealize.ShloMosaic.Pipeline

theorem pay1_at (x : Vec Ideal S1x1x1024 .f32) (j : Fin 1024) : k0_pay1 x (ix2 0 j) = x (ix3 0 0 j) := by pointwise [k0_pay1]
theorem pay2_at (x : Vec Ideal S1x1x1024 .f32) (j : Fin 1024) : k0_pay2 x (ix2 0 j) = x (ix3 0 0 j) := by pointwise [k0_pay2]
theorem pay3_at (x : Vec Ideal S1x1x1024 .f32) (j : Fin 1024) : k0_pay3 x (ix2 0 j) = x (ix3 0 0 j) := by pointwise [k0_pay3]
theorem pay4_at (x : Vec Ideal S1x1x1024 .f32) (j : Fin 1024) : k0_pay4 x (ix2 0 j) = x (ix3 0 0 j) := by pointwise [k0_pay4]
theorem pay5_at (x y z w : Vec Ideal S1x1x1024 .f32) (j : Fin 1024) (a : Fin 4 → EReal) (h0 : x (ix3 0 0 j) = a 0) (h1 : y (ix3 0 0 j) = a 1)
    (h2 : z (ix3 0 0 j) = a 2) (h3 : w (ix3 0 0 j) = a 3) : k0_pay5 x y z w (ix2 0 j) = area a := by
  unfold area
  rw [← h0, ← h1, ← h2, ← h3]
  pointwise [k0_pay5]
  rw [pay3_at, pay1_at, pay4_at, pay2_at]

variable (m : (ℓ : Loc nD τ sig) → Buf (Elt Ideal) ℓ) (c : Dev nD)

/-- The candidates of image `b`, from the launch contents. -/
abbrev cands (b : Fin 4) : Cands := candsOf (m (c, Proc.devRef .tc main_arg0)) (m (c, Proc.devRef .tc main_arg1)) b

theorem line_val (t : Fin (cfg0 (F := Ideal)).N) (k : Fin 4) (j : Fin 1024) :
    lineOf (iblk m c 0 t : Vec Ideal S1x8x1024 .f32) ⟨k.val, by omega⟩ (ix3 0 0 j) = (cands m c (img t)).box j k := by
  refine (iblk0 m c t ⟨k.val, by omega⟩ j).trans ?_
  rw [V_v10]
  have h := rows_at (m (c, Proc.devRef .tc main_arg0)) (m (c, Proc.devRef .tc main_arg1)) (img t) j ⟨k.val, by omega⟩
  refine Eq.trans ?_ (h.trans ?_)
  · pointwise
  · unfold Cands.row
    rw [dif_pos j.isLt, dif_pos k.isLt]

theorem rows_val (t : Fin (cfg0 (F := Ideal)).N) (j : Fin 1024) (k : Fin 6) :
    (iblk m c 1 t : Vec Ideal S1x1024x8 .f32) (ix3 0 j ⟨k.val, by omega⟩) = (cands m c (img t)).row k j.val := by
  refine (iblk1 m c t j ⟨k.val, by omega⟩).trans ?_
  rw [V_v9]
  exact rows_at _ _ _ _ _

theorem score_val (t : Fin (cfg0 (F := Ideal)).N) (j : Fin 1024) :
    (iblk m c 2 t : Vec Ideal S1x1x1024 .f32) (ix3 0 0 j) = (cands m c (img t)).sc j := by
  refine (iblk2 m c t j).trans ?_
  rw [V_v11]
  pointwise [candsOf]

theorem ctx_of (t : Fin (cfg0 (F := Ideal)).N) : (ctxOf (iblk m c 0 t) (iblk m c 1 t) (iblk m c 2 t)).Of (cands m c (img t)) := by
  have l0 := fun j => line_val m c t 0 j
  have l1 := fun j => line_val m c t 1 j
  have l2 := fun j => line_val m c t 2 j
  have l3 := fun j => line_val m c t 3 j
  have r := rows_val m c t
  have s := score_val m c t
  generalize cands m c (img t) = D at *
  generalize (iblk m c 0 t : Vec Ideal S1x8x1024 .f32) = x0 at *
  generalize (iblk m c 1 t : Vec Ideal S1x1024x8 .f32) = x1 at *
  generalize (iblk m c 2 t : Vec Ideal S1x1x1024 .f32) = x2 at *
  exact ⟨fun j => (pay1_at _ j).trans (l0 j), fun j => (pay2_at _ j).trans (l1 j), fun j => (pay3_at _ j).trans (l2 j),
    fun j => (pay4_at _ j).trans (l3 j), fun j => pay5_at _ _ _ _ j _ (l0 j) (l1 j) (l2 j) (l3 j), r, s⟩

/-- What a grid point leaves, entry by entry. -/
theorem out_val (t : Fin (cfg0 (F := Ideal)).N) (r : Fin 256) (k : Fin 6) :
    RowIs (cands m c (img t)).Valid (cands m c (img t)).Over 1024 r.val ((cands m c (img t)).row k) (outAt m c t (ix3 0 r ⟨k.val, by omega⟩)) :=
  (loop_result _ _ (ctx_of m c t) 128 rfl).2 r k

theorem valid_val (t : Fin (cfg0 (F := Ideal)).N) (y) : validAt m c t y = BitVec.ofNat 32 (min ((cands m c (img t)).rank 1024) 256) :=
  (loop_result _ _ (ctx_of m c t) 128 rfl).1

end Cert.KernelIdeal.Nms
-- ==== Proof.KArr.lean ====
module

public import proofs.«01_k».proof.Proof.KFinal

/-! # The kernel's two results -/

@[expose] public section

set_option maxRecDepth 16384

noncomputable section

namespace Cert.KernelIdeal.Nms

open Cert.KernelIdeal Cert.KernelIdeal.Gen Cert.Nms
open Idealize.ShloMosaic Idealize.ShloMosaic.TcCoe
open Idealize.ShloMosaic.Pipeline

variable (m : (ℓ : Loc nD τ sig) → Buf (Elt Ideal) ℓ) (c : Dev nD)

/-- Where a point's entries go in the output arrays. -/
theorem place3 (t : Fin (cfg0 (F := Ideal)).N) (y : S1x256x8.Idx) :
    ((win0_3.blk t).view.emb y : S4x256x8.Idx) = ix3 (img t) (y 1) (y 2) := by
  blk_ext [idx t, img]
theorem place4 (t : Fin (cfg0 (F := Ideal)).N) (y : S1x1x1.Idx) :
    ((win0_4.blk t).view.emb y : S4x1x1.Idx) = ix3 (img t) (y 1) (y 2) := by
  blk_ext [idx t, img]

theorem point3 (t : Fin (cfg0 (F := Ideal)).N) (y : S1x256x8.Idx) (i : S4x256x8.Idx) (hi : i = ix3 (img t) (y 1) (y 2)) (k : Fin 6)
    (hk : (i 2).val = k.val) :
    RowIs (cands m c (i 0)).Valid (cands m c (i 0)).Over 1024 (i 1).val ((cands m c (i 0)).row k) (outAt m c t y) := by
  subst hi
  have ey : y = (ix3 0 (y 1) ⟨k.val, by omega⟩ : S1x256x8.Idx) := by
    funext a
    fin_cases a
    · exact Subsingleton.elim (α := Fin 1) _ _
    · rfl
    · exact Fin.ext hk
  have h := out_val m c t (y 1) k
  exact (congrArg (fun z => RowIs (cands m c (img t)).Valid (cands m c (img t)).Over 1024 (y 1).val ((cands m c (img t)).row k) (outAt m c t z)) ey).mpr h

theorem point4 (t : Fin (cfg0 (F := Ideal)).N) (y : S1x1x1.Idx) (b : Fin 4) (hb : b = img t) :
    validAt m c t y = BitVec.ofNat 32 (min ((cands m c b).rank 1024) 256) := by
  subst hb
  exact valid_val m c t y

theorem covers3 : ((cfgs (F := Ideal) 0).win 3).Covers := by decide +kernel
theorem covers4 : ((cfgs (F := Ideal) 0).win 4).Covers := by decide +kernel

/-- What the first output array holds in the end. -/
theorem arr3 (i : S4x256x8.Idx) : ∀ k : Fin 6, (i 2).val = k.val →
    RowIs (cands m c (i 0)).Valid (cands m c (i 0)).Over 1024 (i 1).val ((cands m c (i 0)).row k) ((dats m 0 c).arrAt 3 (cfgs (F := Ideal) 0).N i) := by
  refine (dats m 0 c).arrAt_forall_of_covers 3 (fun (i : S4x256x8.Idx) (v : EReal) => ∀ k : Fin 6, (i 2).val = k.val →
    RowIs (cands m c (i 0)).Valid (cands m c (i 0)).Over 1024 (i 1).val ((cands m c (i 0)).row k) v) covers3 (fun t _ y => ?_) i
  rw [after0_3]
  exact fun k hk => point3 m c t y _ (place3 t y) k hk

/-- What the second holds. -/
theorem arr4 (i : S4x1x1.Idx) : (dats m 0 c).arrAt 4 (cfgs (F := Ideal) 0).N i = BitVec.ofNat 32 (min ((cands m c (i 0)).rank 1024) 256) := by
  refine (dats m 0 c).arrAt_forall_of_covers 4 (fun (i : S4x1x1.Idx) (v : BitVec 32) => v = BitVec.ofNat 32 (min ((cands m c (i 0)).rank 1024) 256)) covers4 (fun t _ y => ?_) i
  rw [after0_4]
  exact point4 m c t y _ (congrFun (place4 t y) 0)

open Idealize.ShloMosaic.StableHlo in
theorem tail13 (W : Valuation τ sig (Elt Ideal)) : after hostOps1 W (Proc.devRef .tc main_v13)
    = extractStridedSlice S4x256x6 ![0, 0, 0] (W (Proc.devRef .tc main_v12_0)) slices_S4x256x8_S4x256x6_0_0_0 := by
  after_results
open Idealize.ShloMosaic.StableHlo in
theorem tail14 (W : Valuation τ sig (Elt Ideal)) : after hostOps1 W (Proc.devRef .tc main_v14)
    = shapeCast S4 (W (Proc.devRef .tc main_v12_1)) shapeCasts_S4x1x1_S4 := by
  after_results
  rfl

end Cert.KernelIdeal.Nms
-- ==== Proof.KResult.lean ====
module

public import proofs.«01_k».proof.Proof.KArr

/-! # The kernel's run, with its results -/

@[expose] public section

set_option maxRecDepth 16384

noncomputable section

namespace Cert.KernelIdeal.Nms

open Cert.KernelIdeal Cert.KernelIdeal.Gen Cert.Nms
open Idealize.ShloMosaic Idealize.ShloMosaic.TcCoe Idealize.ShloMosaic.StableHlo
open Idealize.ShloMosaic.Pipeline (Dat)

/-- Reading a row of the padded output. -/
theorem cut_at (x : FVec Ideal S4x256x8 .f32) (b : Fin 4) (r : Fin 256) (k : Fin 6) :
    extractStridedSlice S4x256x6 ![0, 0, 0] x slices_S4x256x8_S4x256x6_0_0_0 (ix3 b r k) = x (ix3 b r ⟨k.val, by omega⟩) := by
  pointwise
/-- Reading a count. -/
theorem flat_at (x : IVec S4x1x1 32) (b : Fin 4) : shapeCast S4 x shapeCasts_S4x1x1_S4 (ix1 b) = x (ix3 b 0 0) := by
  exact Idealize.ShloMosaic.shapeCast_apply x shapeCasts_S4x1x1_S4 (ix1 b) (ix3 b 0 0) (by revert b; decide +kernel)

theorem arr_inj : Function.Injective (Pipeline.arrRef spec0) := by decide

variable (m : (ℓ : Loc nD τ sig) → Buf (Elt Ideal) ℓ) (ρ : Dev nD → PrngReg) (c : Dev nD)

/-- The arrays when the grid is done. -/
abbrev doneV : Valuation τ sig (Elt Ideal) :=
  Pipeline.withArrays (cfgs (F := Ideal) 0).spec c (V0 m c) fun w => (dats m 0 c).arrAt w (cfgs (F := Ideal) 0).N

theorem done3 : doneV m c (Proc.devRef .tc main_v12_0) = (dats m 0 c).arrAt 3 (cfgs (F := Ideal) 0).N :=
  Pipeline.withArrays_arr spec0 arr_inj c (V0 m c) (fun w => (dats m 0 c).arrAt w (cfgs (F := Ideal) 0).N) 3
theorem done4 : doneV m c (Proc.devRef .tc main_v12_1) = (dats m 0 c).arrAt 4 (cfgs (F := Ideal) 0).N :=
  Pipeline.withArrays_arr spec0 arr_inj c (V0 m c) (fun w => (dats m 0 c).arrAt w (cfgs (F := Ideal) 0).N) 4

/-- The two results. -/
def res0 : FVec Ideal S4x256x6 .f32 := Pipeline.afterTail₀ (cfgs (F := Ideal)) (dats m) 0 (V0 m) [hostOps1] c main_v13
def res1 : IVec S4 32 := Pipeline.afterTail₀ (cfgs (F := Ideal)) (dats m) 0 (V0 m) [hostOps1] c main_v14

theorem res0_at (b : Fin 4) (r : Fin 256) (k : Fin 6) :
    RowIs (cands m c b).Valid (cands m c b).Over 1024 r.val ((cands m c b).row k) (res0 m c (ix3 b r k)) := by
  have e : res0 m c = extractStridedSlice S4x256x6 ![0, 0, 0] (doneV m c (Proc.devRef .tc main_v12_0)) slices_S4x256x8_S4x256x6_0_0_0 := by
    unfold res0 Pipeline.afterTail₀
    rw [List.flatten_cons, List.flatten_nil, List.append_nil]
    exact tail13 (doneV m c)
  rw [e, cut_at, done3]
  exact arr3 m c (ix3 b r ⟨k.val, by omega⟩) k rfl

theorem res1_at (b : Fin 4) : res1 m c (ix1 b) = BitVec.ofNat 32 (min ((cands m c b).rank 1024) 256) := by
  have e : res1 m c = shapeCast S4 (doneV m c (Proc.devRef .tc main_v12_1)) shapeCasts_S4x1x1_S4 := by
    unfold res1 Pipeline.afterTail₀
    rw [List.flatten_cons, List.flatten_nil, List.append_nil]
    exact tail14 (doneV m c)
  rw [e, flat_at, done4]
  exact arr4 m c (ix3 b 0 0)

/-- The run. -/
theorem run : θ_run defs (onTc (τ := τ) (main (F := Ideal))) ⟨m, fun _ => 0, ρ⟩ (fun r => ∀ c : Dev nD,
      r.2.mem ((c.tc : Thread nD τ).loc main_v13) = res0 m c
      ∧ r.2.mem ((c.tc : Thread nD τ).loc main_v14) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).2 main_v13 (Pipeline.mem_restRefs_of main_v13 (by decide) (by exact (by decide : ∀ w, Pipeline.arrRef spec0 w ≠ main_v13))),
      (h.1 c).2 main_v14 (Pipeline.mem_restRefs_of main_v14 (by decide) (by exact (by decide : ∀ w, Pipeline.arrRef spec0 w ≠ main_v14))),
      (h.2 c).1, (h.2 c).2⟩) (θ_run_and (run_main m ρ) (unchanged m ρ))

end Cert.KernelIdeal.Nms

end
-- ==== Proof.RefEntry.lean ====
module

public import proofs.«01_k».proof.Proof.RefRan
public import proofs.«01_k».proof.Proof.Entry
public import proofs.«01_k».proof.Proof.Greedy

/-! # What the reference's loop starts from -/

@[expose] public section

set_option maxRecDepth 16384

noncomputable section

namespace Cert.ReferenceIdeal.Nms

open Cert.ReferenceIdeal Cert.ReferenceIdeal.Gen Cert.ReferenceIdeal.Value
open Idealize.ShloMosaic Idealize.ShloMosaic.TcCoe Idealize.ShloMosaic.StableHlo
open Cert.KernelIdeal.Nms (best cls topV topI vals inds starts boxes labs wrap2 wrap2_inds)

/-- One corner coordinate of every candidate. -/
def corner0 (x : FVec Ideal S4x1024x4 .f32) : FVec Ideal S4x1024 .f32 :=
  shapeCast S4x1024 (extractStridedSlice S4x1024x1 ![0, 0, 0] x slices_S4x1024x4_S4x1024x1_0_0_0) shapeCasts_S4x1024x1_S4x1024
def corner1 (x : FVec Ideal S4x1024x4 .f32) : FVec Ideal S4x1024 .f32 :=
  shapeCast S4x1024 (extractStridedSlice S4x1024x1 ![0, 0, 1] x slices_S4x1024x4_S4x1024x1_0_0_1) shapeCasts_S4x1024x1_S4x1024
def corner2 (x : FVec Ideal S4x1024x4 .f32) : FVec Ideal S4x1024 .f32 :=
  shapeCast S4x1024 (extractStridedSlice S4x1024x1 ![0, 0, 2] x slices_S4x1024x4_S4x1024x1_0_0_2) shapeCasts_S4x1024x1_S4x1024
def corner3 (x : FVec Ideal S4x1024x4 .f32) : FVec Ideal S4x1024 .f32 :=
  shapeCast S4x1024 (extractStridedSlice S4x1024x1 ![0, 0, 3] x slices_S4x1024x4_S4x1024x1_0_0_3) shapeCasts_S4x1024x1_S4x1024

/-- A candidate's number at every pair it is the first of, and at every pair it is the second of. -/
def fst (x : FVec Ideal S4x1024 .f32) : FVec Ideal S4x1024x1024 .f32 :=
  broadcastInDim S4x1024x1024 ![0, 1, 2] bcast_S4x1024x1_S4x1024x1024_0_1_2 (broadcastInDim S4x1024x1 ![0, 1] bcast_S4x1024_S4x1024x1_0_1 x)
def snd (x : FVec Ideal S4x1024 .f32) : FVec Ideal S4x1024x1024 .f32 :=
  broadcastInDim S4x1024x1024 ![0, 1, 2] bcast_S4x1x1024_S4x1024x1024_0_1_2 (broadcastInDim S4x1x1024 ![0, 2] bcast_S4x1024_S4x1x1024_0_2 x)

/-- The candidates' areas, the areas pairs share, and their overlap. -/
def areas (x : FVec Ideal S4x1024x4 .f32) : FVec Ideal S4x1024 .f32 :=
  mulf (maximumf (subf (corner2 x) (corner0 x)) (broadcastInDim S4x1024 ![] bcast_S_S4x1024 (constant S_ .f32 0x00000000#32)))
    (maximumf (subf (corner3 x) (corner1 x)) (broadcastInDim S4x1024 ![] bcast_S_S4x1024 (constant S_ .f32 0x00000000#32)))
def shared (x : FVec Ideal S4x1024x4 .f32) : FVec Ideal S4x1024x1024 .f32 :=
  mulf (maximumf (subf (minimumf (fst (corner2 x)) (snd (corner2 x))) (maximumf (fst (corner0 x)) (snd (corner0 x))))
      (broadcastInDim S4x1024x1024 ![] bcast_S_S4x1024x1024 (constant S_ .f32 0x00000000#32)))
    (maximumf (subf (minimumf (fst (corner3 x)) (snd (corner3 x))) (maximumf (fst (corner1 x)) (snd (corner1 x))))
      (broadcastInDim S4x1024x1024 ![] bcast_S_S4x1024x1024 (constant S_ .f32 0x00000000#32)))
def overlap (x : FVec Ideal S4x1024x4 .f32) : FVec Ideal S4x1024x1024 .f32 :=
  Host.divf (shared x) (maximumf (subf (addf (fst (areas x)) (snd (areas x))) (shared x))
    (broadcastInDim S4x1024x1024 ![] bcast_S_S4x1024x1024 (constant S_ .f32 0x322BCC77#32)))

variable (W : Valuation τ sig (Elt Ideal))

theorem at0_0 : after hostOps0 W (Proc.devRef .tc main_v0) = best (W (Proc.devRef .tc main_arg1)) := by
  after_results
  rfl
theorem at0_1 : after hostOps0_1 W (Proc.devRef .tc main_v1) = cls (W (Proc.devRef .tc main_arg1)) := by
  after_results
  rfl
theorem keep0_a0 : after hostOps0 W (Proc.devRef .tc main_arg0) = W (Proc.devRef .tc main_arg0) := by after_results
theorem keep0_a1 : after hostOps0 W (Proc.devRef .tc main_arg1) = W (Proc.devRef .tc main_arg1) := by after_results
theorem keep1_a0 : after hostOps0_1 W (Proc.devRef .tc main_arg0) = W (Proc.devRef .tc main_arg0) := by after_results
theorem keep1_v0 : after hostOps0_1 W (Proc.devRef .tc main_v0) = W (Proc.devRef .tc main_v0) := by after_results

theorem at2_vals : after hostOps0_2 W (Proc.devRef .tc main_values) = topV (W (Proc.devRef .tc main_v0)) := by
  after_results
  rfl
theorem at2_v8 : after hostOps0_2 W (Proc.devRef .tc main_v8)
    = Host.gather gather_S4x20000x4_S4x1024x1_S4x1024x4_2_1_0_0_1_2_114 (W (Proc.devRef .tc main_arg0))
      (broadcastInDim S4x1024x1 ![0, 1] bcast_S4x1024_S4x1024x1_0_1 (wrap2 (topI (W (Proc.devRef .tc main_v0))))) := by
  after_results
  rfl
theorem at2_v15 : after hostOps0_2 W (Proc.devRef .tc main_v15)
    = Host.gather gather_S4x20000_S4x1024x1_S4x1024_n_1_0_0_1_2_11 (W (Proc.devRef .tc main_v1))
      (broadcastInDim S4x1024x1 ![0, 1] bcast_S4x1024_S4x1024x1_0_1 (wrap2 (topI (W (Proc.devRef .tc main_v0))))) := by
  after_results
  rfl
theorem at2_v69 : after hostOps0_2 W (Proc.devRef .tc main_v69) = iotaInDim S1024 32 0 := by
  after_results
theorem at2_71_0 : after hostOps0_2 W (Proc.devRef .tc main_v71_0)
    = cmpf .ogt (topV (W (Proc.devRef .tc main_v0))) (broadcastInDim S4x1024 ![] bcast_S_S4x1024 (constant S_ .f32 0x3DCCCCCD#32)) := by
  after_results
  rfl
theorem at2_71_1 : after hostOps0_2 W (Proc.devRef .tc main_v71_1) = overlap (after hostOps0_2 W (Proc.devRef .tc main_v8)) := by
  rw [at2_v8]
  after_results
  rfl
theorem at2_71_2 : after hostOps0_2 W (Proc.devRef .tc main_v71_2) = iotaInDim S1024 32 0 := by
  after_results
  rfl
theorem at2_71_4 : after hostOps0_2 W (Proc.devRef .tc main_v71_4) = constantI S_ 32 0#32 := by
  after_results
  rfl
theorem at2_71_5 : after hostOps0_2 W (Proc.devRef .tc main_v71_5) = broadcastInDim S4x1024 ![] bcast_S_S4x1024 (constantI S_ 1 0#1) := by
  after_results
  rfl
theorem at2_71_6 : after hostOps0_2 W (Proc.devRef .tc main_v71_6) = broadcastInDim S4x1024 ![] bcast_S_S4x1024 (constantI S_ 1 0#1) := by
  after_results
  rfl

end Cert.ReferenceIdeal.Nms
-- ==== Proof.Take.lean ====
module

public import proofs.«01_k».proof.Proof.RefRan
public import Idealize.ShloMosaic.Lib.Pointwise
public import Idealize.ShloMosaic.Lib.WordCmp

/-! # The reference's gathers, read at an index -/

@[expose] public section

set_option maxRecDepth 16384

noncomputable section

namespace Cert.ReferenceIdeal.Nms

open Cert.ReferenceIdeal Cert.ReferenceIdeal.Gen
open Idealize.ShloMosaic

/-- The clamped start of a gather among 1024. -/
def clamp (w : BitVec 32) : Fin 1024 := ⟨min w.toInt.toNat 1023, by omega⟩

/-- Coordinates read at an axis that is known. -/
theorem at2 {n k : ℕ} (b : Fin n) (r : Fin k) : (∀ X : Fin 2, X = 0 → (ix2 b r X).val = b.val) ∧ (∀ X : Fin 2, X = 1 → (ix2 b r X).val = r.val) :=
  ⟨fun _ h => by subst h; rfl, fun _ h => by subst h; rfl⟩
theorem at3 {n k l : ℕ} (b : Fin n) (r : Fin k) (c : Fin l) : (∀ X : Fin 3, X = 0 → (ix3 b r c X).val = b.val)
    ∧ (∀ X : Fin 3, X = 1 → (ix3 b r c X).val = r.val) ∧ (∀ X : Fin 3, X = 2 → (ix3 b r c X).val = c.val) :=
  ⟨fun _ h => by subst h; rfl, fun _ h => by subst h; rfl, fun _ h => by subst h; rfl⟩

/-- The batched gather of one number per start index. -/
abbrev G2 := gather_S4x1024_S4x256x1_S4x256_n_1_0_0_1_2_11
/-- The batched gather of a row of four per start index. -/
abbrev G3 := gather_S4x1024x4_S4x256x1_S4x256x4_2_1_0_0_1_2_114

theorem siIdx2 (b : Fin 4) (r : Fin 256) (q) : GatherDims.siIdx G2 (ix2 b r) q = ix3 b r 0 := by
  funext a
  apply Fin.ext
  fin_cases a
  · unfold GatherDims.siIdx
    rw [dif_neg (by decide)]
    unfold GatherDims.siCoord
    simp only [Fin.val_cast]
    exact (at2 b r).1 _ (by decide)
  · unfold GatherDims.siIdx
    rw [dif_neg (by decide)]
    unfold GatherDims.siCoord
    simp only [Fin.val_cast]
    exact (at2 b r).2 _ (by decide)
  · unfold GatherDims.siIdx
    rw [dif_pos (by decide)]
    have h := q.isLt
    have h2 : (GatherDims.startIndexMap G2).length = 1 := rfl
    show q.val = 0
    omega

theorem siIdx3 (b : Fin 4) (r : Fin 256) (k : Fin 4) (q) : GatherDims.siIdx G3 (ix3 b r k) q = ix3 b r 0 := by
  funext a
  apply Fin.ext
  fin_cases a
  · unfold GatherDims.siIdx
    rw [dif_neg (by decide)]
    unfold GatherDims.siCoord
    simp only [Fin.val_cast]
    exact (at3 b r k).1 _ (by decide)
  · unfold GatherDims.siIdx
    rw [dif_neg (by decide)]
    unfold GatherDims.siCoord
    simp only [Fin.val_cast]
    exact (at3 b r k).2.1 _ (by decide)
  · unfold GatherDims.siIdx
    rw [dif_pos (by decide)]
    have h := q.isLt
    have h2 : (GatherDims.startIndexMap G3).length = 1 := rfl
    show q.val = 0
    omega

theorem take2 {α : Type} (x : S4x1024.Idx → α) (i : IVec S4x256x1 32) (b : Fin 4) (r : Fin 256) :
    Host.gather G2 x i (ix2 b r) = x (ix2 b (clamp (i (ix3 b r 0)))) := by
  refine congrArg x (funext fun a => Fin.ext ?_)
  fin_cases a
  · show GatherDims.start G2 (ix2 b r) i 0 + GatherDims.batchCoord G2 (ix2 b r) 0 + GatherDims.offCoord G2 (ix2 b r) 0 = b.val
    rw [GatherDims.start_batching _ _ _ _ (by decide), GatherDims.offCoord_eq_zero _ _ _ (by decide)]
    unfold GatherDims.batchCoord
    rw [dif_pos (by decide)]
    unfold GatherDims.siCoord
    simp only [Fin.val_cast, Nat.zero_add, Nat.add_zero]
    exact (at2 b r).1 _ (by decide)
  · show GatherDims.start G2 (ix2 b r) i 1 + GatherDims.batchCoord G2 (ix2 b r) 1 + GatherDims.offCoord G2 (ix2 b r) 1
      = min (i (ix3 b r 0)).toInt.toNat 1023
    rw [GatherDims.batchCoord_eq_zero _ _ _ (by decide), GatherDims.offCoord_eq_zero _ _ _ (by decide)]
    unfold GatherDims.start
    rw [dif_pos (by decide), siIdx2]
    rfl

theorem take3 {α : Type} (x : S4x1024x4.Idx → α) (i : IVec S4x256x1 32) (b : Fin 4) (r : Fin 256) (k : Fin 4) :
    Host.gather G3 x i (ix3 b r k) = x (ix3 b (clamp (i (ix3 b r 0))) k) := by
  refine congrArg x (funext fun a => Fin.ext ?_)
  fin_cases a
  · show GatherDims.start G3 (ix3 b r k) i 0 + GatherDims.batchCoord G3 (ix3 b r k) 0 + GatherDims.offCoord G3 (ix3 b r k) 0 = b.val
    rw [GatherDims.start_batching _ _ _ _ (by decide), GatherDims.offCoord_eq_zero _ _ _ (by decide)]
    unfold GatherDims.batchCoord
    rw [dif_pos (by decide)]
    unfold GatherDims.siCoord
    simp only [Fin.val_cast, Nat.zero_add, Nat.add_zero]
    exact (at3 b r k).1 _ (by decide)
  · show GatherDims.start G3 (ix3 b r k) i 1 + GatherDims.batchCoord G3 (ix3 b r k) 1 + GatherDims.offCoord G3 (ix3 b r k) 1
      = min (i (ix3 b r 0)).toInt.toNat 1023
    rw [GatherDims.batchCoord_eq_zero _ _ _ (by decide), GatherDims.offCoord_eq_zero _ _ _ (by decide)]
    unfold GatherDims.start
    rw [dif_pos (by decide), siIdx3]
    rfl
  · show GatherDims.start G3 (ix3 b r k) i 2 + GatherDims.batchCoord G3 (ix3 b r k) 2 + GatherDims.offCoord G3 (ix3 b r k) 2 = k.val
    rw [GatherDims.batchCoord_eq_zero _ _ _ (by decide)]
    unfold GatherDims.start GatherDims.offCoord
    rw [dif_neg (by decide), dif_pos (by decide)]
    simp only [Nat.zero_add, Nat.add_zero]
    exact (at3 b r k).2.2 _ (by decide)

end Cert.ReferenceIdeal.Nms
-- ==== Proof.RefStep.lean ====
module

public import proofs.«01_k».proof.Proof.RefEntry
public import proofs.«01_k».proof.Proof.Take

/-! # One trip of the reference's loop, read at an index -/

@[expose] public section

set_option maxRecDepth 16384

noncomputable section

namespace Cert.ReferenceIdeal.Nms

open Cert.ReferenceIdeal Cert.ReferenceIdeal.Gen Cert.ReferenceIdeal.Value
open Idealize.ShloMosaic Idealize.ShloMosaic.TcCoe Idealize.ShloMosaic.StableHlo

/-- The scalar that holds one word. -/
abbrev word (n : ℕ) : IVec S_ 32 := fun _ => BitVec.ofNat 32 n

/-- A position below 1024 is not negative, so it needs no wrapping. -/
theorem wrap_word (k : ℕ) (hk : k < 1024) (y : IVec S_ 32) : select (cmpi .slt (word k) (constantI S_ 32 0#32)) y (word k) = word k := by
  funext j
  have h : IntOp.cmpi .slt (BitVec.ofNat 32 k) (BitVec.ofNat 32 0) = _ := WordCmp.cmpi_slt_ofNat (by omega) (by omega)
  show Scalar.select (IntOp.cmpi .slt (BitVec.ofNat 32 k) (BitVec.ofNat 32 0)) (y j) (BitVec.ofNat 32 k) = BitVec.ofNat 32 k
  rw [h]
  simp
  rfl

theorem toInt_word (k : ℕ) (hk : k < 1024) : (BitVec.ofNat 32 k).toInt = (k : ℤ) := WordCmp.toInt_ofNat_of_lt (by omega)

/-- Column `k` of a table of pairs of positions. -/
theorem col_at {α : Type} (x : S4x1024.Idx → α) (k : Fin 1024) (b : Fin 4) (z : IVec S_ 32) (hz : z = word 0) (p : IVec S_ 32) (hp : p = word k.val) :
    shapeCast S4 (Host.dynamicSlice S4x1 x (fun a => ((![z, p] : Fin 2 → IVec S_ 32) a (Shape.Idx.first h_S_)).toInt)
      sliceFits_S4x1024_S4x1) shapeCasts_S4x1_S4 (ix1 b) = x (ix2 b k) := by
  subst hz hp
  rw [WordCmp.dynamicSlice_eq_extract S4x1 x _ _ ![0, k.val]
    ⟨rfl, fun a => by have := k.isLt; fin_cases a; exact le_rfl; show k.val + 1 ≤ 1024; omega⟩ (fun a => by
      fin_cases a
      · exact toInt_word 0 (by omega)
      · exact toInt_word k.val k.isLt)]
  pointwise

/-- Row `k` of each table of pairs. -/
theorem row_at {α : Type} (x : S4x1024x1024.Idx → α) (k j : Fin 1024) (b : Fin 4) (z z' : IVec S_ 32) (hz : z = word 0) (hz' : z' = word 0)
    (p : IVec S_ 32) (hp : p = word k.val) :
    shapeCast S4x1024 (Host.dynamicSlice S4x1x1024 x (fun a => ((![z, p, z'] : Fin 3 → IVec S_ 32) a (Shape.Idx.first h_S_)).toInt)
      sliceFits_S4x1024x1024_S4x1x1024) shapeCasts_S4x1x1024_S4x1024 (ix2 b j) = x (ix3 b k j) := by
  subst hz hz' hp
  rw [WordCmp.dynamicSlice_eq_extract S4x1x1024 x _ _ ![0, k.val, 0]
    ⟨rfl, fun a => by have := k.isLt; fin_cases a; exact le_rfl; show k.val + 1 ≤ 1024; omega; exact le_rfl⟩ (fun a => by
      fin_cases a
      · exact toInt_word 0 (by omega)
      · exact toInt_word k.val k.isLt
      · exact toInt_word 0 (by omega))]
  pointwise

/-- Updates that land elsewhere leave an entry alone. -/
theorem fold_other {ι κ α : Type} [DecidableEq κ] (p : ι → κ) (v : ι → α) (i : κ) : ∀ (l : List ι) (x : κ → α), (∀ n ∈ l, p n ≠ i) →
    l.foldl (fun r n i' => if i' = p n then v n else r i') x i = x i
  | [], _, _ => rfl
  | n :: l, x, h => by
    rw [List.foldl_cons, fold_other p v i l _ fun n hn => h n (List.mem_cons_of_mem _ hn)]
    exact if_neg fun e => h n (List.mem_cons_self) e.symm

/-- An entry that only updates of one value reach holds that value. -/
theorem fold_hit {ι κ α : Type} [DecidableEq κ] (p : ι → κ) (v : ι → α) (i : κ) (w : α) : ∀ (l : List ι) (x : κ → α), (∀ n ∈ l, p n = i → v n = w) →
    (∃ n ∈ l, p n = i) → l.foldl (fun r n i' => if i' = p n then v n else r i') x i = w
  | [], _, _, h => absurd h (by simp)
  | n :: l, x, h, h' => by
    by_cases hl : ∃ m ∈ l, p m = i
    · exact fold_hit p v i w l _ (fun m hm => h m (List.mem_cons_of_mem _ hm)) hl
    · rw [List.foldl_cons, fold_other p v i l _ fun m hm e => hl ⟨m, hm, e⟩]
      obtain ⟨m, hm, e⟩ := h'
      have hmn : m = n := by
        rcases List.mem_cons.1 hm with h1 | h1
        · exact h1
        · exact absurd ⟨m, h1, e⟩ hl
      subst hmn
      rw [if_pos e.symm]
      exact h m List.mem_cons_self e

/-- The write of one column. -/
abbrev GS := scatter_S4x1024_S1_S4_0_1_1_0

/-- Where the write of a column lands. -/
theorem lands (k : Fin 1024) (idx : IVec S1 32) (hi : ∀ i, idx i = BitVec.ofNat 32 k.val) (j : S4.Idx) :
    ScatterDims.resultIdx? GS j idx = some (ix2 (j 0) k) := by
  have hk := k.isLt
  have h0 : ScatterDims.start GS j idx 0 = 0 := by
    unfold ScatterDims.start
    rw [dif_neg (by decide)]
  have h1 : ScatterDims.start GS j idx 1 = (k.val : ℤ) := by
    unfold ScatterDims.start
    rw [dif_pos (by decide), hi, toInt_word _ hk]
  have w0 : ScatterDims.window GS j 0 = (j 0).val := by
    unfold ScatterDims.window
    rw [dif_pos (by decide)]
    rfl
  have w1 : ScatterDims.window GS j 1 = 0 := by
    unfold ScatterDims.window
    rw [dif_neg (by decide)]
  have hj : (j 0).val < 4 := (j 0).isLt
  unfold ScatterDims.resultIdx?
  rw [dif_pos (fun a => by
    fin_cases a
    · show 0 ≤ ScatterDims.start GS j idx 0 + (ScatterDims.window GS j 0 : ℤ) ∧ ScatterDims.start GS j idx 0 + (ScatterDims.window GS j 0 : ℤ) < (4 : ℕ)
      rw [h0, w0]; omega
    · show 0 ≤ ScatterDims.start GS j idx 1 + (ScatterDims.window GS j 1 : ℤ) ∧ ScatterDims.start GS j idx 1 + (ScatterDims.window GS j 1 : ℤ) < (1024 : ℕ)
      rw [h1, w1]; omega)]
  refine congrArg some (funext fun a => Fin.ext ?_)
  fin_cases a
  · show (ScatterDims.start GS j idx 0 + (ScatterDims.window GS j 0 : ℤ)).toNat = (j 0).val
    rw [h0, w0]; omega
  · show (ScatterDims.start GS j idx 1 + (ScatterDims.window GS j 1 : ℤ)).toNat = k.val
    rw [h1, w1]; omega

/-- The column `k` is written and every other stays. -/
theorem put_at {α : Type} (x : S4x1024.Idx → α) (k : Fin 1024) (idx : IVec S1 32) (hi : ∀ i, idx i = BitVec.ofNat 32 k.val) (u : S4.Idx → α)
    (b : Fin 4) (j : Fin 1024) :
    Host.scatter GS (fun _ b => b) x idx u (ix2 b j) = if j = k then u (ix1 b) else x (ix2 b j) := by
  have e : Host.scatter GS (fun _ b => b) x idx u = (List.finRange S4.numel).foldl
      (fun r n i' => if i' = ix2 ((S4.rowMajor.symm n) 0) k then u (S4.rowMajor.symm n) else r i') x := by
    unfold Host.scatter
    congr 1
    funext r n
    rw [lands k idx hi]
    rfl
  rw [e]
  split
  · rename_i h
    subst h
    refine fold_hit (fun n => ix2 ((S4.rowMajor.symm n) 0) j) _ _ _ _ _ (fun n _ hn => ?_) ⟨S4.rowMajor (ix1 b), List.mem_finRange _, ?_⟩
    · have h0 := congrFun hn 0
      refine congrArg u (funext fun a => ?_)
      fin_cases a
      exact h0
    · show ix2 ((S4.rowMajor.symm (S4.rowMajor (ix1 b))) 0) j = _
      rw [Equiv.symm_apply_apply]
      rfl
  · rename_i h
    exact fold_other (fun n => ix2 ((S4.rowMajor.symm n) 0) k) _ _ _ _ fun n _ hn => h (congrFun hn 1).symm

end Cert.ReferenceIdeal.Nms
-- ==== Proof.RefLoop.lean ====
module

public import proofs.«01_k».proof.Proof.RefStep

/-! # The reference's loop: after `k` trips it has decided the first `k` candidates -/

@[expose] public section

set_option maxRecDepth 16384

noncomputable section

namespace Cert.ReferenceIdeal.Nms

open Cert.ReferenceIdeal Cert.ReferenceIdeal.Gen Cert.ReferenceIdeal.Value Cert.Nms
open Idealize.ShloMosaic Idealize.ShloMosaic.TcCoe Idealize.ShloMosaic.StableHlo

/-- One-bit words as truth values. -/
theorem and_bit (x y : BitVec 1) : IntOp.andi x y = 1#1 ↔ x = 1#1 ∧ y = 1#1 := by revert x y; decide
theorem or_bit (x y : BitVec 1) : IntOp.ori x y = 1#1 ↔ x = 1#1 ∨ y = 1#1 := by revert x y; decide
theorem not_bit (x : BitVec 1) : ~~~x = 1#1 ↔ ¬ x = 1#1 := by revert x; decide

/-- A column or row number, wrapped if negative. -/
def wrapW (n : BitVec 32) (p : IVec S_ 32) : IVec S_ 32 := select (cmpi .slt p (constantI S_ 32 0#32)) (addi p (constantI S_ 32 n)) p

theorem wrapW_word (n : BitVec 32) (k : ℕ) (hk : k < 1024) : wrapW n (word k) = word k := wrap_word k hk _

/-- Whether the trip's candidate is taken. -/
def takes (x6 x0 : IVec S4x1024 1) (p : IVec S_ 32) : IVec S4 1 :=
  andi (noti (shapeCast S4 (Host.dynamicSlice S4x1 x6 (fun a => ((![wrapW 4#32 (word 0), wrapW 1024#32 p] : Fin 2 → IVec S_ 32) a (Shape.Idx.first h_S_)).toInt)
      sliceFits_S4x1024_S4x1) shapeCasts_S4x1_S4))
    (shapeCast S4 (Host.dynamicSlice S4x1 x0 (fun a => ((![wrapW 4#32 (word 0), wrapW 1024#32 p] : Fin 2 → IVec S_ 32) a (Shape.Idx.first h_S_)).toInt)
      sliceFits_S4x1024_S4x1) shapeCasts_S4x1_S4)

/-- The taken candidates after the trip. -/
def taken (x5 : IVec S4x1024 1) (p : IVec S_ 32) (t : IVec S4 1) : IVec S4x1024 1 :=
  Host.scatter GS (fun _ b => b) x5 (broadcastInDim S1 ![] bcast_S_S1 (wrapW 1024#32 p)) t

/-- The suppressed candidates after the trip. -/
def dropped (x6 : IVec S4x1024 1) (x1 : FVec Ideal S4x1024x1024 .f32) (x2 : IVec S1024 32) (p : IVec S_ 32) (t : IVec S4 1) : IVec S4x1024 1 :=
  ori x6 (andi (andi (cmpf .ogt (shapeCast S4x1024 (Host.dynamicSlice S4x1x1024 x1
      (fun a => ((![wrapW 4#32 (word 0), wrapW 1024#32 p, wrapW 1024#32 (word 0)] : Fin 3 → IVec S_ 32) a (Shape.Idx.first h_S_)).toInt)
      sliceFits_S4x1024x1024_S4x1x1024) shapeCasts_S4x1x1024_S4x1024) (broadcastInDim S4x1024 ![] bcast_S_S4x1024 (constant S_ .f32 0x3F333333#32)))
      (broadcastInDim S4x1024 ![0, 1] bcast_S4x1_S4x1024_0_1 (broadcastInDim S4x1 ![0] bcast_S4_S4x1_0 t)))
    (broadcastInDim S4x1024 ![0, 1] bcast_S1x1024_S4x1024_0_1 (broadcastInDim S1x1024 ![1] bcast_S1024_S1x1024_1
      (cmpi .sgt x2 (broadcastInDim S1024 ![] bcast_S_S1024 p)))))

section Trip
variable (k : Fin 1024)

theorem takes_at (x6 x0 : IVec S4x1024 1) (b : Fin 4) :
    takes x6 x0 (word k.val) (ix1 b) = 1#1 ↔ ¬ x6 (ix2 b k) = 1#1 ∧ x0 (ix2 b k) = 1#1 := by
  rw [← not_bit, ← col_at x6 k b _ (wrapW_word 4#32 0 (by omega)) _ (wrapW_word 1024#32 k.val k.isLt),
    ← col_at x0 k b _ (wrapW_word 4#32 0 (by omega)) _ (wrapW_word 1024#32 k.val k.isLt)]
  exact and_bit _ _

theorem taken_at (x5 : IVec S4x1024 1) (t : IVec S4 1) (b : Fin 4) (j : Fin 1024) :
    taken x5 (word k.val) t (ix2 b j) = if j = k then t (ix1 b) else x5 (ix2 b j) := by
  unfold taken
  rw [wrapW_word _ _ k.isLt]
  exact put_at x5 k _ (fun i => rfl) t b j

theorem dropped_at (x6 : IVec S4x1024 1) (x1 : FVec Ideal S4x1024x1024 .f32) (x2 : IVec S1024 32) (t : IVec S4 1) (b : Fin 4) (j : Fin 1024) :
    dropped x6 x1 x2 (word k.val) t (ix2 b j) = 1#1 ↔ x6 (ix2 b j) = 1#1
      ∨ ((Ideal.ofBits .f32 0x3F333333#32 < x1 (ix3 b k j) ∧ t (ix1 b) = 1#1) ∧ IntOp.cmpi .sgt (x2 (ix1 j)) (BitVec.ofNat 32 k.val) = 1#1) := by
  have h1 := row_at x1 k j b _ _ (wrapW_word 4#32 0 (by omega)) (wrapW_word 1024#32 0 (by omega)) _ (wrapW_word 1024#32 k.val k.isLt)
  have e : ∀ v w : EReal, Ideal.cmp .ogt v w = 1#1 ↔ w < v := fun v w => by
    unfold Ideal.cmp
    by_cases h : w < v <;> simp [h]
  rw [← e, ← h1, ← and_bit, ← and_bit, ← or_bit]
  have et : broadcastInDim S4x1024 ![0, 1] bcast_S4x1_S4x1024_0_1 (broadcastInDim S4x1 ![0] bcast_S4_S4x1_0 t) (ix2 b j) = t (ix1 b) := by
    pointwise
  have e2 : broadcastInDim S4x1024 ![0, 1] bcast_S1x1024_S4x1024_0_1 (broadcastInDim S1x1024 ![1] bcast_S1024_S1x1024_1
      (cmpi .sgt x2 (broadcastInDim S1024 ![] bcast_S_S1024 (word k.val)))) (ix2 b j) = IntOp.cmpi .sgt (x2 (ix1 j)) (BitVec.ofNat 32 k.val) := by
    pointwise
  rw [← et, ← e2]
  exact Iff.rfl

end Trip

section Valuations
variable (V : Valuation τ sig (Elt Ideal))

theorem takes_eq : res_main_while0b_v137 V = takes (V (Proc.devRef .tc main_v71_6)) (V (Proc.devRef .tc main_v71_0)) (V (Proc.devRef .tc main_v71_4)) := rfl
theorem taken_eq : step_main_v71_5 V = taken (V (Proc.devRef .tc main_v71_5)) (V (Proc.devRef .tc main_v71_4))
    (takes (V (Proc.devRef .tc main_v71_6)) (V (Proc.devRef .tc main_v71_0)) (V (Proc.devRef .tc main_v71_4))) := by
  rw [← takes_eq]
  unfold step_main_v71_5 taken
  refine (id_eq _).trans ?_
  refine congrArg (fun i : IVec S1 32 => Host.scatter GS (fun _ b => b) (V (Proc.devRef .tc main_v71_5) : IVec S4x1024 1) i (res_main_while0b_v137 V : IVec S4 1)) ?_
  rfl
theorem dropped_eq : step_main_v71_6 V = dropped (V (Proc.devRef .tc main_v71_6)) (V (Proc.devRef .tc main_v71_1)) (V (Proc.devRef .tc main_v71_2))
    (V (Proc.devRef .tc main_v71_4))
    (takes (V (Proc.devRef .tc main_v71_6)) (V (Proc.devRef .tc main_v71_0)) (V (Proc.devRef .tc main_v71_4))) := rfl

end Valuations

end Cert.ReferenceIdeal.Nms
-- ==== Proof.RefInv.lean ====
module

public import proofs.«01_k».proof.Proof.RefLoop

/-! # The reference's loop decides the candidates in order -/

@[expose] public section

set_option maxRecDepth 16384

noncomputable section

namespace Cert.ReferenceIdeal.Nms

open Cert.ReferenceIdeal Cert.ReferenceIdeal.Gen Cert.ReferenceIdeal.Value Cert.Nms
open Idealize.ShloMosaic Idealize.ShloMosaic.TcCoe Idealize.ShloMosaic.StableHlo

/-- What the loop's buffers hold after `k` trips, for the candidates `D b` of each image `b`. -/
structure Inv (D : Fin 4 → Cands) (k : ℕ) (V : Valuation τ sig (Elt Ideal)) : Prop where
  pos : (V (Proc.devRef .tc main_v71_4) : IVec S_ 32) = word k
  dec : ∀ (b : Fin 4) (j : Fin 1024), (V (Proc.devRef .tc main_v71_5) : IVec S4x1024 1) (ix2 b j) = 1#1 ↔ j.val < k ∧ (D b).Kept j.val
  sup : ∀ (b : Fin 4) (j : Fin 1024), (V (Proc.devRef .tc main_v71_6) : IVec S4x1024 1) (ix2 b j) = 1#1
    ↔ ∃ i, i < k ∧ i < j.val ∧ (D b).Kept i ∧ (D b).Over i j.val
  val : ∀ (b : Fin 4) (j : Fin 1024), (V (Proc.devRef .tc main_v71_0) : IVec S4x1024 1) (ix2 b j) = 1#1 ↔ (D b).Valid j.val
  ovl : ∀ (b : Fin 4) (i j : Fin 1024), Ideal.ofBits .f32 0x3F333333#32 < (V (Proc.devRef .tc main_v71_1) : FVec Ideal S4x1024x1024 .f32) (ix3 b i j)
    ↔ (D b).Over i.val j.val
  num : (V (Proc.devRef .tc main_v71_2) : IVec S1024 32) = iotaInDim S1024 32 0

theorem step_pos (V : Valuation τ sig (Elt Ideal)) (k : ℕ) (h : (V (Proc.devRef .tc main_v71_4) : IVec S_ 32) = word k) :
    (STEP V (Proc.devRef .tc main_v71_4) : IVec S_ 32) = word (k + 1) := by
  refine (STEP_main_v71_4 V).trans ?_
  show addi (V (Proc.devRef .tc main_v71_4) : IVec S_ 32) (constantI S_ 32 1#32) = word (k + 1)
  rw [h]
  funext j
  exact (BitVec.ofNat_add k 1).symm

theorem sgt_word (j k : ℕ) (hj : j < 1024) (hk : k < 1024) : IntOp.cmpi .sgt (BitVec.ofNat 32 j) (BitVec.ofNat 32 k) = 1#1 ↔ k < j := by
  have h : IntOp.cmpi .sgt (BitVec.ofNat 32 j) (BitVec.ofNat 32 k) = _ := WordCmp.cmpi_sgt_ofNat (by omega) (by omega)
  rw [h, WordCmp.ofBool_decide_eq_one_iff]

/-- One trip keeps the invariant. -/
theorem inv_step (D : Fin 4 → Cands) (k : ℕ) (hk : k < 1024) (V : Valuation τ sig (Elt Ideal)) (h : Inv D k V) : Inv D (k + 1) (STEP V) := by
  have ht : ∀ b : Fin 4, takes (V (Proc.devRef .tc main_v71_6)) (V (Proc.devRef .tc main_v71_0)) (V (Proc.devRef .tc main_v71_4)) (ix1 b) = 1#1
      ↔ (D b).Kept k := fun b => by
    rw [h.pos]
    refine (takes_at ⟨k, hk⟩ _ _ b).trans ?_
    rw [h.sup b ⟨k, hk⟩, h.val b ⟨k, hk⟩]
    show _ ↔ Cert.Nms.Kept (D b).Valid (D b).Over k
    rw [kept_iff]
    constructor
    · rintro ⟨h1, h2⟩
      exact ⟨h2, fun i hi hi2 ho => h1 ⟨i, hi, hi, hi2, ho⟩⟩
    · rintro ⟨h1, h2⟩
      refine ⟨?_, h1⟩
      rintro ⟨i, hi, _, hi2, ho⟩
      exact h2 i hi hi2 ho
  generalize htk : takes (V (Proc.devRef .tc main_v71_6)) (V (Proc.devRef .tc main_v71_0)) (V (Proc.devRef .tc main_v71_4)) = t at ht
  refine ⟨step_pos V k h.pos, fun b j => ?_, fun b j => ?_, fun b j => ?_, fun b i j => ?_, ?_⟩
  · rw [STEP_main_v71_5, taken_eq, htk, h.pos, taken_at ⟨k, hk⟩]
    by_cases hj : j = ⟨k, hk⟩
    · rw [if_pos hj, ht]
      subst hj
      exact ⟨fun h => ⟨Nat.lt_succ_self _, h⟩, fun h => h.2⟩
    · rw [if_neg hj, h.dec]
      have hne : j.val ≠ k := fun e => hj (Fin.ext e)
      exact and_congr_left' (by omega)
  · rw [STEP_main_v71_6, dropped_eq, htk, h.pos, h.num]
    refine (dropped_at ⟨k, hk⟩ _ _ _ _ b j).trans ?_
    rw [h.sup, h.ovl, ht]
    rw [show (iotaInDim S1024 32 0 : IVec S1024 32) (ix1 j) = BitVec.ofNat 32 j.val from rfl, sgt_word _ _ j.isLt hk]
    constructor
    · rintro (⟨i, h1, h2, h3, h4⟩ | ⟨⟨h1, h2⟩, h3⟩)
      · exact ⟨i, by omega, h2, h3, h4⟩
      · exact ⟨k, by omega, h3, h2, h1⟩
    · rintro ⟨i, h1, h2, h3, h4⟩
      rcases Nat.lt_succ_iff_lt_or_eq.1 h1 with h5 | h5
      · exact .inl ⟨i, h5, h2, h3, h4⟩
      · subst h5
        exact .inr ⟨⟨h4, h3⟩, h2⟩
  · rw [STEP_main_v71_0]; exact h.val b j
  · rw [STEP_main_v71_1]; exact h.ovl b i j
  · exact (STEP_main_v71_2 V).trans h.num

/-- So it holds after every trip. -/
theorem inv_iter (D : Fin 4 → Cands) (V : Valuation τ sig (Elt Ideal)) (h : Inv D 0 V) : ∀ k, k ≤ 1024 → Inv D k (STEP^[k] V)
  | 0, _ => h
  | k + 1, hk => by
    rw [Function.iterate_succ_apply']
    exact inv_step D k (by omega) _ (inv_iter D V h k (by omega))

theorem fst_at (y : FVec Ideal S4x1024 .f32) (b : Fin 4) (i j : Fin 1024) : fst y (ix3 b i j) = y (ix2 b i) := by
  unfold fst
  pointwise
theorem snd_at (y : FVec Ideal S4x1024 .f32) (b : Fin 4) (i j : Fin 1024) : snd y (ix3 b i j) = y (ix2 b j) := by
  unfold snd
  pointwise

section Corners
variable (x : FVec Ideal S4x1024x4 .f32) (b : Fin 4) (i : Fin 1024)

theorem corner0_at : corner0 x (ix2 b i) = x (ix3 b i 0) := by
  unfold corner0
  pointwise
theorem corner1_at : corner1 x (ix2 b i) = x (ix3 b i 1) := by
  unfold corner1
  pointwise
theorem corner2_at : corner2 x (ix2 b i) = x (ix3 b i 2) := by
  unfold corner2
  pointwise
theorem corner3_at : corner3 x (ix2 b i) = x (ix3 b i 3) := by
  unfold corner3
  pointwise

theorem zero_bits : Ideal.ofBits .f32 0x00000000#32 = 0 := Ideal.ofBits_zero_f32

theorem areas_at : areas x (ix2 b i) = area (fun k => x (ix3 b i k)) := by
  unfold area
  beta_reduce
  rw [← corner0_at x b i, ← corner1_at x b i, ← corner2_at x b i, ← corner3_at x b i, ← zero_bits]
  rfl

theorem shared_at (j : Fin 1024) : shared x (ix3 b i j) = inter (fun k => x (ix3 b i k)) (fun k => x (ix3 b j k)) := by
  unfold inter
  beta_reduce
  rw [← corner0_at x b i, ← corner1_at x b i, ← corner2_at x b i, ← corner3_at x b i, ← corner0_at x b j, ← corner1_at x b j,
    ← corner2_at x b j, ← corner3_at x b j, ← zero_bits, ← fst_at (corner0 x) b i j, ← fst_at (corner1 x) b i j, ← fst_at (corner2 x) b i j,
    ← fst_at (corner3 x) b i j, ← snd_at (corner0 x) b i j, ← snd_at (corner1 x) b i j, ← snd_at (corner2 x) b i j, ← snd_at (corner3 x) b i j]
  rfl

/-- The overlap of two candidates, read at their place. -/
theorem overlap_at (j : Fin 1024) : overlap x (ix3 b i j) = iou (fun k => x (ix3 b i k)) (fun k => x (ix3 b j k)) := by
  unfold iou
  rw [← shared_at, ← areas_at x b i, ← areas_at x b j, ← fst_at (areas x) b i j, ← snd_at (areas x) b i j]
  rfl

end Corners

end Cert.ReferenceIdeal.Nms
-- ==== Proof.RefExit.lean ====
module

public import proofs.«01_k».proof.Proof.RefInv
public import proofs.«01_k».proof.Proof.KVal

/-! # What the reference's loop leaves -/

@[expose] public section

set_option maxRecDepth 16384

noncomputable section

namespace Cert.ReferenceIdeal.Nms

open Cert.ReferenceIdeal Cert.ReferenceIdeal.Gen Cert.ReferenceIdeal.Value Cert.Nms
open Idealize.ShloMosaic Idealize.ShloMosaic.TcCoe Idealize.ShloMosaic.StableHlo
open Cert.KernelIdeal.Nms (best cls topV topI toF vals inds starts boxes labs wrap2 wrap2_inds candsOf)

theorem good_at (y : FVec Ideal S4x1024 .f32) (i : S4x1024.Idx) :
    (cmpf .ogt y (broadcastInDim S4x1024 ![] bcast_S_S4x1024 (constant S_ .f32 0x3DCCCCCD#32)) : IVec S4x1024 1) i = 1#1 ↔ Good (y i) := by
  have e : ∀ v w : EReal, Ideal.cmp .ogt v w = 1#1 ↔ w < v := fun v w => by
    unfold Ideal.cmp
    by_cases h : w < v <;> simp [h]
  exact e (y i) _

theorem good_sc (x0 : FVec Ideal S4x20000x4 .f32) (x1 : FVec Ideal S4x20000x8 .f32) (b : Fin 4) (j : Fin 1024) :
   Good ((candsOf x0 x1 b).sc j) = Good (topV (best x1) (ix2 b j)) := by
  unfold candsOf vals
  dsimp only
/-- The score's test is the candidate's. -/
theorem good_cand (x0 : FVec Ideal S4x20000x4 .f32) (x1 : FVec Ideal S4x20000x8 .f32) (b : Fin 4) (j : Fin 1024) :
    (cmpf .ogt (topV (best x1)) (broadcastInDim S4x1024 ![] bcast_S_S4x1024 (constant S_ .f32 0x3DCCCCCD#32)) : IVec S4x1024 1) (ix2 b j) = 1#1
     ↔ Good ((candsOf x0 x1 b).sc j) := by
  rw [good_sc]
  exact good_at _ _

section Entry
variable (L : Valuation τ sig (Elt Ideal))

/-- The contents at the loop's entry, of the contents at launch. -/
abbrev entryOf : Valuation τ sig (Elt Ideal) := after hostOps0_2 (after hostOps0_1 (after hostOps0 L))

theorem top_best : after hostOps0_1 (after hostOps0 L) (Proc.devRef .tc main_v0) = best (L (Proc.devRef .tc main_arg1)) :=
  (keep1_v0 _).trans (at0_0 L)
theorem launch_a0 : after hostOps0_1 (after hostOps0 L) (Proc.devRef .tc main_arg0) = L (Proc.devRef .tc main_arg0) :=
  (keep1_a0 _).trans (keep0_a0 L)
theorem launch_v1 : after hostOps0_1 (after hostOps0 L) (Proc.devRef .tc main_v1) = cls (L (Proc.devRef .tc main_arg1)) :=
  (at0_1 _).trans (congrArg cls (keep0_a1 L))

theorem entry_vals : entryOf L (Proc.devRef .tc main_values) = vals (L (Proc.devRef .tc main_arg1)) :=
  (at2_vals _).trans (congrArg topV (top_best L))
theorem entry_v8 : entryOf L (Proc.devRef .tc main_v8) = boxes (L (Proc.devRef .tc main_arg0)) (L (Proc.devRef .tc main_arg1)) := by
  refine (at2_v8 _).trans ?_
  rw [launch_a0, top_best]
  rw [show wrap2 (topI (best (L (Proc.devRef .tc main_arg1)))) = topI (best (L (Proc.devRef .tc main_arg1))) from wrap2_inds _]
  rfl
/-- Each candidate's class, as an integer. -/
def ints (x1 : FVec Ideal S4x20000x8 .f32) : IVec S4x1024 32 :=
  Host.gather gather_S4x20000_S4x1024x1_S4x1024_n_1_0_0_1_2_11 (cls x1) (starts x1)
theorem ints_labs (x1 : FVec Ideal S4x20000x8 .f32) : (sitofp (F := Ideal) .f32 (ints x1) : FVec Ideal S4x1024 .f32) = labs x1 := rfl
theorem entry_v15 : entryOf L (Proc.devRef .tc main_v15) = ints (L (Proc.devRef .tc main_arg1)) := by
  refine (at2_v15 _).trans ?_
  rw [launch_v1, top_best]
  rw [show wrap2 (topI (best (L (Proc.devRef .tc main_arg1)))) = topI (best (L (Proc.devRef .tc main_arg1))) from wrap2_inds _]
  rfl

/-- The invariant holds when the loop starts. -/
theorem inv_zero : Inv (candsOf (L (Proc.devRef .tc main_arg0)) (L (Proc.devRef .tc main_arg1))) 0 (entryOf L) := by
  refine ⟨?_, fun b j => ?_, fun b j => ?_, fun b j => ?_, fun b i j => ?_, at2_71_2 _⟩
  · exact (at2_71_4 _).trans rfl
  · unfold entryOf
    rw [at2_71_5]
    exact ⟨fun h => absurd h (show ¬ (0#1 : BitVec 1) = 1#1 by decide), fun h => absurd h.1 (by omega)⟩
  · unfold entryOf
    rw [at2_71_6]
    exact ⟨fun h => absurd h (show ¬ (0#1 : BitVec 1) = 1#1 by decide), fun ⟨i, h, _⟩ => absurd h (by omega)⟩
  · unfold entryOf
    rw [at2_71_0, top_best, Cands.valid_iff]
    exact good_cand (L (Proc.devRef .tc main_arg0)) (L (Proc.devRef .tc main_arg1)) b j
  · unfold entryOf
    rw [at2_71_1, show after hostOps0_2 (after hostOps0_1 (after hostOps0 L)) (Proc.devRef .tc main_v8) = _ from entry_v8 L]
    rw [overlap_at, Cands.over_iff]
    exact Iff.rfl

end Entry

variable (m : (ℓ : Loc nD τ sig) → Buf (Elt Ideal) ℓ) (c : Dev nD)

/-- The candidates of each image. -/
abbrev cands : Fin 4 → Cands := candsOf (m (c, Proc.devRef .tc main_arg0)) (m (c, Proc.devRef .tc main_arg1))

theorem exit_kept (b : Fin 4) (j : Fin 1024) : (exitV m c (Proc.devRef .tc main_v71_5) : IVec S4x1024 1) (ix2 b j) = 1#1 ↔ (cands m c b).Kept j.val := by
  have e : exitV m c (Proc.devRef .tc main_v71_5) = STEP^[1024] (entryContents preI m c) (Proc.devRef .tc main_v71_5) :=
    (cond_keeps _ main_v71_5 (by decide)).trans (atK_agree m c 1024 main_v71_5 (by decide))
  rw [e]
  have h := (inv_iter _ _ (inv_zero fun r => m (c, r)) 1024 le_rfl).dec b j
  refine Iff.trans h ⟨fun h => h.2, fun h => ⟨j.isLt, h⟩⟩

theorem exit_keep (r : Ref sig .tc) (h1 : r ∉ condOps_W) (h2 : r ∉ while0Ops0_W) : exitV m c (Proc.devRef .tc r) = entryContents preI m c (Proc.devRef .tc r) :=
  (after_of_writes_sub condOps _ condOps_writes h1).trans (atK_keep m r h1 h2 c 1024)

theorem exit_vals : exitV m c (Proc.devRef .tc main_values) = vals (m (c, Proc.devRef .tc main_arg1)) :=
  (exit_keep m c main_values (by decide) (by decide)).trans (entry_vals fun r => m (c, r))
theorem exit_v8 : exitV m c (Proc.devRef .tc main_v8) = boxes (m (c, Proc.devRef .tc main_arg0)) (m (c, Proc.devRef .tc main_arg1)) :=
  (exit_keep m c main_v8 (by decide) (by decide)).trans (entry_v8 fun r => m (c, r))
theorem exit_v15 : exitV m c (Proc.devRef .tc main_v15) = ints (m (c, Proc.devRef .tc main_arg1)) :=
  (exit_keep m c main_v15 (by decide) (by decide)).trans (entry_v15 fun r => m (c, r))
theorem exit_v69 : exitV m c (Proc.devRef .tc main_v69) = iotaInDim S1024 32 0 :=
  (exit_keep m c main_v69 (by decide) (by decide)).trans (at2_v69 _)

end Cert.ReferenceIdeal.Nms
-- ==== Proof.RefPost.lean ====
module

public import proofs.«01_k».proof.Proof.RefExit

/-! # What the reference does after its loop -/

@[expose] public section

set_option maxRecDepth 16384

noncomputable section

namespace Cert.ReferenceIdeal.Nms

open Cert.ReferenceIdeal Cert.ReferenceIdeal.Gen Cert.ReferenceIdeal.Value Cert.Nms
open Idealize.ShloMosaic Idealize.ShloMosaic.TcCoe Idealize.ShloMosaic.StableHlo

/-- The sorting key: a kept candidate's position, and 1024 more for one that is not kept. -/
def keys (kp : IVec S4x1024 1) (n : IVec S1024 32) : IVec S4x1024 32 :=
  select kp (broadcastInDim S4x1024 ![1] bcast_S1024_S4x1024_1 n)
    (broadcastInDim S4x1024 ![1] bcast_S1024_S4x1024_1 (addi (broadcastInDim S1024 ![] bcast_S_S1024 (constantI S_ 32 1024#32)) n))
/-- The positions in the order of their keys. -/
def order (key : IVec S4x1024 32) : IVec S4x1024 32 := (Host.sort2 S4x1024 1 comparator_i32_i32_d1 key (iotaInDim S4x1024 32 1)).2
/-- The first 256 of them. -/
def front (o : IVec S4x1024 32) : IVec S4x256 32 := extractStridedSlice S4x256 ![0, 0] o slices_S4x1024_S4x256_0_0
/-- Positions as a column of start indices. -/
def wraps (t : IVec S4x256 32) : IVec S4x256x1 32 :=
  broadcastInDim S4x256x1 ![0, 1] bcast_S4x256_S4x256x1_0_1 (select (cmpi .slt t (broadcastInDim S4x256 ![] bcast_S_S4x256 (constantI S_ 32 0#32)))
    (addi t (broadcastInDim S4x256 ![] bcast_S_S4x256 (constantI S_ 32 1024#32))) t)

/-- The three parts of the result rows, and the rows. -/
def partB (f : IVec S4x256 1) (x : FVec Ideal S4x1024x4 .f32) (s : IVec S4x256x1 32) : FVec Ideal S4x256x4 .f32 :=
  select (broadcastInDim S4x256x4 ![0, 1, 2] bcast_S4x256x1_S4x256x4_0_1_2 (broadcastInDim S4x256x1 ![0, 1] bcast_S4x256_S4x256x1_0_1 f))
    (Host.gather G3 x s) (broadcastInDim S4x256x4 ![] bcast_S_S4x256x4 (constant S_ .f32 0x00000000#32))
def partS (f : IVec S4x256 1) (x : FVec Ideal S4x1024 .f32) (s : IVec S4x256x1 32) : FVec Ideal S4x256 .f32 :=
  select f (Host.gather G2 x s) (broadcastInDim S4x256 ![] bcast_S_S4x256 (constant S_ .f32 0x00000000#32))
def partL (f : IVec S4x256 1) (x : IVec S4x1024 32) (s : IVec S4x256x1 32) : IVec S4x256 32 :=
  select f (Host.gather G2 x s) (broadcastInDim S4x256 ![] bcast_S_S4x256 (constantI S_ 32 0#32))
def join (x : FVec Ideal S4x256x4 .f32) (y : FVec Ideal S4x256 .f32) (z : IVec S4x256 32) : FVec Ideal S4x256x6 .f32 :=
  concatenate S4x256x6 2 [⟨S4x256x4, x⟩, ⟨S4x256x1, broadcastInDim S4x256x1 ![0, 1] bcast_S4x256_S4x256x1_0_1 y⟩,
    ⟨S4x256x1, broadcastInDim S4x256x1 ![0, 1] bcast_S4x256_S4x256x1_0_1 (sitofp (F := Ideal) .f32 z)⟩] concatenates_S4x256x4_S4x256x1_S4x256x1_S4x256x6_d2
/-- How many are kept, at most 256. -/
def count (kp : IVec S4x1024 1) : IVec S4 32 :=
  minsi (Host.reduce IntOp.addi (extui 32 kp natLt_1_32) (constantI S_ 32 0#32) reducesTo_S4x1024_S4_d1 h_S_)
    (broadcastInDim S4 ![] bcast_S_S4 (constantI S_ 32 256#32))

variable (W : Valuation τ sig (Elt Ideal))

theorem p3 : after hostOps0_3 W (Proc.devRef .tc main_v73)
    = addi (broadcastInDim S1024 ![] bcast_S_S1024 (constantI S_ 32 1024#32)) (W (Proc.devRef .tc main_v69)) := by
  after_results
theorem p4 : after hostOps0_4 W (Proc.devRef .tc main_v74) = select (W (Proc.devRef .tc main_v71_5))
    (broadcastInDim S4x1024 ![1] bcast_S1024_S4x1024_1 (W (Proc.devRef .tc main_v69)))
    (broadcastInDim S4x1024 ![1] bcast_S1024_S4x1024_1 (W (Proc.devRef .tc main_v73))) := by
  after_results
  rfl
theorem p5 : after hostOps0_5 W (Proc.devRef .tc main_v75) = order (W (Proc.devRef .tc main_v74)) := by
  after_results
  rfl
theorem p6a : after hostOps0_6 W (Proc.devRef .tc main_v76) = front (W (Proc.devRef .tc main_v75)) := by
  after_results
  rfl
theorem p6b : after hostOps0_6 W (Proc.devRef .tc main_v83) = Host.gather G2 (W (Proc.devRef .tc main_v71_5)) (wraps (front (W (Proc.devRef .tc main_v75)))) := by
  after_results
  rfl
theorem p6c : after hostOps0_6 W (Proc.devRef .tc main_v84) = broadcastInDim S4x256x1 ![0, 1] bcast_S4x256_S4x256x1_0_1
    (Host.gather G2 (W (Proc.devRef .tc main_v71_5)) (wraps (front (W (Proc.devRef .tc main_v75))))) := by
  after_results
  rfl
theorem p6d : after hostOps0_6 W (Proc.devRef .tc main_v91) = Host.gather G3 (W (Proc.devRef .tc main_v8)) (wraps (front (W (Proc.devRef .tc main_v75)))) := by
  after_results
  rfl
theorem p6e : after hostOps0_6 W (Proc.devRef .tc main_cst_17) = constant (F := Ideal) S_ .f32 0x00000000#32 := by
  after_results
theorem p7 : after hostOps0_7 W (Proc.devRef .tc main_v92) = select (broadcastInDim S4x256x4 ![0, 1, 2] bcast_S4x256x1_S4x256x4_0_1_2 (W (Proc.devRef .tc main_v84)))
    (W (Proc.devRef .tc main_v91)) (broadcastInDim S4x256x4 ![] bcast_S_S4x256x4 (W (Proc.devRef .tc main_cst_17))) := by
  after_results
  rfl
theorem p8 : after hostOps0_8 W (Proc.devRef .tc main_v99) = Host.gather G2 (W (Proc.devRef .tc main_values)) (wraps (W (Proc.devRef .tc main_v76))) := by
  after_results
  rfl
theorem p8b : after hostOps0_8 W (Proc.devRef .tc main_cst_20) = constant (F := Ideal) S_ .f32 0x00000000#32 := by
  after_results
theorem p9 : after hostOps0_9 W (Proc.devRef .tc main_v100) = select (W (Proc.devRef .tc main_v83)) (W (Proc.devRef .tc main_v99))
    (broadcastInDim S4x256 ![] bcast_S_S4x256 (W (Proc.devRef .tc main_cst_20))) := by
  after_results
  rfl
theorem p10 : after hostOps0_10 W (Proc.devRef .tc main_v107) = Host.gather G2 (W (Proc.devRef .tc main_v15)) (wraps (W (Proc.devRef .tc main_v76))) := by
  after_results
  rfl
theorem p10b : after hostOps0_10 W (Proc.devRef .tc main_c_23) = constantI S_ 32 0#32 := by
  after_results
theorem p11 : after hostOps0_11 W (Proc.devRef .tc main_v108) = select (W (Proc.devRef .tc main_v83)) (W (Proc.devRef .tc main_v107))
    (broadcastInDim S4x256 ![] bcast_S_S4x256 (W (Proc.devRef .tc main_c_23))) := by
  after_results
  rfl
theorem p12 : after hostOps0_12 W (Proc.devRef .tc main_v112)
    = join (W (Proc.devRef .tc main_v92)) (W (Proc.devRef .tc main_v100)) (W (Proc.devRef .tc main_v108)) := by
  after_results
  rfl
theorem p12b : after hostOps0_12 W (Proc.devRef .tc main_v116) = count (W (Proc.devRef .tc main_v71_5)) := by
  after_results
  rfl

/-! The stretches put together. -/

/-- The contents after the first so many stretches. -/
def X3 : Valuation τ sig (Elt Ideal) := after hostOps0_3 W
def X4 : Valuation τ sig (Elt Ideal) := after hostOps0_4 (X3 W)
def X5 : Valuation τ sig (Elt Ideal) := after hostOps0_5 (X4 W)
def X6 : Valuation τ sig (Elt Ideal) := after hostOps0_6 (X5 W)
def X7 : Valuation τ sig (Elt Ideal) := after hostOps0_7 (X6 W)
def X8 : Valuation τ sig (Elt Ideal) := after hostOps0_8 (X7 W)
def X9 : Valuation τ sig (Elt Ideal) := after hostOps0_9 (X8 W)
def X10 : Valuation τ sig (Elt Ideal) := after hostOps0_10 (X9 W)
def X11 : Valuation τ sig (Elt Ideal) := after hostOps0_11 (X10 W)

section Keep
variable (r : Ref sig .tc)
theorem k3 (h : r ∉ post3_W) : X3 W (Proc.devRef .tc r) = W (Proc.devRef .tc r) := after_of_writes_sub hostOps0_3 _ post3_writes h
theorem k4 (h : r ∉ post4_W) : X4 W (Proc.devRef .tc r) = X3 W (Proc.devRef .tc r) := after_of_writes_sub hostOps0_4 _ post4_writes h
theorem k5 (h : r ∉ post5_W) : X5 W (Proc.devRef .tc r) = X4 W (Proc.devRef .tc r) := after_of_writes_sub hostOps0_5 _ post5_writes h
theorem k6 (h : r ∉ post6_W) : X6 W (Proc.devRef .tc r) = X5 W (Proc.devRef .tc r) := after_of_writes_sub hostOps0_6 _ post6_writes h
theorem k7 (h : r ∉ post7_W) : X7 W (Proc.devRef .tc r) = X6 W (Proc.devRef .tc r) := after_of_writes_sub hostOps0_7 _ post7_writes h
theorem k8 (h : r ∉ post8_W) : X8 W (Proc.devRef .tc r) = X7 W (Proc.devRef .tc r) := after_of_writes_sub hostOps0_8 _ post8_writes h
theorem k9 (h : r ∉ post9_W) : X9 W (Proc.devRef .tc r) = X8 W (Proc.devRef .tc r) := after_of_writes_sub hostOps0_9 _ post9_writes h
theorem k10 (h : r ∉ post10_W) : X10 W (Proc.devRef .tc r) = X9 W (Proc.devRef .tc r) := after_of_writes_sub hostOps0_10 _ post10_writes h
theorem k11 (h : r ∉ post11_W) : X11 W (Proc.devRef .tc r) = X10 W (Proc.devRef .tc r) := after_of_writes_sub hostOps0_11 _ post11_writes h

theorem k35 (h3 : r ∉ post3_W) (h4 : r ∉ post4_W) (h5 : r ∉ post5_W) : X5 W (Proc.devRef .tc r) = W (Proc.devRef .tc r) :=
  (k5 W r h5).trans ((k4 W r h4).trans (k3 W r h3))
theorem k67 (h6 : r ∉ post6_W) (h7 : r ∉ post7_W) : X7 W (Proc.devRef .tc r) = X5 W (Proc.devRef .tc r) := (k7 W r h7).trans (k6 W r h6)
theorem k89 (h8 : r ∉ post8_W) (h9 : r ∉ post9_W) : X9 W (Proc.devRef .tc r) = X7 W (Proc.devRef .tc r) := (k9 W r h9).trans (k8 W r h8)
theorem k1011 (h10 : r ∉ post10_W) (h11 : r ∉ post11_W) : X11 W (Proc.devRef .tc r) = X9 W (Proc.devRef .tc r) := (k11 W r h11).trans (k10 W r h10)
end Keep

/-- The positions read, and whether what is there is kept. -/
def spots : IVec S4x256x1 32 := wraps (front (order (keys (W (Proc.devRef .tc main_v71_5)) (W (Proc.devRef .tc main_v69)))))
def hits : IVec S4x256 1 := Host.gather G2 (W (Proc.devRef .tc main_v71_5) : IVec S4x1024 1) (spots W)

theorem x5_75 : X5 W (Proc.devRef .tc main_v75) = order (keys (W (Proc.devRef .tc main_v71_5)) (W (Proc.devRef .tc main_v69))) := by
  refine (p5 (X4 W)).trans (congrArg order ?_)
  refine (p4 (X3 W)).trans ?_
  rw [k3 W main_v71_5 (by decide), k3 W main_v69 (by decide)]
  rw [show X3 W (Proc.devRef .tc main_v73) = _ from p3 W]
  rfl
theorem x6_76 : X6 W (Proc.devRef .tc main_v76) = front (order (keys (W (Proc.devRef .tc main_v71_5)) (W (Proc.devRef .tc main_v69)))) :=
  (p6a (X5 W)).trans (congrArg front (x5_75 W))
theorem x6_83 : X6 W (Proc.devRef .tc main_v83) = hits W := by
  refine (p6b (X5 W)).trans ?_
  rw [x5_75, k35 W main_v71_5 (by decide) (by decide) (by decide)]
  rfl
theorem x7_92 : X7 W (Proc.devRef .tc main_v92) = partB (hits W) (W (Proc.devRef .tc main_v8)) (spots W) := by
  refine (p7 (X6 W)).trans ?_
  rw [show X6 W (Proc.devRef .tc main_v84) = _ from p6c (X5 W), show X6 W (Proc.devRef .tc main_v91) = _ from p6d (X5 W),
    show X6 W (Proc.devRef .tc main_cst_17) = _ from p6e (X5 W)]
  rw [x5_75, k35 W main_v71_5 (by decide) (by decide) (by decide), k35 W main_v8 (by decide) (by decide) (by decide)]
  rfl
theorem x9_100 : X9 W (Proc.devRef .tc main_v100) = partS (hits W) (W (Proc.devRef .tc main_values)) (spots W) := by
  refine (p9 (X8 W)).trans ?_
  rw [show X8 W (Proc.devRef .tc main_v99) = _ from p8 (X7 W), show X8 W (Proc.devRef .tc main_cst_20) = _ from p8b (X7 W)]
  rw [k8 W main_v83 (by decide), k7 W main_v83 (by decide), x6_83, k7 W main_v76 (by decide), x6_76,
    k67 W main_values (by decide) (by decide), k35 W main_values (by decide) (by decide) (by decide)]
  rfl
theorem x11_108 : X11 W (Proc.devRef .tc main_v108) = partL (hits W) (W (Proc.devRef .tc main_v15)) (spots W) := by
  refine (p11 (X10 W)).trans ?_
  rw [show X10 W (Proc.devRef .tc main_v107) = _ from p10 (X9 W), show X10 W (Proc.devRef .tc main_c_23) = _ from p10b (X9 W)]
  rw [k10 W main_v83 (by decide), k89 W main_v83 (by decide) (by decide), k7 W main_v83 (by decide), x6_83,
    k89 W main_v76 (by decide) (by decide), k7 W main_v76 (by decide), x6_76, k89 W main_v15 (by decide) (by decide),
    k67 W main_v15 (by decide) (by decide), k35 W main_v15 (by decide) (by decide) (by decide)]
  rfl

/-- The result rows. -/
theorem end_rows : afterL postI W (Proc.devRef .tc main_v112) = join (partB (hits W) (W (Proc.devRef .tc main_v8)) (spots W))
    (partS (hits W) (W (Proc.devRef .tc main_values)) (spots W)) (partL (hits W) (W (Proc.devRef .tc main_v15)) (spots W)) := by
  refine (p12 (X11 W)).trans ?_
  rw [k1011 W main_v92 (by decide) (by decide), k89 W main_v92 (by decide) (by decide), x7_92, k1011 W main_v100 (by decide) (by decide), x9_100, x11_108]
/-- The count. -/
theorem end_count : afterL postI W (Proc.devRef .tc main_v116) = count (W (Proc.devRef .tc main_v71_5)) := by
  refine (p12b (X11 W)).trans ?_
  rw [k1011 W main_v71_5 (by decide) (by decide), k89 W main_v71_5 (by decide) (by decide), k67 W main_v71_5 (by decide) (by decide),
    k35 W main_v71_5 (by decide) (by decide) (by decide)]

end Cert.ReferenceIdeal.Nms
-- ==== Proof.Arrange.lean ====
/-
  Putting the kept candidates first, as mathematics: sorting positions by a key that is the position for a kept candidate
  and 1024 more for any other puts a kept candidate at its rank.
-/
module

public import proofs.«01_k».proof.Proof.Greedy

@[expose] public section

noncomputable section

namespace Cert.Nms

open Classical

variable (V : ℕ → Prop) (M : ℕ → ℕ → Prop)

/-- The sorting key of a position. -/
def key (j : Fin 1024) : ℕ := if Kept V M j.val then j.val else 1024 + j.val

theorem key_lt (j : Fin 1024) : key V M j < 2048 := by
  unfold key
  have := j.isLt
  split <;> omega

theorem key_inj : Function.Injective (key V M) := fun i j h => by
  have hi := i.isLt
  have hj := j.isLt
  unfold key at h
  apply Fin.ext
  split at h <;> split at h <;> omega

section Perm
variable (π : Fin 1024 → Fin 1024) (hi : Function.Injective π) (hs : Function.Surjective π)
  (hm : ∀ r r', r < r' → ¬ key V M (π r') < key V M (π r))
include hi hs hm

theorem key_mono (r r' : Fin 1024) : key V M (π r) < key V M (π r') ↔ r < r' := by
  constructor
  · intro h
    rcases lt_trichotomy r r' with h1 | h1 | h1
    · exact h1
    · rw [h1] at h; exact absurd h (lt_irrefl _)
    · exact absurd h (hm _ _ h1)
  · intro h
    refine lt_of_le_of_ne (not_lt.1 (hm _ _ h)) fun e => ?_
    exact h.ne (hi (key_inj V M e))

/-- A position's place is the number of positions with a smaller key. -/
theorem place_eq (r : Fin 1024) : r.val = (Finset.univ.filter fun x : Fin 1024 => key V M x < key V M (π r)).card := by
  have e : (Finset.univ.filter fun x : Fin 1024 => key V M x < key V M (π r)) = (Finset.univ.filter fun x : Fin 1024 => x < r).image π := by
    ext x
    simp only [Finset.mem_filter, Finset.mem_univ, true_and, Finset.mem_image]
    constructor
    · intro h
      obtain ⟨y, rfl⟩ := hs x
      exact ⟨y, (key_mono V M π hi hs hm y r).1 h, rfl⟩
    · rintro ⟨y, h, rfl⟩
      exact (key_mono V M π hi hs hm y r).2 h
  rw [e, Finset.card_image_of_injective _ hi]
  have e2 : (Finset.univ.filter fun x : Fin 1024 => x < r) = Finset.Iio r := by ext x; simp
  rw [e2, Fin.card_Iio]

theorem rank_of_kept (r : Fin 1024) (h : Kept V M (π r).val) : rank V M (π r).val = r.val := by
  rw [place_eq V M π hi hs hm r]
  unfold rank
  refine (Finset.card_bij (fun x _ => x.val) (fun x hx => ?_) (fun x _ y _ e => Fin.ext e) fun y hy => ?_).symm
  · rw [Finset.mem_filter] at hx
    have hx := hx.2
    have hx' := (π r).isLt
    unfold key at hx
    rw [if_pos h] at hx
    rw [mem_keptSet]
    split at hx
    · exact ⟨hx, by assumption⟩
    · omega
  · rw [mem_keptSet] at hy
    have h' := (π r).isLt
    refine ⟨⟨y, by omega⟩, Finset.mem_filter.2 ⟨Finset.mem_univ _, ?_⟩, rfl⟩
    unfold key
    rw [if_pos h, if_pos hy.2]
    exact hy.1

theorem rank_le_of_not (r : Fin 1024) (h : ¬ Kept V M (π r).val) : rank V M 1024 ≤ r.val := by
  rw [place_eq V M π hi hs hm r]
  unfold rank
  have hsub : keptSet V M 1024 ⊆ (Finset.univ.filter fun x : Fin 1024 => key V M x < key V M (π r)).image Fin.val := fun y hy => by
    rw [mem_keptSet] at hy
    refine Finset.mem_image.2 ⟨⟨y, hy.1⟩, Finset.mem_filter.2 ⟨Finset.mem_univ _, ?_⟩, rfl⟩
    unfold key
    rw [if_neg h, if_pos hy.2]
    show y < 1024 + _
    omega
  exact (Finset.card_le_card hsub).trans Finset.card_image_le

/-- So the candidate at place `r` is the one of rank `r`, if it is kept, and there is none of that rank if it is not. -/
theorem rowIs_arranged (r : Fin 1024) (row : ℕ → EReal) (v : EReal) (h1 : Kept V M (π r).val → v = row (π r).val)
    (h2 : ¬ Kept V M (π r).val → v = 0) : RowIs V M 1024 r.val row v := by
  by_cases h : Kept V M (π r).val
  · have hr := rank_of_kept V M π hi hs hm r h
    refine ⟨fun i _ hk e => ?_, fun h' => absurd hr (h' _ (π r).isLt h)⟩
    rw [kept_unique V M hk h (e.trans hr.symm)]
    exact h1 h
  · refine ⟨fun i hi' hk e => ?_, fun _ => h2 h⟩
    have h3 := rank_le_of_not V M π hi hs hm r h
    have h4 := rank_lt_of_kept V M hk hi'
    omega

end Perm

/-- The rank past the last position is the number of kept positions. -/
theorem rank_eq_card : rank V M 1024 = (Finset.univ.filter fun x : Fin 1024 => Kept V M x.val).card := by
  unfold rank
  refine (Finset.card_bij (fun x _ => x.val) (fun x hx => ?_) (fun x _ y _ e => Fin.ext e) fun y hy => ?_).symm
  · exact (mem_keptSet V M _ _).2 ⟨x.isLt, (Finset.mem_filter.1 hx).2⟩
  · rw [mem_keptSet] at hy
    exact ⟨⟨y, hy.1⟩, Finset.mem_filter.2 ⟨Finset.mem_univ _, hy.2⟩, rfl⟩

end Cert.Nms
-- ==== Proof.RefOrder.lean ====
module

public import proofs.«01_k».proof.Proof.RefPost
public import proofs.«01_k».proof.Proof.Arrange
public import Idealize.ShloMosaic.Lib.SortFacts
public import Idealize.ShloMosaic.Lib.StableHlo.Predicate

/-! # The reference's results, read at an index -/

@[expose] public section

set_option maxRecDepth 16384

noncomputable section

namespace Cert.ReferenceIdeal.Nms

open Cert.ReferenceIdeal Cert.ReferenceIdeal.Gen Cert.ReferenceIdeal.Value Cert.Nms
open Idealize.ShloMosaic Idealize.ShloMosaic.TcCoe Idealize.ShloMosaic.StableHlo

/-- The smaller of two small words. -/
theorem min_word (a c : ℕ) (ha : a < 2 ^ 31) (hc : c < 2 ^ 31) : IntOp.minsi (BitVec.ofNat 32 a) (BitVec.ofNat 32 c) = BitVec.ofNat 32 (min a c) := by
  have h1 : (BitVec.ofNat 32 a).toInt = (a : ℤ) := WordCmp.toInt_ofNat_of_lt (by omega)
  have h2 : (BitVec.ofNat 32 c).toInt = (c : ℤ) := WordCmp.toInt_ofNat_of_lt (by omega)
  unfold IntOp.minsi
  split
  · rename_i h
    simp only [BitVec.slt, h1, h2, decide_eq_true_eq] at h
    rw [min_eq_left (by omega)]
  · rename_i h
    simp only [BitVec.slt, h1, h2, decide_eq_true_eq] at h
    rw [min_eq_right (by omega)]

/-- The positions sorted by a key, whatever the key. -/
theorem order_eq (x : IVec S4x1024 32) (b : Fin 4) (r : Fin 1024) (B : Fin 1024 → Fin 1024 → Bool)
    (hB : ∀ k k', (IntOp.cmpi .slt (x (ix2 b k)) (x (ix2 b k')) == 1#1) = B k k') : order x (ix2 b r) = BitVec.ofNat 32 (sortedFrom B r).val := by
  have ea : ∀ k : Fin 1024, (Shape.Idx.along (ix2 b r : S4x1024.Idx) 1 k) = ix2 b k := fun k => by
    funext a
    fin_cases a
    · rfl
    · rfl
  have eb : (fun k k' : Fin 1024 => comparator_i32_i32_d1
      (x (Shape.Idx.along (ix2 b r : S4x1024.Idx) 1 k), iotaInDim S4x1024 32 1 (Shape.Idx.along (ix2 b r : S4x1024.Idx) 1 k))
      (x (Shape.Idx.along (ix2 b r : S4x1024.Idx) 1 k'), iotaInDim S4x1024 32 1 (Shape.Idx.along (ix2 b r : S4x1024.Idx) 1 k')) == 1#1) = B := by
    funext k k'
    rw [ea, ea]
    exact hB k k'
  have ec : ∀ k : Fin 1024, iotaInDim S4x1024 32 1 (Shape.Idx.along (ix2 b r : S4x1024.Idx) 1 k) = BitVec.ofNat 32 k.val := fun k => by
    rw [ea]
    rfl
  unfold order Host.sort2
  rw [dif_pos (by decide)]
  dsimp only
  refine (ec _).trans ?_
  rw [← eb]
  rfl

/-- An output row's place among the candidates. -/
abbrev up (r : Fin 256) : Fin 1024 := ⟨r.val, by omega⟩
/-- Where the output rows are read. -/
abbrev readAt (kp : IVec S4x1024 1) : IVec S4x256x1 32 := wraps (front (order (keys kp (iotaInDim S1024 32 0))))

section Order
variable (V : ℕ → Prop) (M : ℕ → ℕ → Prop)

/-- The candidate at place `r` when they are sorted by key. -/
def placed (r : Fin 1024) : Fin 1024 := sortedFrom (fun k k' => @decide (key V M k < key V M k') (Nat.decLt _ _)) r

theorem placed_inj : Function.Injective (placed V M) := sortedFrom_injective _
theorem placed_surj : Function.Surjective (placed V M) := sortedFrom_surjective _
theorem placed_mono (r r' : Fin 1024) (h : r < r') : ¬ key V M (placed V M r') < key V M (placed V M r) := by
  have hb := sortedFrom_noInversion (fun k k' => @decide (key V M k < key V M k') (Nat.decLt _ _)) (fun k k' => @decide (key V M k < key V M k') (Nat.decLt _ _))
    (fun a b hab => by simp at hab ⊢; omega) (fun a b h => h) (fun a b c h1 h2 => by simp at h1 h2 ⊢; omega) r r' h
  exact of_decide_eq_false hb

variable (kp : IVec S4x1024 1) (b : Fin 4) (hk : ∀ j : Fin 1024, kp (ix2 b j) = 1#1 ↔ Kept V M j.val)
include hk

theorem keys_at (j : Fin 1024) : keys kp (iotaInDim S1024 32 0) (ix2 b j) = BitVec.ofNat 32 (key V M j) := by
  show (if kp (ix2 b j) = 1#1 then BitVec.ofNat 32 j.val else 1024#32 + BitVec.ofNat 32 j.val) = _
  unfold key
  by_cases h : Kept V M j.val
  · rw [if_pos h, if_pos ((hk j).2 h)]
  · rw [if_neg h, if_neg fun e => h ((hk j).1 e), BitVec.ofNat_add]

theorem order_at (r : Fin 1024) : order (keys kp (iotaInDim S1024 32 0)) (ix2 b r) = BitVec.ofNat 32 (placed V M r).val := by
  refine order_eq _ b r _ fun k k' => ?_
  rw [keys_at V M kp b hk, keys_at V M kp b hk]
  have h1 := key_lt V M k
  have h2 := key_lt V M k'
  have h : IntOp.cmpi .slt (BitVec.ofNat 32 (key V M k)) (BitVec.ofNat 32 (key V M k')) = _ := WordCmp.cmpi_slt_ofNat (by omega) (by omega)
  rw [h]
  by_cases h3 : key V M k < key V M k' <;> simp [h3]

theorem spot_at (r : Fin 256) : clamp (readAt kp (ix3 b r 0)) = placed V M (up r) := by
  have h := order_at V M kp b hk (up r)
  have hp := (placed V M (up r)).isLt
  have e : front (order (keys kp (iotaInDim S1024 32 0))) (ix2 b r) = BitVec.ofNat 32 (placed V M (up r)).val := by
    rw [← h]
    generalize order (keys kp (iotaInDim S1024 32 0)) = o
    unfold front
    pointwise
  have e2 : ∀ t : IVec S4x256 32, wraps t (ix3 b r 0) = Scalar.select (IntOp.cmpi .slt (t (ix2 b r)) 0#32) (IntOp.addi (t (ix2 b r)) 1024#32) (t (ix2 b r)) := fun t => by
    unfold wraps
    pointwise
  have h0 : IntOp.cmpi .slt (BitVec.ofNat 32 (placed V M (up r)).val) (BitVec.ofNat 32 0) = _ := WordCmp.cmpi_slt_ofNat (by omega) (by omega)
  unfold readAt
  rw [e2, e]
  rw [show IntOp.cmpi .slt (BitVec.ofNat 32 (placed V M (up r)).val) 0#32 = 0#1 from h0.trans (by simp)]
  apply Fin.ext
  show min (BitVec.ofNat 32 (placed V M (up r)).val).toInt.toNat 1023 = _
  rw [toInt_word _ hp]
  omega

/-- The count. -/
theorem count_at : count kp (ix1 b) = BitVec.ofNat 32 (min (rank V M 1024) 256) := by
  have h := StableHlo.Predicate.toNat_reduce_count_cols (n := 4) (m := 1024) (by omega) kp natLt_1_32 reducesTo_S4x1024_S4_d1 h_S_ (ix1 b)
  have ec : (Finset.univ.filter fun q : Fin 1024 => kp (StableHlo.Predicate.ij ((ix1 b : S4.Idx) 0) q) = 1#1).card = rank V M 1024 := by
    classical
    rw [rank_eq_card]
    refine congrArg Finset.card (Finset.filter_congr fun q _ => ?_)
    rw [← hk q]
    have e : (StableHlo.Predicate.ij ((ix1 b : S4.Idx) 0) q : S4x1024.Idx) = ix2 b q := by
      funext a
      fin_cases a
      · rfl
      · rfl
    rw [show kp (StableHlo.Predicate.ij ((ix1 b : S4.Idx) 0) q) = kp (ix2 b q) from congrArg kp e]
  have hr := rank_le V M 1024
  have hx : Host.reduce IntOp.addi (extui 32 kp natLt_1_32) (constantI S_ 32 0#32) reducesTo_S4x1024_S4_d1 h_S_ (ix1 b)
      = BitVec.ofNat 32 (rank V M 1024) := by
    apply BitVec.eq_of_toNat_eq
    rw [BitVec.toNat_ofNat, Nat.mod_eq_of_lt (by omega)]
    exact h.trans ec
  show IntOp.minsi (Host.reduce IntOp.addi (extui 32 kp natLt_1_32) (constantI S_ 32 0#32) reducesTo_S4x1024_S4_d1 h_S_ (ix1 b)) (BitVec.ofNat 32 256) = _
  rw [hx]
  exact min_word _ _ (by omega) (by omega)

/-! The parts of a result row. -/

variable (r : Fin 256)

theorem hit_at : (Host.gather G2 kp (readAt kp) : IVec S4x256 1) (ix2 b r) = kp (ix2 b (placed V M (up r))) := by
  rw [take2, spot_at V M kp b hk]
theorem box_at (x : FVec Ideal S4x1024x4 .f32) (f : IVec S4x256 1) (k : Fin 4) :
    partB f x (readAt kp) (ix3 b r k) = if f (ix2 b r) = 1#1 then x (ix3 b (placed V M (up r)) k) else 0 := by
  have e : partB f x (readAt kp) (ix3 b r k)
      = Scalar.select (f (ix2 b r)) (Host.gather G3 x (readAt kp) (ix3 b r k)) (Ideal.ofBits .f32 0x00000000#32) := by
    unfold partB
    pointwise
  rw [e, take3, spot_at V M kp b hk, zero_bits]
  rfl
theorem sc_at (x : FVec Ideal S4x1024 .f32) (f : IVec S4x256 1) :
    partS f x (readAt kp) (ix2 b r) = if f (ix2 b r) = 1#1 then x (ix2 b (placed V M (up r))) else 0 := by
  show Scalar.select (f (ix2 b r)) (Host.gather G2 x (readAt kp) (ix2 b r)) (Ideal.ofBits .f32 0x00000000#32) = _
  rw [take2, spot_at V M kp b hk, zero_bits]
  rfl
theorem lab_at (x : IVec S4x1024 32) (f : IVec S4x256 1) :
    partL f x (readAt kp) (ix2 b r) = if f (ix2 b r) = 1#1 then x (ix2 b (placed V M (up r))) else 0#32 := by
  show Scalar.select (f (ix2 b r)) (Host.gather G2 x (readAt kp) (ix2 b r)) 0#32 = _
  rw [take2, spot_at V M kp b hk]
  rfl

end Order

theorem join_box (x : FVec Ideal S4x256x4 .f32) (y : FVec Ideal S4x256 .f32) (z : IVec S4x256 32) (b : Fin 4) (r : Fin 256) (k : Fin 4) :
    join x y z (ix3 b r ⟨k.val, by omega⟩) = x (ix3 b r k) := by
  unfold join
  fin_cases k <;> pointwise
theorem join_sc (x : FVec Ideal S4x256x4 .f32) (y : FVec Ideal S4x256 .f32) (z : IVec S4x256 32) (b : Fin 4) (r : Fin 256) :
    join x y z (ix3 b r 4) = y (ix2 b r) := by
  unfold join
  pointwise
theorem join_lab (x : FVec Ideal S4x256x4 .f32) (y : FVec Ideal S4x256 .f32) (z : IVec S4x256 32) (b : Fin 4) (r : Fin 256) :
    join x y z (ix3 b r 5) = (sitofp (F := Ideal) .f32 z : FVec Ideal S4x256 .f32) (ix2 b r) := by
  unfold join
  pointwise

end Cert.ReferenceIdeal.Nms
-- ==== Proof.RefResult.lean ====
module

public import proofs.«01_k».proof.Proof.RefOrder

/-! # The reference's two results -/

@[expose] public section

set_option maxRecDepth 16384

noncomputable section

namespace Cert.ReferenceIdeal.Nms

open Cert.ReferenceIdeal Cert.ReferenceIdeal.Gen Cert.ReferenceIdeal.Value Cert.Nms
open Idealize.ShloMosaic Idealize.ShloMosaic.TcCoe Idealize.ShloMosaic.StableHlo
open Cert.KernelIdeal.Nms (vals boxes labs candsOf)

/-- A word as a number. -/
theorem num_at (z : IVec S4x256 32) (j : S4x256.Idx) : (sitofp (F := Ideal) .f32 z : FVec Ideal S4x256 .f32) j = (((z j).toInt : ℝ) : EReal) := rfl
theorem num_at' (z : IVec S4x1024 32) (j : S4x1024.Idx) : (sitofp (F := Ideal) .f32 z : FVec Ideal S4x1024 .f32) j = (((z j).toInt : ℝ) : EReal) := rfl

theorem row_box (D : Cands) (j : Fin 1024) (k : Fin 6) (h : k.val < 4) : D.row k j.val = D.box j ⟨k.val, h⟩ := by
  unfold Cands.row
  rw [dif_pos j.isLt, dif_pos h]
theorem row_sc (D : Cands) (j : Fin 1024) : D.row 4 j.val = D.sc j := by
  unfold Cands.row
  rw [dif_pos j.isLt, dif_neg (by decide), if_pos (by decide)]
theorem row_lab (D : Cands) (j : Fin 1024) : D.row 5 j.val = D.lab j := by
  unfold Cands.row
  rw [dif_pos j.isLt, dif_neg (by decide), if_neg (by decide)]

/-- A row whose parts are a candidate's when a bit is set, and zero otherwise. -/
theorem row_glue (D : Cands) (p : Fin 1024) (hit : BitVec 1) (J : Fin 6 → EReal)
    (hb : ∀ k : Fin 4, J ⟨k.val, by omega⟩ = if hit = 1#1 then D.box p k else 0)
    (hs : J 4 = if hit = 1#1 then D.sc p else 0) (hl : J 5 = if hit = 1#1 then D.lab p else 0) (k : Fin 6) :
    J k = if hit = 1#1 then D.row k p.val else 0 := by
  by_cases h4 : k.val < 4
  · rw [row_box D p k h4]
    exact hb ⟨k.val, h4⟩
  · have hk6 := k.isLt
    by_cases h5 : k.val = 4
    · obtain rfl : k = 4 := Fin.ext h5
      rw [row_sc]
      exact hs
    · obtain rfl : k = 5 := Fin.ext (by show k.val = 5; omega)
      rw [row_lab]
      exact hl

/-- The numbers of a label that is read when a bit is set. -/
theorem num_ite (hit : BitVec 1) (w : BitVec 32) : (((if hit = 1#1 then w else 0#32).toInt : ℝ) : EReal) = if hit = 1#1 then ((w.toInt : ℝ) : EReal) else 0 := by
  split
  · rfl
  · simp

section Row

variable (D : Cands) (kp : IVec S4x1024 1) (b : Fin 4) (hk : ∀ j : Fin 1024, kp (ix2 b j) = 1#1 ↔ D.Kept j.val)
    (x8 : FVec Ideal S4x1024x4 .f32) (xv : FVec Ideal S4x1024 .f32) (xl : IVec S4x1024 32)
    (h8 : ∀ (j : Fin 1024) (k : Fin 4), x8 (ix3 b j k) = D.box j k) (hv : ∀ j : Fin 1024, xv (ix2 b j) = D.sc j)
    (hl : ∀ j : Fin 1024, (((xl (ix2 b j)).toInt : ℝ) : EReal) = D.lab j) (r : Fin 256)

/-- One row of the result. -/
def outRow : Fin 6 → EReal := fun k => join (partB (Host.gather G2 kp (readAt kp)) x8 (readAt kp))
      (partS (Host.gather G2 kp (readAt kp)) xv (readAt kp)) (partL (Host.gather G2 kp (readAt kp)) xl (readAt kp)) (ix3 b r k)

include hk h8 in
theorem outRow_box (k : Fin 4) : outRow kp b x8 xv xl r ⟨k.val, by omega⟩
    = if kp (ix2 b (placed D.Valid D.Over (up r))) = 1#1 then D.box (placed D.Valid D.Over (up r)) k else 0 := by
  refine (join_box _ _ _ b r k).trans ((box_at D.Valid D.Over kp b hk r x8 _ k).trans ?_)
  rw [hit_at D.Valid D.Over kp b hk r, h8]

include hk hv in
theorem outRow_sc : outRow kp b x8 xv xl r 4
    = if kp (ix2 b (placed D.Valid D.Over (up r))) = 1#1 then D.sc (placed D.Valid D.Over (up r)) else 0 := by
  refine (join_sc _ _ _ b r).trans ((sc_at D.Valid D.Over kp b hk r xv _).trans ?_)
  rw [hit_at D.Valid D.Over kp b hk r, hv]

include hk hl in
theorem outRow_lab : outRow kp b x8 xv xl r 5
    = if kp (ix2 b (placed D.Valid D.Over (up r))) = 1#1 then D.lab (placed D.Valid D.Over (up r)) else 0 := by
  refine (join_lab _ _ _ b r).trans ((num_at _ _).trans ?_)
  rw [lab_at D.Valid D.Over kp b hk r xl _, hit_at D.Valid D.Over kp b hk r, num_ite, hl]

include hk h8 hv hl in
/-- The rows read at sorted positions are the kept candidates by rank. -/
theorem rows_result (k : Fin 6) : RowIs D.Valid D.Over 1024 r.val (D.row k) (outRow kp b x8 xv xl r k) := by
  have e := row_glue D (placed D.Valid D.Over (up r)) (kp (ix2 b (placed D.Valid D.Over (up r)))) (outRow kp b x8 xv xl r)
    (outRow_box D kp b hk x8 xv xl h8 r) (outRow_sc D kp b hk x8 xv xl hv r) (outRow_lab D kp b hk x8 xv xl hl r) k
  have hkp := hk (placed D.Valid D.Over (up r))
  generalize outRow kp b x8 xv xl r k = v at e ⊢
  generalize kp (ix2 b (placed D.Valid D.Over (up r))) = hit at e hkp
  refine rowIs_arranged D.Valid D.Over (placed D.Valid D.Over) (placed_inj D.Valid D.Over) (placed_surj D.Valid D.Over)
    (placed_mono D.Valid D.Over) (up r) (D.row k) v (fun h => ?_) fun h => ?_
  · rw [e, if_pos (hkp.2 h)]
  · rw [e, if_neg fun e' => h (hkp.1 e')]

end Row

variable (m : (ℓ : Loc nD τ sig) → Buf (Elt Ideal) ℓ) (c : Dev nD)

theorem box_of (b : Fin 4) (j : Fin 1024) (k : Fin 4) :
    boxes (m (c, Proc.devRef .tc main_arg0)) (m (c, Proc.devRef .tc main_arg1)) (ix3 b j k) = (cands m c b).box j k := by
  unfold cands candsOf
  dsimp only
theorem sc_of (b : Fin 4) (j : Fin 1024) : vals (m (c, Proc.devRef .tc main_arg1)) (ix2 b j) = (cands m c b).sc j := by
  unfold cands candsOf
  dsimp only
theorem lab_of (b : Fin 4) (j : Fin 1024) :
    (((ints (m (c, Proc.devRef .tc main_arg1)) (ix2 b j)).toInt : ℝ) : EReal) = (cands m c b).lab j := by
  unfold cands candsOf
  dsimp only
  rw [← ints_labs]
  exact (num_at' _ _).symm

theorem spots_eq : spots (exitV m c) = readAt (exitV m c (Proc.devRef .tc main_v71_5)) := by
  unfold spots
  rw [exit_v69]

/-- Every entry of the result rows. -/
theorem ref_rows (b : Fin 4) (r : Fin 256) (k : Fin 6) : RowIs (cands m c b).Valid (cands m c b).Over 1024 r.val ((cands m c b).row k)
    ((endV m c (Proc.devRef .tc main_v112) : FVec Ideal S4x256x6 .f32) (ix3 b r k)) := by
  have e := end_rows (exitV m c)
  unfold hits at e
  rw [spots_eq, exit_vals, exit_v8, exit_v15] at e
  unfold endV
  rw [e]
  exact rows_result (cands m c b) _ b (exit_kept m c b) _ _ _ (box_of m c b) (sc_of m c b) (lab_of m c b) r k

/-- The counts. -/
theorem ref_count (b : Fin 4) : (endV m c (Proc.devRef .tc main_v116) : IVec S4 32) (ix1 b) = BitVec.ofNat 32 (min ((cands m c b).rank 1024) 256) := by
  unfold endV
  rw [end_count]
  exact count_at (cands m c b).Valid (cands m c b).Over _ b (exit_kept m c b)

end Cert.ReferenceIdeal.Nms
-- ==== Proof.Agree.lean ====
module

public import proofs.«01_k».proof.Defs
public import proofs.«01_k».proof.Proof.KResult
public import proofs.«01_k».proof.Proof.RefResult

/-! # The kernel and the reference agree -/

@[expose] public section

set_option maxRecDepth 16384

noncomputable section

namespace Cert.Agree

open Cert.Nms
open Idealize.ShloMosaic Idealize.ShloMosaic.TcCoe

/-- Two arrays of result rows, each the kept candidates by rank, are the same. -/
theorem rows_same (D : Fin 4 → Cands) (x y : FVec Ideal ⟨3, ![4, 256, 6]⟩ .f32)
    (hx : ∀ (b : Fin 4) (r : Fin 256) (k : Fin 6), RowIs (D b).Valid (D b).Over 1024 r.val ((D b).row k) (x (ix3 b r k)))
    (hy : ∀ (b : Fin 4) (r : Fin 256) (k : Fin 6), RowIs (D b).Valid (D b).Over 1024 r.val ((D b).row k) (y (ix3 b r k))) : x = y := by
  funext i
  have e : i = ix3 (i 0) (i 1) (i 2) := by
    funext a
    fin_cases a <;> rfl
  rw [e]
  exact rowIs_unique _ _ (hx (i 0) (i 1) (i 2)) (hy (i 0) (i 1) (i 2))

/-- The same of the counts. -/
theorem counts_same (D : Fin 4 → Cands) (x y : IVec ⟨1, ![4]⟩ 32) (hx : ∀ b : Fin 4, x (ix1 b) = BitVec.ofNat 32 (min ((D b).rank 1024) 256))
    (hy : ∀ b : Fin 4, y (ix1 b) = BitVec.ofNat 32 (min ((D b).rank 1024) 256)) : x = y := by
  funext i
  have e : i = ix1 (i 0) := by
    funext a
    fin_cases a; rfl
  rw [e]
  exact (hx (i 0)).trans (hy (i 0)).symm

/-- Equal arguments give equal candidates. -/
theorem cands_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Nms.cands m' c = fun b => Cert.KernelIdeal.Nms.cands m c b :=
  congrArg₂ Cert.KernelIdeal.Nms.candsOf h0 h1

/-- From memories agreeing on the arguments, both programs end with the same two results. -/
theorem agree : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Nms.res0 m c, fun c => Cert.KernelIdeal.Nms.res1 m c, Cert.KernelIdeal.Nms.run m g,
    (θ_run _ _ _).mono (fun r h c => ⟨(h c).1.trans ?_, (h c).2.1.trans ?_, (h c).2.2.1, (h c).2.2.2⟩) (Cert.ReferenceIdeal.Nms.run m' g')⟩
  · have e := cands_same m m' c (hagree c).1 (hagree c).2
    exact (rows_same (fun b => Cert.KernelIdeal.Nms.cands m c b) _ _ (Cert.KernelIdeal.Nms.res0_at m c)
      (fun b r k => by rw [← congrFun e b]; exact Cert.ReferenceIdeal.Nms.ref_rows m' c b r k)).symm
  · have e := cands_same m m' c (hagree c).1 (hagree c).2
    exact (counts_same (fun b => Cert.KernelIdeal.Nms.cands m c b) _ _ (Cert.KernelIdeal.Nms.res1_at m c)
      (fun b => by rw [← congrFun e b]; exact Cert.ReferenceIdeal.Nms.ref_count m' c b)).symm

end Cert.Agree

end
-- ==== Proof.lean ====
/-
  The certificate: each claim from its module.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.BitsRan
public import proofs.«01_k».proof.Proof.Ran
public import proofs.«01_k».proof.Proof.RefRan
public import proofs.«01_k».proof.Proof.Agree

@[expose] public section

noncomputable section

namespace Cert.Proof

/-- Every claim of the certificate. -/
theorem claim : Cert.Claim := ⟨Cert.Kernel.Gen.facts, Cert.KernelIdeal.Gen.facts, Cert.ReferenceIdeal.Gen.facts,
  fun m ρ _ => Cert.Kernel.Nms.frame m ρ, fun m ρ _ => Cert.KernelIdeal.Nms.frame m ρ,
  fun m ρ _ => Cert.ReferenceIdeal.Nms.frame m ρ, trivial, Cert.Agree.agree⟩

end Cert.Proof

end
